-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1071) = v0 c
          ∧ r.2.mem ((c.tc : Thread Cert.ReferenceIdeal.nD Cert.ReferenceIdeal.τ).loc Cert.ReferenceIdeal.main_v1315) = v1 c
          ∧ r.2.mem ((c.tc : Thread Cert.ReferenceIdeal.nD Cert.ReferenceIdeal.τ).loc Cert.ReferenceIdeal.main_v1353) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16384x3x32x32 : Shape := ⟨4, ![16384, 3, 32, 32]⟩
abbrev S16x128 : Shape := ⟨2, ![16, 128]⟩
abbrev S4x128 : Shape := ⟨2, ![4, 128]⟩
abbrev S31x128 : Shape := ⟨2, ![31, 128]⟩
abbrev S128 : Shape := ⟨1, ![128]⟩
abbrev S4 : Shape := ⟨1, ![4]⟩
abbrev S_ : Shape := ⟨0, ![]⟩

class Facts : Prop where
  bcast_S_S16x128 : S_.BroadcastsInDim S16x128 (![] : Fin 0 → Fin S16x128.rank)
  bcast_S_S31x128 : S_.BroadcastsInDim S31x128 (![] : Fin 0 → Fin S31x128.rank)

variable [Facts]

def fn {F : FTy → Type} [FloatOps F] (main_arg0 : FVec F S16384x3x32x32 .f32) (main_arg1 : FVec F S16x128 .f32) (main_arg2 : FVec F S4x128 .f32) (main_arg3 : FVec F S31x128 .f32) (main_arg4 : FVec F S128 .f32) (main_arg5 : IVec S4 32) : IVec S16x128 1 × IVec S31x128 1 :=
  let main_v0 : FVec F S16x128 .f32 := Host.absf main_arg1
  let main_cst : FVec F S_ .f32 := constant S_ .f32 0x7F800000#32
  let main_v1 : FVec F S16x128 .f32 := broadcastInDim S16x128 ![] bcast_S_S16x128 main_cst
  let main_v2 : IVec S16x128 1 := cmpf .olt main_v0 main_v1
  let main_v3 : FVec F S31x128 .f32 := Host.absf main_arg3
  let main_cst_0 : FVec F S_ .f32 := constant S_ .f32 0x7F800000#32
  let main_v4 : FVec F S31x128 .f32 := broadcastInDim S31x128 ![] bcast_S_S31x128 main_cst_0
  let main_v5 : IVec S31x128 1 := cmpf .olt main_v3 main_v4
  (main_v2, main_v5)
-- ==== Kernel.lean ====
abbrev S16384x3x32x32 : Shape := ⟨4, ![16384, 3, 32, 32]⟩
abbrev S16x128 : Shape := ⟨2, ![16, 128]⟩
abbrev S4x128 : Shape := ⟨2, ![4, 128]⟩
abbrev S31x128 : Shape := ⟨2, ![31, 128]⟩
abbrev S128 : Shape := ⟨1, ![128]⟩
abbrev S4 : Shape := ⟨1, ![4]⟩
abbrev S128x1 : Shape := ⟨2, ![128, 1]⟩
abbrev S4x1 : Shape := ⟨2, ![4, 1]⟩
abbrev S16384x3 : Shape := ⟨2, ![16384, 3]⟩
abbrev S16384x1 : Shape := ⟨2, ![16384, 1]⟩
abbrev S8192x3 : Shape := ⟨2, ![8192, 3]⟩
abbrev S8192x1 : Shape := ⟨2, ![8192, 1]⟩
abbrev S1x8192 : Shape := ⟨2, ![1, 8192]⟩
abbrev S1 : Shape := ⟨1, ![1]⟩
abbrev S1x1 : Shape := ⟨2, ![1, 1]⟩
abbrev S4x8192 : Shape := ⟨2, ![4, 8192]⟩
abbrev S8192 : Shape := ⟨1, ![8192]⟩
abbrev S3x8192 : Shape := ⟨2, ![3, 8192]⟩
abbrev S31x16 : Shape := ⟨2, ![31, 16]⟩
abbrev S16 : Shape := ⟨1, ![16]⟩
abbrev S1x16 : Shape := ⟨2, ![1, 16]⟩
abbrev S32x16 : Shape := ⟨2, ![32, 16]⟩
abbrev S31x8192 : Shape := ⟨2, ![31, 8192]⟩
abbrev S32x1 : Shape := ⟨2, ![32, 1]⟩
abbrev S32x8192 : Shape := ⟨2, ![32, 8192]⟩

abbrev nBuf : Space → Nat
  | .hbm => 11
  | .vmem => 11
  | .smem => 0
  | _ => 0

abbrev bufTy : (tb : Table) → Fin (tcTables nBuf tb) → BufTy
  | .hbm, ⟨0, _⟩ => ⟨S16384x3x32x32, .f32⟩
  | .hbm, ⟨1, _⟩ => ⟨S16x128, .f32⟩
  | .hbm, ⟨2, _⟩ => ⟨S4x128, .f32⟩
  | .hbm, ⟨3, _⟩ => ⟨S31x128, .f32⟩
  | .hbm, ⟨4, _⟩ => ⟨S128, .f32⟩
  | .hbm, ⟨5, _⟩ => ⟨S4, .i32⟩
  | .hbm, ⟨6, _⟩ => ⟨S128x1, .f32⟩
  | .hbm, ⟨7, _⟩ => ⟨S4x1, .i32⟩
  | .hbm, ⟨8, _⟩ => ⟨S16384x3, .i32⟩
  | .hbm, ⟨9, _⟩ => ⟨S16384x3, .i32⟩
  | .hbm, ⟨10, _⟩ => ⟨S16384x1, .f32⟩
  | .local _ .vmem, ⟨0, _⟩ => ⟨S16x128, .f32⟩
  | .local _ .vmem, ⟨1, _⟩ => ⟨S4x128, .f32⟩
  | .local _ .vmem, ⟨2, _⟩ => ⟨S31x128, .f32⟩
  | .local _ .vmem, ⟨3, _⟩ => ⟨S128x1, .f32⟩
  | .local _ .vmem, ⟨4, _⟩ => ⟨S4x1, .i32⟩
  | .local _ .vmem, ⟨5, _⟩ => ⟨S8192x3, .i32⟩
  | .local _ .vmem, ⟨6, _⟩ => ⟨S8192x3, .i32⟩
  | .local _ .vmem, ⟨7, _⟩ => ⟨S8192x3, .i32⟩
  | .local _ .vmem, ⟨8, _⟩ => ⟨S8192x3, .i32⟩
  | .local _ .vmem, ⟨9, _⟩ => ⟨S8192x1, .f32⟩
  | .local _ .vmem, ⟨10, _⟩ => ⟨S8192x1, .f32⟩
  | _, _ => ⟨S16384x3x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S31x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8192x3 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8192x3 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8192x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S16384x3x32x32 : Shape := ⟨4, ![16384, 3, 32, 32]⟩
abbrev S16x128 : Shape := ⟨2, ![16, 128]⟩
abbrev S4x128 : Shape := ⟨2, ![4, 128]⟩
abbrev S31x128 : Shape := ⟨2, ![31, 128]⟩
abbrev S128 : Shape := ⟨1, ![128]⟩
abbrev S4 : Shape := ⟨1, ![4]⟩
abbrev S_ : Shape := ⟨0, ![]⟩
abbrev S1 : Shape := ⟨1, ![1]⟩
abbrev S2 : Shape := ⟨1, ![2]⟩
abbrev S3 : Shape := ⟨1, ![3]⟩
abbrev S3x1 : Shape := ⟨2, ![3, 1]⟩
abbrev S3x2 : Shape := ⟨2, ![3, 2]⟩
abbrev S1x2 : Shape := ⟨2, ![1, 2]⟩
abbrev S1x128 : Shape := ⟨2, ![1, 128]⟩
abbrev S16384x128 : Shape := ⟨2, ![16384, 128]⟩
abbrev S128x4 : Shape := ⟨2, ![128, 4]⟩
abbrev S16384x4 : Shape := ⟨2, ![16384, 4]⟩
abbrev S16384 : Shape := ⟨1, ![16384]⟩
abbrev S16384x1 : Shape := ⟨2, ![16384, 1]⟩
abbrev S1x1 : Shape := ⟨2, ![1, 1]⟩
abbrev S2x1 : Shape := ⟨2, ![2, 1]⟩
abbrev S2x2 : Shape := ⟨2, ![2, 2]⟩
abbrev S16384x3 : Shape := ⟨2, ![16384, 3]⟩
abbrev S1x3 : Shape := ⟨2, ![1, 3]⟩
abbrev S16384x3x1 : Shape := ⟨3, ![16384, 3, 1]⟩
abbrev S1x1x1 : Shape := ⟨3, ![1, 1, 1]⟩
abbrev S16384x3x128 : Shape := ⟨3, ![16384, 3, 128]⟩
abbrev S128x31 : Shape := ⟨2, ![128, 31]⟩
abbrev S16384x3x31 : Shape := ⟨3, ![16384, 3, 31]⟩
abbrev S49152x31 : Shape := ⟨2, ![49152, 31]⟩
abbrev S49152x1 : Shape := ⟨2, ![49152, 1]⟩
abbrev S49152 : Shape := ⟨1, ![49152]⟩
abbrev S49152x2 : Shape := ⟨2, ![49152, 2]⟩
abbrev S16384x2 : Shape := ⟨2, ![16384, 2]⟩

abbrev nBuf : Space → Nat
  | .hbm => 1712
  | .vmem => 0
  | .smem => 0
  | _ => 0

abbrev hbmTy0_0 (i : Nat) : BufTy := match i % 128 with
  | 0 => ⟨S16384x3x32x32, .f32⟩
  | 1 => ⟨S16x128, .f32⟩
  | 2 => ⟨S4x128, .f32⟩
  | 3 => ⟨S31x128, .f32⟩
  | 4 => ⟨S128, .f32⟩
  | 5 => ⟨S4, .i32⟩
  | 6 => ⟨S_, .i32⟩
  | 7 => ⟨S_, .i32⟩
  | 8 => ⟨S_, .i32⟩
  | 9 => ⟨S_, .i32⟩
  | 10 => ⟨S1, .i32⟩
  | 11 => ⟨S_, .i32⟩
  | 12 => ⟨S_, .i32⟩
  | 13 => ⟨S_, .i32⟩
  | 14 => ⟨S1, .i32⟩
  | 15 => ⟨S2, .i32⟩
  | 16 => ⟨S1, .i32⟩
  | 17 => ⟨S_, .i32⟩
  | 18 => ⟨S1, .i32⟩
  | 19 => ⟨S_, .i32⟩
  | 20 => ⟨S3, .i64⟩
  | 21 => ⟨S_, .i64⟩
  | 22 => ⟨S3, .i64⟩
  | 23 => ⟨S3, .i64⟩
  | 24 => ⟨S_, .i64⟩
  | 25 => ⟨S3, .i64⟩
  | 26 => ⟨S3, .i64⟩
  | 27 => ⟨S3, .i32⟩
  | 28 => ⟨S3, .i32⟩
  | 29 => ⟨S_, .i32⟩
  | 30 => ⟨S_, .i32⟩
  | 31 => ⟨S_, .i32⟩
  | 32 => ⟨S3, .i32⟩
  | 33 => ⟨S3, .i32⟩
  | 34 => ⟨S3, .i32⟩
  | 35 => ⟨S3, .i32⟩
  | 36 => ⟨S3, .i32⟩
  | 37 => ⟨S_, .i32⟩
  | 38 => ⟨S3, .i32⟩
  | 39 => ⟨S3, .i32⟩
  | 40 => ⟨S_, .i32⟩
  | 41 => ⟨S3, .i32⟩
  | 42 => ⟨S3, .i32⟩
  | 43 => ⟨S3, .i32⟩
  | 44 => ⟨S3, .i32⟩
  | 45 => ⟨S3, .i32⟩
  | 46 => ⟨S_, .i32⟩
  | 47 => ⟨S3, .i32⟩
  | 48 => ⟨S3, .i32⟩
  | 49 => ⟨S_, .i32⟩
  | 50 => ⟨S3, .i32⟩
  | 51 => ⟨S3, .i32⟩
  | 52 => ⟨S3, .i32⟩
  | 53 => ⟨S3, .i32⟩
  | 54 => ⟨S3, .i32⟩
  | 55 => ⟨S_, .i32⟩
  | 56 => ⟨S3, .i32⟩
  | 57 => ⟨S3, .i32⟩
  | 58 => ⟨S_, .i32⟩
  | 59 => ⟨S3, .i32⟩
  | 60 => ⟨S3, .i32⟩
  | 61 => ⟨S3, .i32⟩
  | 62 => ⟨S3, .i32⟩
  | 63 => ⟨S3, .i32⟩
  | 64 => ⟨S_, .i32⟩
  | 65 => ⟨S3, .i32⟩
  | 66 => ⟨S3, .i32⟩
  | 67 => ⟨S_, .i32⟩
  | 68 => ⟨S3, .i32⟩
  | 69 => ⟨S3, .i32⟩
  | 70 => ⟨S3, .i32⟩
  | 71 => ⟨S3, .i32⟩
  | 72 => ⟨S3, .i32⟩
  | 73 => ⟨S3, .i32⟩
  | 74 => ⟨S3, .i32⟩
  | 75 => ⟨S3, .i32⟩
  | 76 => ⟨S_, .i32⟩
  | 77 => ⟨S3, .i32⟩
  | 78 => ⟨S3, .i32⟩
  | 79 => ⟨S3, .i32⟩
  | 80 => ⟨S_, .i32⟩
  | 81 => ⟨S3, .i32⟩
  | 82 => ⟨S3, .i32⟩
  | 83 => ⟨S_, .i32⟩
  | 84 => ⟨S3, .i32⟩
  | 85 => ⟨S3, .i32⟩
  | 86 => ⟨S3, .i32⟩
  | 87 => ⟨S3, .i32⟩
  | 88 => ⟨S3, .i32⟩
  | 89 => ⟨S_, .i32⟩
  | 90 => ⟨S3, .i32⟩
  | 91 => ⟨S3, .i32⟩
  | 92 => ⟨S_, .i32⟩
  | 93 => ⟨S3, .i32⟩
  | 94 => ⟨S3, .i32⟩
  | 95 => ⟨S3, .i32⟩
  | 96 => ⟨S3, .i32⟩
  | 97 => ⟨S3, .i32⟩
  | 98 => ⟨S_, .i32⟩
  | 99 => ⟨S3, .i32⟩
  | 100 => ⟨S3, .i32⟩
  | 101 => ⟨S_, .i32⟩
  | 102 => ⟨S3, .i32⟩
  | 103 => ⟨S3, .i32⟩
  | 104 => ⟨S3, .i32⟩
  | 105 => ⟨S3, .i32⟩
  | 106 => ⟨S3, .i32⟩
  | 107 => ⟨S_, .i32⟩
  | 108 => ⟨S3, .i32⟩
  | 109 => ⟨S3, .i32⟩
  | 110 => ⟨S_, .i32⟩
  | 111 => ⟨S3, .i32⟩
  | 112 => ⟨S3, .i32⟩
  | 113 => ⟨S3, .i32⟩
  | 114 => ⟨S3, .i32⟩
  | 115 => ⟨S3, .i32⟩
  | 116 => ⟨S3, .i32⟩
  | 117 => ⟨S3, .i32⟩
  | 118 => ⟨S3, .i32⟩
  | 119 => ⟨S_, .i32⟩
  | 120 => ⟨S3, .i32⟩
  | 121 => ⟨S3, .i32⟩
  | 122 => ⟨S3, .i32⟩
  | 123 => ⟨S_, .i32⟩
  | 124 => ⟨S3, .i32⟩
  | 125 => ⟨S3, .i32⟩
  | 126 => ⟨S_, .i32⟩
  | 127 => ⟨S3, .i32⟩
  | _ => ⟨S16384x3x32x32, .f32⟩

abbrev hbmTy0_1 (i : Nat) : BufTy := match i % 128 with
  | 0 => ⟨S3, .i32⟩
  | 1 => ⟨S3, .i32⟩
  | 2 => ⟨S3, .i32⟩
  | 3 => ⟨S3, .i32⟩
  | 4 => ⟨S_, .i32⟩
  | 5 => ⟨S3, .i32⟩
  | 6 => ⟨S3, .i32⟩
  | 7 => ⟨S_, .i32⟩
  | 8 => ⟨S3, .i32⟩
  | 9 => ⟨S3, .i32⟩
  | 10 => ⟨S3, .i32⟩
  | 11 => ⟨S3, .i32⟩
  | 12 => ⟨S3, .i32⟩
  | 13 => ⟨S_, .i32⟩
  | 14 => ⟨S3, .i32⟩
  | 15 => ⟨S3, .i32⟩
  | 16 => ⟨S_, .i32⟩
  | 17 => ⟨S3, .i32⟩
  | 18 => ⟨S3, .i32⟩
  | 19 => ⟨S3, .i32⟩
  | 20 => ⟨S3, .i32⟩
  | 21 => ⟨S3, .i32⟩
  | 22 => ⟨S_, .i32⟩
  | 23 => ⟨S3, .i32⟩
  | 24 => ⟨S3, .i32⟩
  | 25 => ⟨S_, .i32⟩
  | 26 => ⟨S3, .i32⟩
  | 27 => ⟨S3, .i32⟩
  | 28 => ⟨S3, .i32⟩
  | 29 => ⟨S3, .i32⟩
  | 30 => ⟨S3, .i32⟩
  | 31 => ⟨S3, .i32⟩
  | 32 => ⟨S3, .i32⟩
  | 33 => ⟨S3, .i32⟩
  | 34 => ⟨S_, .i32⟩
  | 35 => ⟨S3, .i32⟩
  | 36 => ⟨S3, .i32⟩
  | 37 => ⟨S3, .i32⟩
  | 38 => ⟨S_, .i32⟩
  | 39 => ⟨S3, .i32⟩
  | 40 => ⟨S3, .i32⟩
  | 41 => ⟨S_, .i32⟩
  | 42 => ⟨S3, .i32⟩
  | 43 => ⟨S3, .i32⟩
  | 44 => ⟨S3, .i32⟩
  | 45 => ⟨S3, .i32⟩
  | 46 => ⟨S3, .i32⟩
  | 47 => ⟨S_, .i32⟩
  | 48 => ⟨S3, .i32⟩
  | 49 => ⟨S3, .i32⟩
  | 50 => ⟨S_, .i32⟩
  | 51 => ⟨S3, .i32⟩
  | 52 => ⟨S3, .i32⟩
  | 53 => ⟨S3, .i32⟩
  | 54 => ⟨S3, .i32⟩
  | 55 => ⟨S3, .i32⟩
  | 56 => ⟨S_, .i32⟩
  | 57 => ⟨S3, .i32⟩
  | 58 => ⟨S3, .i32⟩
  | 59 => ⟨S_, .i32⟩
  | 60 => ⟨S3, .i32⟩
  | 61 => ⟨S3, .i32⟩
  | 62 => ⟨S3, .i32⟩
  | 63 => ⟨S3, .i32⟩
  | 64 => ⟨S3, .i32⟩
  | 65 => ⟨S_, .i32⟩
  | 66 => ⟨S3, .i32⟩
  | 67 => ⟨S3, .i32⟩
  | 68 => ⟨S_, .i32⟩
  | 69 => ⟨S3, .i32⟩
  | 70 => ⟨S3, .i32⟩
  | 71 => ⟨S3, .i32⟩
  | 72 => ⟨S3, .i32⟩
  | 73 => ⟨S3, .i32⟩
  | 74 => ⟨S3, .i32⟩
  | 75 => ⟨S3, .i32⟩
  | 76 => ⟨S3, .i32⟩
  | 77 => ⟨S_, .i32⟩
  | 78 => ⟨S3, .i32⟩
  | 79 => ⟨S3, .i32⟩
  | 80 => ⟨S3, .i32⟩
  | 81 => ⟨S_, .i32⟩
  | 82 => ⟨S3, .i32⟩
  | 83 => ⟨S3, .i32⟩
  | 84 => ⟨S_, .i32⟩
  | 85 => ⟨S3, .i32⟩
  | 86 => ⟨S3, .i32⟩
  | 87 => ⟨S3, .i32⟩
  | 88 => ⟨S3, .i32⟩
  | 89 => ⟨S3, .i32⟩
  | 90 => ⟨S_, .i32⟩
  | 91 => ⟨S3, .i32⟩
  | 92 => ⟨S3, .i32⟩
  | 93 => ⟨S_, .i32⟩
  | 94 => ⟨S3, .i32⟩
  | 95 => ⟨S3, .i32⟩
  | 96 => ⟨S3, .i32⟩
  | 97 => ⟨S3, .i32⟩
  | 98 => ⟨S3, .i32⟩
  | 99 => ⟨S_, .i32⟩
  | 100 => ⟨S3, .i32⟩
  | 101 => ⟨S3, .i32⟩
  | 102 => ⟨S_, .i32⟩
  | 103 => ⟨S3, .i32⟩
  | 104 => ⟨S3, .i32⟩
  | 105 => ⟨S3, .i32⟩
  | 106 => ⟨S3, .i32⟩
  | 107 => ⟨S3, .i32⟩
  | 108 => ⟨S_, .i32⟩
  | 109 => ⟨S3, .i32⟩
  | 110 => ⟨S3, .i32⟩
  | 111 => ⟨S_, .i32⟩
  | 112 => ⟨S3, .i32⟩
  | 113 => ⟨S3, .i32⟩
  | 114 => ⟨S3, .i32⟩
  | 115 => ⟨S3, .i32⟩
  | 116 => ⟨S3, .i32⟩
  | 117 => ⟨S3, .i32⟩
  | 118 => ⟨S3, .i32⟩
  | 119 => ⟨S3, .i32⟩
  | 120 => ⟨S_, .i32⟩
  | 121 => ⟨S3, .i32⟩
  | 122 => ⟨S3, .i32⟩
  | 123 => ⟨S3x1, .i32⟩
  | 124 => ⟨S3x1, .i32⟩
  | 125 => ⟨S3x2, .i32⟩
  | 126 => ⟨S1x2, .i32⟩
  | 127 => ⟨S2, .i32⟩
  | _ => ⟨S16384x3x32x32, .f32⟩

abbrev hbmTy0_2 (i : Nat) : BufTy := match i % 128 with
  | 0 => ⟨S1x2, .i32⟩
  | 1 => ⟨S2, .i32⟩
  | 2 => ⟨S1x2, .i32⟩
  | 3 => ⟨S2, .i32⟩
  | 4 => ⟨S1x128, .f32⟩
  | 5 => ⟨S16384x128, .f32⟩
  | 6 => ⟨S128x4, .f32⟩
  | 7 => ⟨S16384x4, .f32⟩
  | 8 => ⟨S_, .f32⟩
  | 9 => ⟨S16384, .f32⟩
  | 10 => ⟨S_, .f32⟩
  | 11 => ⟨S16384, .f32⟩
  | 12 => ⟨S16384, .f32⟩
  | 13 => ⟨S16384x1, .f32⟩
  | 14 => ⟨S16384x4, .f32⟩
  | 15 => ⟨S16384x4, .f32⟩
  | 16 => ⟨S16384x4, .f32⟩
  | 17 => ⟨S_, .f32⟩
  | 18 => ⟨S16384, .f32⟩
  | 19 => ⟨S16384x1, .f32⟩
  | 20 => ⟨S16384x4, .f32⟩
  | 21 => ⟨S16384x4, .f32⟩
  | 22 => ⟨S_, .f32⟩
  | 23 => ⟨S16384, .f32⟩
  | 24 => ⟨S_, .f32⟩
  | 25 => ⟨S16384, .f32⟩
  | 26 => ⟨S16384, .f32⟩
  | 27 => ⟨S16384x1, .f32⟩
  | 28 => ⟨S16384x4, .f32⟩
  | 29 => ⟨S16384x4, .f32⟩
  | 30 => ⟨S16384x4, .f32⟩
  | 31 => ⟨S_, .f32⟩
  | 32 => ⟨S16384, .f32⟩
  | 33 => ⟨S16384x1, .f32⟩
  | 34 => ⟨S16384x1, .f32⟩
  | 35 => ⟨S16384x4, .f32⟩
  | 36 => ⟨S16384x4, .f32⟩
  | 37 => ⟨S1, .i32⟩
  | 38 => ⟨S_, .i32⟩
  | 39 => ⟨S1, .i32⟩
  | 40 => ⟨S_, .i32⟩
  | 41 => ⟨S16384x4, .i64⟩
  | 42 => ⟨S16384x4, .i64⟩
  | 43 => ⟨S_, .i64⟩
  | 44 => ⟨S16384x4, .i64⟩
  | 45 => ⟨S16384x4, .i64⟩
  | 46 => ⟨S_, .i64⟩
  | 47 => ⟨S16384x4, .i64⟩
  | 48 => ⟨S16384x4, .i64⟩
  | 49 => ⟨S16384x4, .i64⟩
  | 50 => ⟨S_, .i64⟩
  | 51 => ⟨S16384x4, .i64⟩
  | 52 => ⟨S16384x4, .i64⟩
  | 53 => ⟨S16384x4, .i32⟩
  | 54 => ⟨S16384x4, .i32⟩
  | 55 => ⟨S_, .i32⟩
  | 56 => ⟨S_, .i32⟩
  | 57 => ⟨S_, .i32⟩
  | 58 => ⟨S16384x4, .i32⟩
  | 59 => ⟨S16384x4, .i32⟩
  | 60 => ⟨S16384x4, .i32⟩
  | 61 => ⟨S16384x4, .i32⟩
  | 62 => ⟨S16384x4, .i32⟩
  | 63 => ⟨S_, .i32⟩
  | 64 => ⟨S16384x4, .i32⟩
  | 65 => ⟨S16384x4, .i32⟩
  | 66 => ⟨S_, .i32⟩
  | 67 => ⟨S16384x4, .i32⟩
  | 68 => ⟨S16384x4, .i32⟩
  | 69 => ⟨S16384x4, .i32⟩
  | 70 => ⟨S16384x4, .i32⟩
  | 71 => ⟨S16384x4, .i32⟩
  | 72 => ⟨S_, .i32⟩
  | 73 => ⟨S16384x4, .i32⟩
  | 74 => ⟨S16384x4, .i32⟩
  | 75 => ⟨S_, .i32⟩
  | 76 => ⟨S16384x4, .i32⟩
  | 77 => ⟨S16384x4, .i32⟩
  | 78 => ⟨S16384x4, .i32⟩
  | 79 => ⟨S16384x4, .i32⟩
  | 80 => ⟨S16384x4, .i32⟩
  | 81 => ⟨S_, .i32⟩
  | 82 => ⟨S16384x4, .i32⟩
  | 83 => ⟨S16384x4, .i32⟩
  | 84 => ⟨S_, .i32⟩
  | 85 => ⟨S16384x4, .i32⟩
  | 86 => ⟨S16384x4, .i32⟩
  | 87 => ⟨S16384x4, .i32⟩
  | 88 => ⟨S16384x4, .i32⟩
  | 89 => ⟨S16384x4, .i32⟩
  | 90 => ⟨S_, .i32⟩
  | 91 => ⟨S16384x4, .i32⟩
  | 92 => ⟨S16384x4, .i32⟩
  | 93 => ⟨S_, .i32⟩
  | 94 => ⟨S16384x4, .i32⟩
  | 95 => ⟨S16384x4, .i32⟩
  | 96 => ⟨S16384x4, .i32⟩
  | 97 => ⟨S16384x4, .i32⟩
  | 98 => ⟨S16384x4, .i32⟩
  | 99 => ⟨S16384x4, .i32⟩
  | 100 => ⟨S16384x4, .i32⟩
  | 101 => ⟨S16384x4, .i32⟩
  | 102 => ⟨S_, .i32⟩
  | 103 => ⟨S16384x4, .i32⟩
  | 104 => ⟨S16384x4, .i32⟩
  | 105 => ⟨S16384x4, .i32⟩
  | 106 => ⟨S_, .i32⟩
  | 107 => ⟨S16384x4, .i32⟩
  | 108 => ⟨S16384x4, .i32⟩
  | 109 => ⟨S_, .i32⟩
  | 110 => ⟨S16384x4, .i32⟩
  | 111 => ⟨S16384x4, .i32⟩
  | 112 => ⟨S16384x4, .i32⟩
  | 113 => ⟨S16384x4, .i32⟩
  | 114 => ⟨S16384x4, .i32⟩
  | 115 => ⟨S_, .i32⟩
  | 116 => ⟨S16384x4, .i32⟩
  | 117 => ⟨S16384x4, .i32⟩
  | 118 => ⟨S_, .i32⟩
  | 119 => ⟨S16384x4, .i32⟩
  | 120 => ⟨S16384x4, .i32⟩
  | 121 => ⟨S16384x4, .i32⟩
  | 122 => ⟨S16384x4, .i32⟩
  | 123 => ⟨S16384x4, .i32⟩
  | 124 => ⟨S_, .i32⟩
  | 125 => ⟨S16384x4, .i32⟩
  | 126 => ⟨S16384x4, .i32⟩
  | 127 => ⟨S_, .i32⟩
  | _ => ⟨S16384x3x32x32, .f32⟩

abbrev hbmTy0_3 (i : Nat) : BufTy := match i % 128 with
  | 0 => ⟨S16384x4, .i32⟩
  | 1 => ⟨S16384x4, .i32⟩
  | 2 => ⟨S16384x4, .i32⟩
  | 3 => ⟨S16384x4, .i32⟩
  | 4 => ⟨S16384x4, .i32⟩
  | 5 => ⟨S_, .i32⟩
  | 6 => ⟨S16384x4, .i32⟩
  | 7 => ⟨S16384x4, .i32⟩
  | 8 => ⟨S_, .i32⟩
  | 9 => ⟨S16384x4, .i32⟩
  | 10 => ⟨S16384x4, .i32⟩
  | 11 => ⟨S16384x4, .i32⟩
  | 12 => ⟨S16384x4, .i32⟩
  | 13 => ⟨S16384x4, .i32⟩
  | 14 => ⟨S16384x4, .i32⟩
  | 15 => ⟨S16384x4, .i32⟩
  | 16 => ⟨S16384x4, .i32⟩
  | 17 => ⟨S_, .i32⟩
  | 18 => ⟨S16384x4, .i32⟩
  | 19 => ⟨S16384x4, .i32⟩
  | 20 => ⟨S16384x4, .i32⟩
  | 21 => ⟨S_, .i32⟩
  | 22 => ⟨S16384x4, .i32⟩
  | 23 => ⟨S16384x4, .i32⟩
  | 24 => ⟨S_, .i32⟩
  | 25 => ⟨S16384x4, .i32⟩
  | 26 => ⟨S16384x4, .i32⟩
  | 27 => ⟨S16384x4, .i32⟩
  | 28 => ⟨S16384x4, .i32⟩
  | 29 => ⟨S16384x4, .i32⟩
  | 30 => ⟨S_, .i32⟩
  | 31 => ⟨S16384x4, .i32⟩
  | 32 => ⟨S16384x4, .i32⟩
  | 33 => ⟨S_, .i32⟩
  | 34 => ⟨S16384x4, .i32⟩
  | 35 => ⟨S16384x4, .i32⟩
  | 36 => ⟨S16384x4, .i32⟩
  | 37 => ⟨S16384x4, .i32⟩
  | 38 => ⟨S16384x4, .i32⟩
  | 39 => ⟨S_, .i32⟩
  | 40 => ⟨S16384x4, .i32⟩
  | 41 => ⟨S16384x4, .i32⟩
  | 42 => ⟨S_, .i32⟩
  | 43 => ⟨S16384x4, .i32⟩
  | 44 => ⟨S16384x4, .i32⟩
  | 45 => ⟨S16384x4, .i32⟩
  | 46 => ⟨S16384x4, .i32⟩
  | 47 => ⟨S16384x4, .i32⟩
  | 48 => ⟨S_, .i32⟩
  | 49 => ⟨S16384x4, .i32⟩
  | 50 => ⟨S16384x4, .i32⟩
  | 51 => ⟨S_, .i32⟩
  | 52 => ⟨S16384x4, .i32⟩
  | 53 => ⟨S16384x4, .i32⟩
  | 54 => ⟨S16384x4, .i32⟩
  | 55 => ⟨S16384x4, .i32⟩
  | 56 => ⟨S16384x4, .i32⟩
  | 57 => ⟨S16384x4, .i32⟩
  | 58 => ⟨S16384x4, .i32⟩
  | 59 => ⟨S16384x4, .i32⟩
  | 60 => ⟨S_, .i32⟩
  | 61 => ⟨S16384x4, .i32⟩
  | 62 => ⟨S16384x4, .i32⟩
  | 63 => ⟨S16384x4, .i32⟩
  | 64 => ⟨S_, .i32⟩
  | 65 => ⟨S16384x4, .i32⟩
  | 66 => ⟨S16384x4, .i32⟩
  | 67 => ⟨S_, .i32⟩
  | 68 => ⟨S16384x4, .i32⟩
  | 69 => ⟨S16384x4, .i32⟩
  | 70 => ⟨S16384x4, .i32⟩
  | 71 => ⟨S16384x4, .i32⟩
  | 72 => ⟨S16384x4, .i32⟩
  | 73 => ⟨S_, .i32⟩
  | 74 => ⟨S16384x4, .i32⟩
  | 75 => ⟨S16384x4, .i32⟩
  | 76 => ⟨S_, .i32⟩
  | 77 => ⟨S16384x4, .i32⟩
  | 78 => ⟨S16384x4, .i32⟩
  | 79 => ⟨S16384x4, .i32⟩
  | 80 => ⟨S16384x4, .i32⟩
  | 81 => ⟨S16384x4, .i32⟩
  | 82 => ⟨S_, .i32⟩
  | 83 => ⟨S16384x4, .i32⟩
  | 84 => ⟨S16384x4, .i32⟩
  | 85 => ⟨S_, .i32⟩
  | 86 => ⟨S16384x4, .i32⟩
  | 87 => ⟨S16384x4, .i32⟩
  | 88 => ⟨S16384x4, .i32⟩
  | 89 => ⟨S16384x4, .i32⟩
  | 90 => ⟨S16384x4, .i32⟩
  | 91 => ⟨S_, .i32⟩
  | 92 => ⟨S16384x4, .i32⟩
  | 93 => ⟨S16384x4, .i32⟩
  | 94 => ⟨S_, .i32⟩
  | 95 => ⟨S16384x4, .i32⟩
  | 96 => ⟨S16384x4, .i32⟩
  | 97 => ⟨S16384x4, .i32⟩
  | 98 => ⟨S16384x4, .i32⟩
  | 99 => ⟨S16384x4, .i32⟩
  | 100 => ⟨S16384x4, .i32⟩
  | 101 => ⟨S16384x4, .i32⟩
  | 102 => ⟨S16384x4, .i32⟩
  | 103 => ⟨S_, .i32⟩
  | 104 => ⟨S16384x4, .i32⟩
  | 105 => ⟨S16384x4, .i32⟩
  | 106 => ⟨S16384x4, .i32⟩
  | 107 => ⟨S_, .i32⟩
  | 108 => ⟨S16384x4, .i32⟩
  | 109 => ⟨S16384x4, .i32⟩
  | 110 => ⟨S_, .i32⟩
  | 111 => ⟨S16384x4, .i32⟩
  | 112 => ⟨S16384x4, .i32⟩
  | 113 => ⟨S16384x4, .i32⟩
  | 114 => ⟨S16384x4, .i32⟩
  | 115 => ⟨S16384x4, .i32⟩
  | 116 => ⟨S_, .i32⟩
  | 117 => ⟨S16384x4, .i32⟩
  | 118 => ⟨S16384x4, .i32⟩
  | 119 => ⟨S_, .i32⟩
  | 120 => ⟨S16384x4, .i32⟩
  | 121 => ⟨S16384x4, .i32⟩
  | 122 => ⟨S16384x4, .i32⟩
  | 123 => ⟨S16384x4, .i32⟩
  | 124 => ⟨S16384x4, .i32⟩
  | 125 => ⟨S_, .i32⟩
  | 126 => ⟨S16384x4, .i32⟩
  | 127 => ⟨S16384x4, .i32⟩
  | _ => ⟨S16384x3x32x32, .f32⟩

abbrev hbmTy0_4 (i : Nat) : BufTy := match i % 128 with
  | 0 => ⟨S_, .i32⟩
  | 1 => ⟨S16384x4, .i32⟩
  | 2 => ⟨S16384x4, .i32⟩
  | 3 => ⟨S16384x4, .i32⟩
  | 4 => ⟨S16384x4, .i32⟩
  | 5 => ⟨S16384x4, .i32⟩
  | 6 => ⟨S_, .i32⟩
  | 7 => ⟨S16384x4, .i32⟩
  | 8 => ⟨S16384x4, .i32⟩
  | 9 => ⟨S_, .i32⟩
  | 10 => ⟨S16384x4, .i32⟩
  | 11 => ⟨S16384x4, .i32⟩
  | 12 => ⟨S16384x4, .i32⟩
  | 13 => ⟨S16384x4, .i32⟩
  | 14 => ⟨S16384x4, .i32⟩
  | 15 => ⟨S16384x4, .i32⟩
  | 16 => ⟨S16384x4, .i32⟩
  | 17 => ⟨S16384x4, .i32⟩
  | 18 => ⟨S_, .i32⟩
  | 19 => ⟨S16384x4, .i32⟩
  | 20 => ⟨S16384x4, .i32⟩
  | 21 => ⟨S16384x4, .i32⟩
  | 22 => ⟨S_, .i32⟩
  | 23 => ⟨S16384x4, .i32⟩
  | 24 => ⟨S16384x4, .i32⟩
  | 25 => ⟨S_, .i32⟩
  | 26 => ⟨S16384x4, .i32⟩
  | 27 => ⟨S16384x4, .i32⟩
  | 28 => ⟨S16384x4, .f32⟩
  | 29 => ⟨S_, .f32⟩
  | 30 => ⟨S16384x4, .f32⟩
  | 31 => ⟨S16384x4, .f32⟩
  | 32 => ⟨S_, .f32⟩
  | 33 => ⟨S16384x4, .f32⟩
  | 34 => ⟨S16384x4, .f32⟩
  | 35 => ⟨S_, .f32⟩
  | 36 => ⟨S16384x4, .f32⟩
  | 37 => ⟨S16384x4, .f32⟩
  | 38 => ⟨S_, .f32⟩
  | 39 => ⟨S16384x4, .f32⟩
  | 40 => ⟨S16384x4, .f32⟩
  | 41 => ⟨S16384x4, .f32⟩
  | 42 => ⟨S16384x4, .f32⟩
  | 43 => ⟨S16384x4, .f32⟩
  | 44 => ⟨S16384x4, .f32⟩
  | 45 => ⟨S16384x4, .f32⟩
  | 46 => ⟨S16384x1, .f32⟩
  | 47 => ⟨S16384x1, .i32⟩
  | 48 => ⟨S16384, .i32⟩
  | 49 => ⟨S_, .i32⟩
  | 50 => ⟨S16384, .i32⟩
  | 51 => ⟨S16384, .i1⟩
  | 52 => ⟨S_, .i32⟩
  | 53 => ⟨S16384, .i32⟩
  | 54 => ⟨S16384, .i32⟩
  | 55 => ⟨S16384, .i32⟩
  | 56 => ⟨S16384x1, .i32⟩
  | 57 => ⟨S16384, .i32⟩
  | 58 => ⟨S_, .i32⟩
  | 59 => ⟨S_, .i32⟩
  | 60 => ⟨S_, .i32⟩
  | 61 => ⟨S_, .i32⟩
  | 62 => ⟨S_, .i32⟩
  | 63 => ⟨S_, .i32⟩
  | 64 => ⟨S_, .i1⟩
  | 65 => ⟨S_, .i32⟩
  | 66 => ⟨S_, .i32⟩
  | 67 => ⟨S_, .i32⟩
  | 68 => ⟨S_, .i32⟩
  | 69 => ⟨S_, .i32⟩
  | 70 => ⟨S_, .i32⟩
  | 71 => ⟨S_, .i32⟩
  | 72 => ⟨S_, .i32⟩
  | 73 => ⟨S_, .i32⟩
  | 74 => ⟨S_, .i32⟩
  | 75 => ⟨S_, .i32⟩
  | 76 => ⟨S_, .i32⟩
  | 77 => ⟨S1x1, .i32⟩
  | 78 => ⟨S1x1, .i32⟩
  | 79 => ⟨S1, .i32⟩
  | 80 => ⟨S_, .i32⟩
  | 81 => ⟨S1, .i32⟩
  | 82 => ⟨S_, .i32⟩
  | 83 => ⟨S2, .i64⟩
  | 84 => ⟨S_, .i64⟩
  | 85 => ⟨S2, .i64⟩
  | 86 => ⟨S2, .i64⟩
  | 87 => ⟨S_, .i64⟩
  | 88 => ⟨S2, .i64⟩
  | 89 => ⟨S2, .i64⟩
  | 90 => ⟨S2, .i32⟩
  | 91 => ⟨S2, .i32⟩
  | 92 => ⟨S_, .i32⟩
  | 93 => ⟨S_, .i32⟩
  | 94 => ⟨S_, .i32⟩
  | 95 => ⟨S2, .i32⟩
  | 96 => ⟨S2, .i32⟩
  | 97 => ⟨S2, .i32⟩
  | 98 => ⟨S2, .i32⟩
  | 99 => ⟨S2, .i32⟩
  | 100 => ⟨S_, .i32⟩
  | 101 => ⟨S2, .i32⟩
  | 102 => ⟨S2, .i32⟩
  | 103 => ⟨S_, .i32⟩
  | 104 => ⟨S2, .i32⟩
  | 105 => ⟨S2, .i32⟩
  | 106 => ⟨S2, .i32⟩
  | 107 => ⟨S2, .i32⟩
  | 108 => ⟨S2, .i32⟩
  | 109 => ⟨S_, .i32⟩
  | 110 => ⟨S2, .i32⟩
  | 111 => ⟨S2, .i32⟩
  | 112 => ⟨S_, .i32⟩
  | 113 => ⟨S2, .i32⟩
  | 114 => ⟨S2, .i32⟩
  | 115 => ⟨S2, .i32⟩
  | 116 => ⟨S2, .i32⟩
  | 117 => ⟨S2, .i32⟩
  | 118 => ⟨S_, .i32⟩
  | 119 => ⟨S2, .i32⟩
  | 120 => ⟨S2, .i32⟩
  | 121 => ⟨S_, .i32⟩
  | 122 => ⟨S2, .i32⟩
  | 123 => ⟨S2, .i32⟩
  | 124 => ⟨S2, .i32⟩
  | 125 => ⟨S2, .i32⟩
  | 126 => ⟨S2, .i32⟩
  | 127 => ⟨S_, .i32⟩
  | _ => ⟨S16384x3x32x32, .f32⟩

abbrev hbmTy0_5 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S2, .i32⟩
  | 6 => ⟨S2, .i32⟩
  | 7 => ⟨S2, .i32⟩
  | 8 => ⟨S2, .i32⟩
  | 9 => ⟨S2, .i32⟩
  | 10 => ⟨S2, .i32⟩
  | 11 => ⟨S_, .i32⟩
  | 12 => ⟨S2, .i32⟩
  | 13 => ⟨S2, .i32⟩
  | 14 => ⟨S2, .i32⟩
  | 15 => ⟨S_, .i32⟩
  | 16 => ⟨S2, .i32⟩
  | 17 => ⟨S2, .i32⟩
  | 18 => ⟨S_, .i32⟩
  | 19 => ⟨S2, .i32⟩
  | 20 => ⟨S2, .i32⟩
  | 21 => ⟨S2, .i32⟩
  | 22 => ⟨S2, .i32⟩
  | 23 => ⟨S2, .i32⟩
  | 24 => ⟨S_, .i32⟩
  | 25 => ⟨S2, .i32⟩
  | 26 => ⟨S2, .i32⟩
  | 27 => ⟨S_, .i32⟩
  | 28 => ⟨S2, .i32⟩
  | 29 => ⟨S2, .i32⟩
  | 30 => ⟨S2, .i32⟩
  | 31 => ⟨S2, .i32⟩
  | 32 => ⟨S2, .i32⟩
  | 33 => ⟨S_, .i32⟩
  | 34 => ⟨S2, .i32⟩
  | 35 => ⟨S2, .i32⟩
  | 36 => ⟨S_, .i32⟩
  | 37 => ⟨S2, .i32⟩
  | 38 => ⟨S2, .i32⟩
  | 39 => ⟨S2, .i32⟩
  | 40 => ⟨S2, .i32⟩
  | 41 => ⟨S2, .i32⟩
  | 42 => ⟨S_, .i32⟩
  | 43 => ⟨S2, .i32⟩
  | 44 => ⟨S2, .i32⟩
  | 45 => ⟨S_, .i32⟩
  | 46 => ⟨S2, .i32⟩
  | 47 => ⟨S2, .i32⟩
  | 48 => ⟨S2, .i32⟩
  | 49 => ⟨S2, .i32⟩
  | 50 => ⟨S2, .i32⟩
  | 51 => ⟨S2, .i32⟩
  | 52 => ⟨S2, .i32⟩
  | 53 => ⟨S2, .i32⟩
  | 54 => ⟨S_, .i32⟩
  | 55 => ⟨S2, .i32⟩
  | 56 => ⟨S2, .i32⟩
  | 57 => ⟨S2, .i32⟩
  | 58 => ⟨S_, .i32⟩
  | 59 => ⟨S2, .i32⟩
  | 60 => ⟨S2, .i32⟩
  | 61 => ⟨S_, .i32⟩
  | 62 => ⟨S2, .i32⟩
  | 63 => ⟨S2, .i32⟩
  | 64 => ⟨S2, .i32⟩
  | 65 => ⟨S2, .i32⟩
  | 66 => ⟨S2, .i32⟩
  | 67 => ⟨S_, .i32⟩
  | 68 => ⟨S2, .i32⟩
  | 69 => ⟨S2, .i32⟩
  | 70 => ⟨S_, .i32⟩
  | 71 => ⟨S2, .i32⟩
  | 72 => ⟨S2, .i32⟩
  | 73 => ⟨S2, .i32⟩
  | 74 => ⟨S2, .i32⟩
  | 75 => ⟨S2, .i32⟩
  | 76 => ⟨S_, .i32⟩
  | 77 => ⟨S2, .i32⟩
  | 78 => ⟨S2, .i32⟩
  | 79 => ⟨S_, .i32⟩
  | 80 => ⟨S2, .i32⟩
  | 81 => ⟨S2, .i32⟩
  | 82 => ⟨S2, .i32⟩
  | 83 => ⟨S2, .i32⟩
  | 84 => ⟨S2, .i32⟩
  | 85 => ⟨S_, .i32⟩
  | 86 => ⟨S2, .i32⟩
  | 87 => ⟨S2, .i32⟩
  | 88 => ⟨S_, .i32⟩
  | 89 => ⟨S2, .i32⟩
  | 90 => ⟨S2, .i32⟩
  | 91 => ⟨S2, .i32⟩
  | 92 => ⟨S2, .i32⟩
  | 93 => ⟨S2, .i32⟩
  | 94 => ⟨S2, .i32⟩
  | 95 => ⟨S2, .i32⟩
  | 96 => ⟨S2, .i32⟩
  | 97 => ⟨S_, .i32⟩
  | 98 => ⟨S2, .i32⟩
  | 99 => ⟨S2, .i32⟩
  | 100 => ⟨S2, .i32⟩
  | 101 => ⟨S_, .i32⟩
  | 102 => ⟨S2, .i32⟩
  | 103 => ⟨S2, .i32⟩
  | 104 => ⟨S_, .i32⟩
  | 105 => ⟨S2, .i32⟩
  | 106 => ⟨S2, .i32⟩
  | 107 => ⟨S2, .i32⟩
  | 108 => ⟨S2, .i32⟩
  | 109 => ⟨S2, .i32⟩
  | 110 => ⟨S_, .i32⟩
  | 111 => ⟨S2, .i32⟩
  | 112 => ⟨S2, .i32⟩
  | 113 => ⟨S_, .i32⟩
  | 114 => ⟨S2, .i32⟩
  | 115 => ⟨S2, .i32⟩
  | 116 => ⟨S2, .i32⟩
  | 117 => ⟨S2, .i32⟩
  | 118 => ⟨S2, .i32⟩
  | 119 => ⟨S_, .i32⟩
  | 120 => ⟨S2, .i32⟩
  | 121 => ⟨S2, .i32⟩
  | 122 => ⟨S_, .i32⟩
  | 123 => ⟨S2, .i32⟩
  | 124 => ⟨S2, .i32⟩
  | 125 => ⟨S2, .i32⟩
  | 126 => ⟨S2, .i32⟩
  | 127 => ⟨S2, .i32⟩
  | _ => ⟨S16384x3x32x32, .f32⟩

abbrev hbmTy0_6 (i : Nat) : BufTy := match i % 128 with
  | 0 => ⟨S_, .i32⟩
  | 1 => ⟨S2, .i32⟩
  | 2 => ⟨S2, .i32⟩
  | 3 => ⟨S_, .i32⟩
  | 4 => ⟨S2, .i32⟩
  | 5 => ⟨S2, .i32⟩
  | 6 => ⟨S2, .i32⟩
  | 7 => ⟨S2, .i32⟩
  | 8 => ⟨S2, .i32⟩
  | 9 => ⟨S2, .i32⟩
  | 10 => ⟨S2, .i32⟩
  | 11 => ⟨S2, .i32⟩
  | 12 => ⟨S_, .i32⟩
  | 13 => ⟨S2, .i32⟩
  | 14 => ⟨S2, .i32⟩
  | 15 => ⟨S2, .i32⟩
  | 16 => ⟨S_, .i32⟩
  | 17 => ⟨S2, .i32⟩
  | 18 => ⟨S2, .i32⟩
  | 19 => ⟨S_, .i32⟩
  | 20 => ⟨S2, .i32⟩
  | 21 => ⟨S2, .i32⟩
  | 22 => ⟨S2, .i32⟩
  | 23 => ⟨S2, .i32⟩
  | 24 => ⟨S2, .i32⟩
  | 25 => ⟨S_, .i32⟩
  | 26 => ⟨S2, .i32⟩
  | 27 => ⟨S2, .i32⟩
  | 28 => ⟨S_, .i32⟩
  | 29 => ⟨S2, .i32⟩
  | 30 => ⟨S2, .i32⟩
  | 31 => ⟨S2, .i32⟩
  | 32 => ⟨S2, .i32⟩
  | 33 => ⟨S2, .i32⟩
  | 34 => ⟨S_, .i32⟩
  | 35 => ⟨S2, .i32⟩
  | 36 => ⟨S2, .i32⟩
  | 37 => ⟨S_, .i32⟩
  | 38 => ⟨S2, .i32⟩
  | 39 => ⟨S2, .i32⟩
  | 40 => ⟨S2, .i32⟩
  | 41 => ⟨S2, .i32⟩
  | 42 => ⟨S2, .i32⟩
  | 43 => ⟨S_, .i32⟩
  | 44 => ⟨S2, .i32⟩
  | 45 => ⟨S2, .i32⟩
  | 46 => ⟨S_, .i32⟩
  | 47 => ⟨S2, .i32⟩
  | 48 => ⟨S2, .i32⟩
  | 49 => ⟨S2, .i32⟩
  | 50 => ⟨S2, .i32⟩
  | 51 => ⟨S2, .i32⟩
  | 52 => ⟨S2, .i32⟩
  | 53 => ⟨S2, .i32⟩
  | 54 => ⟨S2, .i32⟩
  | 55 => ⟨S_, .i32⟩
  | 56 => ⟨S2, .i32⟩
  | 57 => ⟨S2, .i32⟩
  | 58 => ⟨S2x1, .i32⟩
  | 59 => ⟨S2x1, .i32⟩
  | 60 => ⟨S2x2, .i32⟩
  | 61 => ⟨S1x2, .i32⟩
  | 62 => ⟨S2, .i32⟩
  | 63 => ⟨S1x2, .i32⟩
  | 64 => ⟨S2, .i32⟩
  | 65 => ⟨S1, .i32⟩
  | 66 => ⟨S_, .i32⟩
  | 67 => ⟨S1, .i32⟩
  | 68 => ⟨S_, .i32⟩
  | 69 => ⟨S16384x3, .i64⟩
  | 70 => ⟨S16384x3, .i64⟩
  | 71 => ⟨S_, .i64⟩
  | 72 => ⟨S16384x3, .i64⟩
  | 73 => ⟨S16384x3, .i64⟩
  | 74 => ⟨S_, .i64⟩
  | 75 => ⟨S16384x3, .i64⟩
  | 76 => ⟨S16384x3, .i64⟩
  | 77 => ⟨S16384x3, .i64⟩
  | 78 => ⟨S_, .i64⟩
  | 79 => ⟨S16384x3, .i64⟩
  | 80 => ⟨S16384x3, .i64⟩
  | 81 => ⟨S16384x3, .i32⟩
  | 82 => ⟨S16384x3, .i32⟩
  | 83 => ⟨S_, .i32⟩
  | 84 => ⟨S_, .i32⟩
  | 85 => ⟨S_, .i32⟩
  | 86 => ⟨S16384x3, .i32⟩
  | 87 => ⟨S16384x3, .i32⟩
  | 88 => ⟨S16384x3, .i32⟩
  | 89 => ⟨S16384x3, .i32⟩
  | 90 => ⟨S16384x3, .i32⟩
  | 91 => ⟨S_, .i32⟩
  | 92 => ⟨S16384x3, .i32⟩
  | 93 => ⟨S16384x3, .i32⟩
  | 94 => ⟨S_, .i32⟩
  | 95 => ⟨S16384x3, .i32⟩
  | 96 => ⟨S16384x3, .i32⟩
  | 97 => ⟨S16384x3, .i32⟩
  | 98 => ⟨S16384x3, .i32⟩
  | 99 => ⟨S16384x3, .i32⟩
  | 100 => ⟨S_, .i32⟩
  | 101 => ⟨S16384x3, .i32⟩
  | 102 => ⟨S16384x3, .i32⟩
  | 103 => ⟨S_, .i32⟩
  | 104 => ⟨S16384x3, .i32⟩
  | 105 => ⟨S16384x3, .i32⟩
  | 106 => ⟨S16384x3, .i32⟩
  | 107 => ⟨S16384x3, .i32⟩
  | 108 => ⟨S16384x3, .i32⟩
  | 109 => ⟨S_, .i32⟩
  | 110 => ⟨S16384x3, .i32⟩
  | 111 => ⟨S16384x3, .i32⟩
  | 112 => ⟨S_, .i32⟩
  | 113 => ⟨S16384x3, .i32⟩
  | 114 => ⟨S16384x3, .i32⟩
  | 115 => ⟨S16384x3, .i32⟩
  | 116 => ⟨S16384x3, .i32⟩
  | 117 => ⟨S16384x3, .i32⟩
  | 118 => ⟨S_, .i32⟩
  | 119 => ⟨S16384x3, .i32⟩
  | 120 => ⟨S16384x3, .i32⟩
  | 121 => ⟨S_, .i32⟩
  | 122 => ⟨S16384x3, .i32⟩
  | 123 => ⟨S16384x3, .i32⟩
  | 124 => ⟨S16384x3, .i32⟩
  | 125 => ⟨S16384x3, .i32⟩
  | 126 => ⟨S16384x3, .i32⟩
  | 127 => ⟨S16384x3, .i32⟩
  | _ => ⟨S16384x3x32x32, .f32⟩

abbrev hbmTy0_7 (i : Nat) : BufTy := match i % 128 with
  | 0 => ⟨S16384x3, .i32⟩
  | 1 => ⟨S16384x3, .i32⟩
  | 2 => ⟨S_, .i32⟩
  | 3 => ⟨S16384x3, .i32⟩
  | 4 => ⟨S16384x3, .i32⟩
  | 5 => ⟨S16384x3, .i32⟩
  | 6 => ⟨S_, .i32⟩
  | 7 => ⟨S16384x3, .i32⟩
  | 8 => ⟨S16384x3, .i32⟩
  | 9 => ⟨S_, .i32⟩
  | 10 => ⟨S16384x3, .i32⟩
  | 11 => ⟨S16384x3, .i32⟩
  | 12 => ⟨S16384x3, .i32⟩
  | 13 => ⟨S16384x3, .i32⟩
  | 14 => ⟨S16384x3, .i32⟩
  | 15 => ⟨S_, .i32⟩
  | 16 => ⟨S16384x3, .i32⟩
  | 17 => ⟨S16384x3, .i32⟩
  | 18 => ⟨S_, .i32⟩
  | 19 => ⟨S16384x3, .i32⟩
  | 20 => ⟨S16384x3, .i32⟩
  | 21 => ⟨S16384x3, .i32⟩
  | 22 => ⟨S16384x3, .i32⟩
  | 23 => ⟨S16384x3, .i32⟩
  | 24 => ⟨S_, .i32⟩
  | 25 => ⟨S16384x3, .i32⟩
  | 26 => ⟨S16384x3, .i32⟩
  | 27 => ⟨S_, .i32⟩
  | 28 => ⟨S16384x3, .i32⟩
  | 29 => ⟨S16384x3, .i32⟩
  | 30 => ⟨S16384x3, .i32⟩
  | 31 => ⟨S16384x3, .i32⟩
  | 32 => ⟨S16384x3, .i32⟩
  | 33 => ⟨S_, .i32⟩
  | 34 => ⟨S16384x3, .i32⟩
  | 35 => ⟨S16384x3, .i32⟩
  | 36 => ⟨S_, .i32⟩
  | 37 => ⟨S16384x3, .i32⟩
  | 38 => ⟨S16384x3, .i32⟩
  | 39 => ⟨S16384x3, .i32⟩
  | 40 => ⟨S16384x3, .i32⟩
  | 41 => ⟨S16384x3, .i32⟩
  | 42 => ⟨S16384x3, .i32⟩
  | 43 => ⟨S16384x3, .i32⟩
  | 44 => ⟨S16384x3, .i32⟩
  | 45 => ⟨S_, .i32⟩
  | 46 => ⟨S16384x3, .i32⟩
  | 47 => ⟨S16384x3, .i32⟩
  | 48 => ⟨S16384x3, .i32⟩
  | 49 => ⟨S_, .i32⟩
  | 50 => ⟨S16384x3, .i32⟩
  | 51 => ⟨S16384x3, .i32⟩
  | 52 => ⟨S_, .i32⟩
  | 53 => ⟨S16384x3, .i32⟩
  | 54 => ⟨S16384x3, .i32⟩
  | 55 => ⟨S16384x3, .i32⟩
  | 56 => ⟨S16384x3, .i32⟩
  | 57 => ⟨S16384x3, .i32⟩
  | 58 => ⟨S_, .i32⟩
  | 59 => ⟨S16384x3, .i32⟩
  | 60 => ⟨S16384x3, .i32⟩
  | 61 => ⟨S_, .i32⟩
  | 62 => ⟨S16384x3, .i32⟩
  | 63 => ⟨S16384x3, .i32⟩
  | 64 => ⟨S16384x3, .i32⟩
  | 65 => ⟨S16384x3, .i32⟩
  | 66 => ⟨S16384x3, .i32⟩
  | 67 => ⟨S_, .i32⟩
  | 68 => ⟨S16384x3, .i32⟩
  | 69 => ⟨S16384x3, .i32⟩
  | 70 => ⟨S_, .i32⟩
  | 71 => ⟨S16384x3, .i32⟩
  | 72 => ⟨S16384x3, .i32⟩
  | 73 => ⟨S16384x3, .i32⟩
  | 74 => ⟨S16384x3, .i32⟩
  | 75 => ⟨S16384x3, .i32⟩
  | 76 => ⟨S_, .i32⟩
  | 77 => ⟨S16384x3, .i32⟩
  | 78 => ⟨S16384x3, .i32⟩
  | 79 => ⟨S_, .i32⟩
  | 80 => ⟨S16384x3, .i32⟩
  | 81 => ⟨S16384x3, .i32⟩
  | 82 => ⟨S16384x3, .i32⟩
  | 83 => ⟨S16384x3, .i32⟩
  | 84 => ⟨S16384x3, .i32⟩
  | 85 => ⟨S16384x3, .i32⟩
  | 86 => ⟨S16384x3, .i32⟩
  | 87 => ⟨S16384x3, .i32⟩
  | 88 => ⟨S_, .i32⟩
  | 89 => ⟨S16384x3, .i32⟩
  | 90 => ⟨S16384x3, .i32⟩
  | 91 => ⟨S16384x3, .i32⟩
  | 92 => ⟨S_, .i32⟩
  | 93 => ⟨S16384x3, .i32⟩
  | 94 => ⟨S16384x3, .i32⟩
  | 95 => ⟨S_, .i32⟩
  | 96 => ⟨S16384x3, .i32⟩
  | 97 => ⟨S16384x3, .i32⟩
  | 98 => ⟨S16384x3, .i32⟩
  | 99 => ⟨S16384x3, .i32⟩
  | 100 => ⟨S16384x3, .i32⟩
  | 101 => ⟨S_, .i32⟩
  | 102 => ⟨S16384x3, .i32⟩
  | 103 => ⟨S16384x3, .i32⟩
  | 104 => ⟨S_, .i32⟩
  | 105 => ⟨S16384x3, .i32⟩
  | 106 => ⟨S16384x3, .i32⟩
  | 107 => ⟨S16384x3, .i32⟩
  | 108 => ⟨S16384x3, .i32⟩
  | 109 => ⟨S16384x3, .i32⟩
  | 110 => ⟨S_, .i32⟩
  | 111 => ⟨S16384x3, .i32⟩
  | 112 => ⟨S16384x3, .i32⟩
  | 113 => ⟨S_, .i32⟩
  | 114 => ⟨S16384x3, .i32⟩
  | 115 => ⟨S16384x3, .i32⟩
  | 116 => ⟨S16384x3, .i32⟩
  | 117 => ⟨S16384x3, .i32⟩
  | 118 => ⟨S16384x3, .i32⟩
  | 119 => ⟨S_, .i32⟩
  | 120 => ⟨S16384x3, .i32⟩
  | 121 => ⟨S16384x3, .i32⟩
  | 122 => ⟨S_, .i32⟩
  | 123 => ⟨S16384x3, .i32⟩
  | 124 => ⟨S16384x3, .i32⟩
  | 125 => ⟨S16384x3, .i32⟩
  | 126 => ⟨S16384x3, .i32⟩
  | 127 => ⟨S16384x3, .i32⟩
  | _ => ⟨S16384x3x32x32, .f32⟩

abbrev hbmTy0_8 (i : Nat) : BufTy := match i % 128 with
  | 0 => ⟨S16384x3, .i32⟩
  | 1 => ⟨S16384x3, .i32⟩
  | 2 => ⟨S16384x3, .i32⟩
  | 3 => ⟨S_, .i32⟩
  | 4 => ⟨S16384x3, .i32⟩
  | 5 => ⟨S16384x3, .i32⟩
  | 6 => ⟨S16384x3, .i32⟩
  | 7 => ⟨S_, .i32⟩
  | 8 => ⟨S16384x3, .i32⟩
  | 9 => ⟨S16384x3, .i32⟩
  | 10 => ⟨S_, .i32⟩
  | 11 => ⟨S16384x3, .i32⟩
  | 12 => ⟨S16384x3, .i32⟩
  | 13 => ⟨S16384x3, .i32⟩
  | 14 => ⟨S16384x3, .i32⟩
  | 15 => ⟨S16384x3, .i32⟩
  | 16 => ⟨S_, .i32⟩
  | 17 => ⟨S16384x3, .i32⟩
  | 18 => ⟨S16384x3, .i32⟩
  | 19 => ⟨S_, .i32⟩
  | 20 => ⟨S16384x3, .i32⟩
  | 21 => ⟨S16384x3, .i32⟩
  | 22 => ⟨S16384x3, .i32⟩
  | 23 => ⟨S16384x3, .i32⟩
  | 24 => ⟨S16384x3, .i32⟩
  | 25 => ⟨S_, .i32⟩
  | 26 => ⟨S16384x3, .i32⟩
  | 27 => ⟨S16384x3, .i32⟩
  | 28 => ⟨S_, .i32⟩
  | 29 => ⟨S16384x3, .i32⟩
  | 30 => ⟨S16384x3, .i32⟩
  | 31 => ⟨S16384x3, .i32⟩
  | 32 => ⟨S16384x3, .i32⟩
  | 33 => ⟨S16384x3, .i32⟩
  | 34 => ⟨S_, .i32⟩
  | 35 => ⟨S16384x3, .i32⟩
  | 36 => ⟨S16384x3, .i32⟩
  | 37 => ⟨S_, .i32⟩
  | 38 => ⟨S16384x3, .i32⟩
  | 39 => ⟨S16384x3, .i32⟩
  | 40 => ⟨S16384x3, .i32⟩
  | 41 => ⟨S16384x3, .i32⟩
  | 42 => ⟨S16384x3, .i32⟩
  | 43 => ⟨S16384x3, .i32⟩
  | 44 => ⟨S16384x3, .i32⟩
  | 45 => ⟨S16384x3, .i32⟩
  | 46 => ⟨S_, .i32⟩
  | 47 => ⟨S16384x3, .i32⟩
  | 48 => ⟨S16384x3, .i32⟩
  | 49 => ⟨S16384x3, .i32⟩
  | 50 => ⟨S1, .i32⟩
  | 51 => ⟨S_, .i32⟩
  | 52 => ⟨S1, .i32⟩
  | 53 => ⟨S_, .i32⟩
  | 54 => ⟨S16384x3, .i64⟩
  | 55 => ⟨S16384x3, .i64⟩
  | 56 => ⟨S_, .i64⟩
  | 57 => ⟨S16384x3, .i64⟩
  | 58 => ⟨S16384x3, .i64⟩
  | 59 => ⟨S_, .i64⟩
  | 60 => ⟨S16384x3, .i64⟩
  | 61 => ⟨S16384x3, .i64⟩
  | 62 => ⟨S16384x3, .i64⟩
  | 63 => ⟨S_, .i64⟩
  | 64 => ⟨S16384x3, .i64⟩
  | 65 => ⟨S16384x3, .i64⟩
  | 66 => ⟨S16384x3, .i32⟩
  | 67 => ⟨S16384x3, .i32⟩
  | 68 => ⟨S_, .i32⟩
  | 69 => ⟨S_, .i32⟩
  | 70 => ⟨S_, .i32⟩
  | 71 => ⟨S16384x3, .i32⟩
  | 72 => ⟨S16384x3, .i32⟩
  | 73 => ⟨S16384x3, .i32⟩
  | 74 => ⟨S16384x3, .i32⟩
  | 75 => ⟨S16384x3, .i32⟩
  | 76 => ⟨S_, .i32⟩
  | 77 => ⟨S16384x3, .i32⟩
  | 78 => ⟨S16384x3, .i32⟩
  | 79 => ⟨S_, .i32⟩
  | 80 => ⟨S16384x3, .i32⟩
  | 81 => ⟨S16384x3, .i32⟩
  | 82 => ⟨S16384x3, .i32⟩
  | 83 => ⟨S16384x3, .i32⟩
  | 84 => ⟨S16384x3, .i32⟩
  | 85 => ⟨S_, .i32⟩
  | 86 => ⟨S16384x3, .i32⟩
  | 87 => ⟨S16384x3, .i32⟩
  | 88 => ⟨S_, .i32⟩
  | 89 => ⟨S16384x3, .i32⟩
  | 90 => ⟨S16384x3, .i32⟩
  | 91 => ⟨S16384x3, .i32⟩
  | 92 => ⟨S16384x3, .i32⟩
  | 93 => ⟨S16384x3, .i32⟩
  | 94 => ⟨S_, .i32⟩
  | 95 => ⟨S16384x3, .i32⟩
  | 96 => ⟨S16384x3, .i32⟩
  | 97 => ⟨S_, .i32⟩
  | 98 => ⟨S16384x3, .i32⟩
  | 99 => ⟨S16384x3, .i32⟩
  | 100 => ⟨S16384x3, .i32⟩
  | 101 => ⟨S16384x3, .i32⟩
  | 102 => ⟨S16384x3, .i32⟩
  | 103 => ⟨S_, .i32⟩
  | 104 => ⟨S16384x3, .i32⟩
  | 105 => ⟨S16384x3, .i32⟩
  | 106 => ⟨S_, .i32⟩
  | 107 => ⟨S16384x3, .i32⟩
  | 108 => ⟨S16384x3, .i32⟩
  | 109 => ⟨S16384x3, .i32⟩
  | 110 => ⟨S16384x3, .i32⟩
  | 111 => ⟨S16384x3, .i32⟩
  | 112 => ⟨S16384x3, .i32⟩
  | 113 => ⟨S16384x3, .i32⟩
  | 114 => ⟨S16384x3, .i32⟩
  | 115 => ⟨S_, .i32⟩
  | 116 => ⟨S16384x3, .i32⟩
  | 117 => ⟨S16384x3, .i32⟩
  | 118 => ⟨S16384x3, .i32⟩
  | 119 => ⟨S_, .i32⟩
  | 120 => ⟨S16384x3, .i32⟩
  | 121 => ⟨S16384x3, .i32⟩
  | 122 => ⟨S_, .i32⟩
  | 123 => ⟨S16384x3, .i32⟩
  | 124 => ⟨S16384x3, .i32⟩
  | 125 => ⟨S16384x3, .i32⟩
  | 126 => ⟨S16384x3, .i32⟩
  | 127 => ⟨S16384x3, .i32⟩
  | _ => ⟨S16384x3x32x32, .f32⟩

abbrev hbmTy0_9 (i : Nat) : BufTy := match i % 128 with
  | 0 => ⟨S_, .i32⟩
  | 1 => ⟨S16384x3, .i32⟩
  | 2 => ⟨S16384x3, .i32⟩
  | 3 => ⟨S_, .i32⟩
  | 4 => ⟨S16384x3, .i32⟩
  | 5 => ⟨S16384x3, .i32⟩
  | 6 => ⟨S16384x3, .i32⟩
  | 7 => ⟨S16384x3, .i32⟩
  | 8 => ⟨S16384x3, .i32⟩
  | 9 => ⟨S_, .i32⟩
  | 10 => ⟨S16384x3, .i32⟩
  | 11 => ⟨S16384x3, .i32⟩
  | 12 => ⟨S_, .i32⟩
  | 13 => ⟨S16384x3, .i32⟩
  | 14 => ⟨S16384x3, .i32⟩
  | 15 => ⟨S16384x3, .i32⟩
  | 16 => ⟨S16384x3, .i32⟩
  | 17 => ⟨S16384x3, .i32⟩
  | 18 => ⟨S_, .i32⟩
  | 19 => ⟨S16384x3, .i32⟩
  | 20 => ⟨S16384x3, .i32⟩
  | 21 => ⟨S_, .i32⟩
  | 22 => ⟨S16384x3, .i32⟩
  | 23 => ⟨S16384x3, .i32⟩
  | 24 => ⟨S16384x3, .i32⟩
  | 25 => ⟨S16384x3, .i32⟩
  | 26 => ⟨S16384x3, .i32⟩
  | 27 => ⟨S16384x3, .i32⟩
  | 28 => ⟨S16384x3, .i32⟩
  | 29 => ⟨S16384x3, .i32⟩
  | 30 => ⟨S_, .i32⟩
  | 31 => ⟨S16384x3, .i32⟩
  | 32 => ⟨S16384x3, .i32⟩
  | 33 => ⟨S16384x3, .i32⟩
  | 34 => ⟨S_, .i32⟩
  | 35 => ⟨S16384x3, .i32⟩
  | 36 => ⟨S16384x3, .i32⟩
  | 37 => ⟨S_, .i32⟩
  | 38 => ⟨S16384x3, .i32⟩
  | 39 => ⟨S16384x3, .i32⟩
  | 40 => ⟨S16384x3, .i32⟩
  | 41 => ⟨S16384x3, .i32⟩
  | 42 => ⟨S16384x3, .i32⟩
  | 43 => ⟨S_, .i32⟩
  | 44 => ⟨S16384x3, .i32⟩
  | 45 => ⟨S16384x3, .i32⟩
  | 46 => ⟨S_, .i32⟩
  | 47 => ⟨S16384x3, .i32⟩
  | 48 => ⟨S16384x3, .i32⟩
  | 49 => ⟨S16384x3, .i32⟩
  | 50 => ⟨S16384x3, .i32⟩
  | 51 => ⟨S16384x3, .i32⟩
  | 52 => ⟨S_, .i32⟩
  | 53 => ⟨S16384x3, .i32⟩
  | 54 => ⟨S16384x3, .i32⟩
  | 55 => ⟨S_, .i32⟩
  | 56 => ⟨S16384x3, .i32⟩
  | 57 => ⟨S16384x3, .i32⟩
  | 58 => ⟨S16384x3, .i32⟩
  | 59 => ⟨S16384x3, .i32⟩
  | 60 => ⟨S16384x3, .i32⟩
  | 61 => ⟨S_, .i32⟩
  | 62 => ⟨S16384x3, .i32⟩
  | 63 => ⟨S16384x3, .i32⟩
  | 64 => ⟨S_, .i32⟩
  | 65 => ⟨S16384x3, .i32⟩
  | 66 => ⟨S16384x3, .i32⟩
  | 67 => ⟨S16384x3, .i32⟩
  | 68 => ⟨S16384x3, .i32⟩
  | 69 => ⟨S16384x3, .i32⟩
  | 70 => ⟨S16384x3, .i32⟩
  | 71 => ⟨S16384x3, .i32⟩
  | 72 => ⟨S16384x3, .i32⟩
  | 73 => ⟨S_, .i32⟩
  | 74 => ⟨S16384x3, .i32⟩
  | 75 => ⟨S16384x3, .i32⟩
  | 76 => ⟨S16384x3, .i32⟩
  | 77 => ⟨S_, .i32⟩
  | 78 => ⟨S16384x3, .i32⟩
  | 79 => ⟨S16384x3, .i32⟩
  | 80 => ⟨S_, .i32⟩
  | 81 => ⟨S16384x3, .i32⟩
  | 82 => ⟨S16384x3, .i32⟩
  | 83 => ⟨S16384x3, .i32⟩
  | 84 => ⟨S16384x3, .i32⟩
  | 85 => ⟨S16384x3, .i32⟩
  | 86 => ⟨S_, .i32⟩
  | 87 => ⟨S16384x3, .i32⟩
  | 88 => ⟨S16384x3, .i32⟩
  | 89 => ⟨S_, .i32⟩
  | 90 => ⟨S16384x3, .i32⟩
  | 91 => ⟨S16384x3, .i32⟩
  | 92 => ⟨S16384x3, .i32⟩
  | 93 => ⟨S16384x3, .i32⟩
  | 94 => ⟨S16384x3, .i32⟩
  | 95 => ⟨S_, .i32⟩
  | 96 => ⟨S16384x3, .i32⟩
  | 97 => ⟨S16384x3, .i32⟩
  | 98 => ⟨S_, .i32⟩
  | 99 => ⟨S16384x3, .i32⟩
  | 100 => ⟨S16384x3, .i32⟩
  | 101 => ⟨S16384x3, .i32⟩
  | 102 => ⟨S16384x3, .i32⟩
  | 103 => ⟨S16384x3, .i32⟩
  | 104 => ⟨S_, .i32⟩
  | 105 => ⟨S16384x3, .i32⟩
  | 106 => ⟨S16384x3, .i32⟩
  | 107 => ⟨S_, .i32⟩
  | 108 => ⟨S16384x3, .i32⟩
  | 109 => ⟨S16384x3, .i32⟩
  | 110 => ⟨S16384x3, .i32⟩
  | 111 => ⟨S16384x3, .i32⟩
  | 112 => ⟨S16384x3, .i32⟩
  | 113 => ⟨S16384x3, .i32⟩
  | 114 => ⟨S16384x3, .i32⟩
  | 115 => ⟨S16384x3, .i32⟩
  | 116 => ⟨S_, .i32⟩
  | 117 => ⟨S16384x3, .i32⟩
  | 118 => ⟨S16384x3, .i32⟩
  | 119 => ⟨S16384x3, .i32⟩
  | 120 => ⟨S_, .i32⟩
  | 121 => ⟨S16384x3, .i32⟩
  | 122 => ⟨S16384x3, .i32⟩
  | 123 => ⟨S_, .i32⟩
  | 124 => ⟨S16384x3, .i32⟩
  | 125 => ⟨S16384x3, .i32⟩
  | 126 => ⟨S16384x3, .i32⟩
  | 127 => ⟨S16384x3, .i32⟩
  | _ => ⟨S16384x3x32x32, .f32⟩

abbrev hbmTy0_10 (i : Nat) : BufTy := match i % 128 with
  | 0 => ⟨S16384x3, .i32⟩
  | 1 => ⟨S_, .i32⟩
  | 2 => ⟨S16384x3, .i32⟩
  | 3 => ⟨S16384x3, .i32⟩
  | 4 => ⟨S_, .i32⟩
  | 5 => ⟨S16384x3, .i32⟩
  | 6 => ⟨S16384x3, .i32⟩
  | 7 => ⟨S16384x3, .i32⟩
  | 8 => ⟨S16384x3, .i32⟩
  | 9 => ⟨S16384x3, .i32⟩
  | 10 => ⟨S_, .i32⟩
  | 11 => ⟨S16384x3, .i32⟩
  | 12 => ⟨S16384x3, .i32⟩
  | 13 => ⟨S_, .i32⟩
  | 14 => ⟨S16384x3, .i32⟩
  | 15 => ⟨S16384x3, .i32⟩
  | 16 => ⟨S16384x3, .i32⟩
  | 17 => ⟨S16384x3, .i32⟩
  | 18 => ⟨S16384x3, .i32⟩
  | 19 => ⟨S_, .i32⟩
  | 20 => ⟨S16384x3, .i32⟩
  | 21 => ⟨S16384x3, .i32⟩
  | 22 => ⟨S_, .i32⟩
  | 23 => ⟨S16384x3, .i32⟩
  | 24 => ⟨S16384x3, .i32⟩
  | 25 => ⟨S16384x3, .i32⟩
  | 26 => ⟨S16384x3, .i32⟩
  | 27 => ⟨S16384x3, .i32⟩
  | 28 => ⟨S16384x3, .i32⟩
  | 29 => ⟨S16384x3, .i32⟩
  | 30 => ⟨S16384x3, .i32⟩
  | 31 => ⟨S_, .i32⟩
  | 32 => ⟨S16384x3, .i32⟩
  | 33 => ⟨S16384x3, .i32⟩
  | 34 => ⟨S16384x3, .i32⟩
  | 35 => ⟨S1x1, .i32⟩
  | 36 => ⟨S1x1, .i32⟩
  | 37 => ⟨S1x1, .i1⟩
  | 38 => ⟨S_, .i32⟩
  | 39 => ⟨S1x1, .i32⟩
  | 40 => ⟨S1x1, .i32⟩
  | 41 => ⟨S1x1, .i1⟩
  | 42 => ⟨S1x1, .i1⟩
  | 43 => ⟨S1x1, .i1⟩
  | 44 => ⟨S_, .i32⟩
  | 45 => ⟨S1x1, .i32⟩
  | 46 => ⟨S1x1, .i32⟩
  | 47 => ⟨S1x1, .i32⟩
  | 48 => ⟨S_, .i32⟩
  | 49 => ⟨S1x1, .i32⟩
  | 50 => ⟨S1x1, .i32⟩
  | 51 => ⟨S1x1, .i32⟩
  | 52 => ⟨S1x1, .i32⟩
  | 53 => ⟨S16384x3, .i32⟩
  | 54 => ⟨S16384x3, .i32⟩
  | 55 => ⟨S16384x3, .i32⟩
  | 56 => ⟨S16384x3, .i32⟩
  | 57 => ⟨S16384x3, .i32⟩
  | 58 => ⟨S16384x3, .i32⟩
  | 59 => ⟨S16384x3, .i32⟩
  | 60 => ⟨S16384x3, .i32⟩
  | 61 => ⟨S16384x3, .i32⟩
  | 62 => ⟨S16384x3, .i32⟩
  | 63 => ⟨S16384x3, .i32⟩
  | 64 => ⟨S16384x3, .i32⟩
  | 65 => ⟨S3, .i32⟩
  | 66 => ⟨S1x3, .i32⟩
  | 67 => ⟨S16384x1, .i32⟩
  | 68 => ⟨S16384x3, .i32⟩
  | 69 => ⟨S16384x3, .i32⟩
  | 70 => ⟨S16384x3, .i1⟩
  | 71 => ⟨S_, .i32⟩
  | 72 => ⟨S16384x3, .i32⟩
  | 73 => ⟨S16384x3, .i32⟩
  | 74 => ⟨S_, .i32⟩
  | 75 => ⟨S16384x3, .i32⟩
  | 76 => ⟨S16384x3, .i1⟩
  | 77 => ⟨S_, .i32⟩
  | 78 => ⟨S16384x3, .i32⟩
  | 79 => ⟨S16384x3, .i32⟩
  | 80 => ⟨S16384x3, .i32⟩
  | 81 => ⟨S16384x3x1, .i32⟩
  | 82 => ⟨S1, .i32⟩
  | 83 => ⟨S_, .i32⟩
  | 84 => ⟨S16384x3x1, .i32⟩
  | 85 => ⟨S16384x3x1, .i1⟩
  | 86 => ⟨S1x1x1, .i32⟩
  | 87 => ⟨S16384x3x1, .i32⟩
  | 88 => ⟨S16384x3x1, .i1⟩
  | 89 => ⟨S16384x3x1, .i1⟩
  | 90 => ⟨S_, .i1⟩
  | 91 => ⟨S16384x3, .i1⟩
  | 92 => ⟨S16384x3x128, .f32⟩
  | 93 => ⟨S16384x3x128, .i1⟩
  | 94 => ⟨S_, .f32⟩
  | 95 => ⟨S16384x3x128, .f32⟩
  | 96 => ⟨S16384x3x128, .f32⟩
  | 97 => ⟨S128x31, .f32⟩
  | 98 => ⟨S16384x3x31, .f32⟩
  | 99 => ⟨S_, .f32⟩
  | 100 => ⟨S16384x3, .f32⟩
  | 101 => ⟨S_, .f32⟩
  | 102 => ⟨S16384x3, .f32⟩
  | 103 => ⟨S16384x3, .f32⟩
  | 104 => ⟨S16384x3x1, .f32⟩
  | 105 => ⟨S16384x3x31, .f32⟩
  | 106 => ⟨S16384x3x31, .f32⟩
  | 107 => ⟨S16384x3x31, .f32⟩
  | 108 => ⟨S_, .f32⟩
  | 109 => ⟨S16384x3, .f32⟩
  | 110 => ⟨S16384x3x1, .f32⟩
  | 111 => ⟨S16384x3x1, .f32⟩
  | 112 => ⟨S16384x3x31, .f32⟩
  | 113 => ⟨S16384x3x31, .f32⟩
  | 114 => ⟨S49152x31, .f32⟩
  | 115 => ⟨S1, .i32⟩
  | 116 => ⟨S_, .i32⟩
  | 117 => ⟨S1, .i32⟩
  | 118 => ⟨S_, .i32⟩
  | 119 => ⟨S49152x31, .i64⟩
  | 120 => ⟨S49152x31, .i64⟩
  | 121 => ⟨S_, .i64⟩
  | 122 => ⟨S49152x31, .i64⟩
  | 123 => ⟨S49152x31, .i64⟩
  | 124 => ⟨S_, .i64⟩
  | 125 => ⟨S49152x31, .i64⟩
  | 126 => ⟨S49152x31, .i64⟩
  | 127 => ⟨S49152x31, .i64⟩
  | _ => ⟨S16384x3x32x32, .f32⟩

abbrev hbmTy0_11 (i : Nat) : BufTy := match i % 128 with
  | 0 => ⟨S_, .i64⟩
  | 1 => ⟨S49152x31, .i64⟩
  | 2 => ⟨S49152x31, .i64⟩
  | 3 => ⟨S49152x31, .i32⟩
  | 4 => ⟨S49152x31, .i32⟩
  | 5 => ⟨S_, .i32⟩
  | 6 => ⟨S_, .i32⟩
  | 7 => ⟨S_, .i32⟩
  | 8 => ⟨S49152x31, .i32⟩
  | 9 => ⟨S49152x31, .i32⟩
  | 10 => ⟨S49152x31, .i32⟩
  | 11 => ⟨S49152x31, .i32⟩
  | 12 => ⟨S49152x31, .i32⟩
  | 13 => ⟨S_, .i32⟩
  | 14 => ⟨S49152x31, .i32⟩
  | 15 => ⟨S49152x31, .i32⟩
  | 16 => ⟨S_, .i32⟩
  | 17 => ⟨S49152x31, .i32⟩
  | 18 => ⟨S49152x31, .i32⟩
  | 19 => ⟨S49152x31, .i32⟩
  | 20 => ⟨S49152x31, .i32⟩
  | 21 => ⟨S49152x31, .i32⟩
  | 22 => ⟨S_, .i32⟩
  | 23 => ⟨S49152x31, .i32⟩
  | 24 => ⟨S49152x31, .i32⟩
  | 25 => ⟨S_, .i32⟩
  | 26 => ⟨S49152x31, .i32⟩
  | 27 => ⟨S49152x31, .i32⟩
  | 28 => ⟨S49152x31, .i32⟩
  | 29 => ⟨S49152x31, .i32⟩
  | 30 => ⟨S49152x31, .i32⟩
  | 31 => ⟨S_, .i32⟩
  | 32 => ⟨S49152x31, .i32⟩
  | 33 => ⟨S49152x31, .i32⟩
  | 34 => ⟨S_, .i32⟩
  | 35 => ⟨S49152x31, .i32⟩
  | 36 => ⟨S49152x31, .i32⟩
  | 37 => ⟨S49152x31, .i32⟩
  | 38 => ⟨S49152x31, .i32⟩
  | 39 => ⟨S49152x31, .i32⟩
  | 40 => ⟨S_, .i32⟩
  | 41 => ⟨S49152x31, .i32⟩
  | 42 => ⟨S49152x31, .i32⟩
  | 43 => ⟨S_, .i32⟩
  | 44 => ⟨S49152x31, .i32⟩
  | 45 => ⟨S49152x31, .i32⟩
  | 46 => ⟨S49152x31, .i32⟩
  | 47 => ⟨S49152x31, .i32⟩
  | 48 => ⟨S49152x31, .i32⟩
  | 49 => ⟨S49152x31, .i32⟩
  | 50 => ⟨S49152x31, .i32⟩
  | 51 => ⟨S49152x31, .i32⟩
  | 52 => ⟨S_, .i32⟩
  | 53 => ⟨S49152x31, .i32⟩
  | 54 => ⟨S49152x31, .i32⟩
  | 55 => ⟨S49152x31, .i32⟩
  | 56 => ⟨S_, .i32⟩
  | 57 => ⟨S49152x31, .i32⟩
  | 58 => ⟨S49152x31, .i32⟩
  | 59 => ⟨S_, .i32⟩
  | 60 => ⟨S49152x31, .i32⟩
  | 61 => ⟨S49152x31, .i32⟩
  | 62 => ⟨S49152x31, .i32⟩
  | 63 => ⟨S49152x31, .i32⟩
  | 64 => ⟨S49152x31, .i32⟩
  | 65 => ⟨S_, .i32⟩
  | 66 => ⟨S49152x31, .i32⟩
  | 67 => ⟨S49152x31, .i32⟩
  | 68 => ⟨S_, .i32⟩
  | 69 => ⟨S49152x31, .i32⟩
  | 70 => ⟨S49152x31, .i32⟩
  | 71 => ⟨S49152x31, .i32⟩
  | 72 => ⟨S49152x31, .i32⟩
  | 73 => ⟨S49152x31, .i32⟩
  | 74 => ⟨S_, .i32⟩
  | 75 => ⟨S49152x31, .i32⟩
  | 76 => ⟨S49152x31, .i32⟩
  | 77 => ⟨S_, .i32⟩
  | 78 => ⟨S49152x31, .i32⟩
  | 79 => ⟨S49152x31, .i32⟩
  | 80 => ⟨S49152x31, .i32⟩
  | 81 => ⟨S49152x31, .i32⟩
  | 82 => ⟨S49152x31, .i32⟩
  | 83 => ⟨S_, .i32⟩
  | 84 => ⟨S49152x31, .i32⟩
  | 85 => ⟨S49152x31, .i32⟩
  | 86 => ⟨S_, .i32⟩
  | 87 => ⟨S49152x31, .i32⟩
  | 88 => ⟨S49152x31, .i32⟩
  | 89 => ⟨S49152x31, .i32⟩
  | 90 => ⟨S49152x31, .i32⟩
  | 91 => ⟨S49152x31, .i32⟩
  | 92 => ⟨S49152x31, .i32⟩
  | 93 => ⟨S49152x31, .i32⟩
  | 94 => ⟨S49152x31, .i32⟩
  | 95 => ⟨S_, .i32⟩
  | 96 => ⟨S49152x31, .i32⟩
  | 97 => ⟨S49152x31, .i32⟩
  | 98 => ⟨S49152x31, .i32⟩
  | 99 => ⟨S_, .i32⟩
  | 100 => ⟨S49152x31, .i32⟩
  | 101 => ⟨S49152x31, .i32⟩
  | 102 => ⟨S_, .i32⟩
  | 103 => ⟨S49152x31, .i32⟩
  | 104 => ⟨S49152x31, .i32⟩
  | 105 => ⟨S49152x31, .i32⟩
  | 106 => ⟨S49152x31, .i32⟩
  | 107 => ⟨S49152x31, .i32⟩
  | 108 => ⟨S_, .i32⟩
  | 109 => ⟨S49152x31, .i32⟩
  | 110 => ⟨S49152x31, .i32⟩
  | 111 => ⟨S_, .i32⟩
  | 112 => ⟨S49152x31, .i32⟩
  | 113 => ⟨S49152x31, .i32⟩
  | 114 => ⟨S49152x31, .i32⟩
  | 115 => ⟨S49152x31, .i32⟩
  | 116 => ⟨S49152x31, .i32⟩
  | 117 => ⟨S_, .i32⟩
  | 118 => ⟨S49152x31, .i32⟩
  | 119 => ⟨S49152x31, .i32⟩
  | 120 => ⟨S_, .i32⟩
  | 121 => ⟨S49152x31, .i32⟩
  | 122 => ⟨S49152x31, .i32⟩
  | 123 => ⟨S49152x31, .i32⟩
  | 124 => ⟨S49152x31, .i32⟩
  | 125 => ⟨S49152x31, .i32⟩
  | 126 => ⟨S_, .i32⟩
  | 127 => ⟨S49152x31, .i32⟩
  | _ => ⟨S16384x3x32x32, .f32⟩

abbrev hbmTy0_12 (i : Nat) : BufTy := match i % 128 with
  | 0 => ⟨S49152x31, .i32⟩
  | 1 => ⟨S_, .i32⟩
  | 2 => ⟨S49152x31, .i32⟩
  | 3 => ⟨S49152x31, .i32⟩
  | 4 => ⟨S49152x31, .i32⟩
  | 5 => ⟨S49152x31, .i32⟩
  | 6 => ⟨S49152x31, .i32⟩
  | 7 => ⟨S49152x31, .i32⟩
  | 8 => ⟨S49152x31, .i32⟩
  | 9 => ⟨S49152x31, .i32⟩
  | 10 => ⟨S_, .i32⟩
  | 11 => ⟨S49152x31, .i32⟩
  | 12 => ⟨S49152x31, .i32⟩
  | 13 => ⟨S49152x31, .i32⟩
  | 14 => ⟨S_, .i32⟩
  | 15 => ⟨S49152x31, .i32⟩
  | 16 => ⟨S49152x31, .i32⟩
  | 17 => ⟨S_, .i32⟩
  | 18 => ⟨S49152x31, .i32⟩
  | 19 => ⟨S49152x31, .i32⟩
  | 20 => ⟨S49152x31, .i32⟩
  | 21 => ⟨S49152x31, .i32⟩
  | 22 => ⟨S49152x31, .i32⟩
  | 23 => ⟨S_, .i32⟩
  | 24 => ⟨S49152x31, .i32⟩
  | 25 => ⟨S49152x31, .i32⟩
  | 26 => ⟨S_, .i32⟩
  | 27 => ⟨S49152x31, .i32⟩
  | 28 => ⟨S49152x31, .i32⟩
  | 29 => ⟨S49152x31, .i32⟩
  | 30 => ⟨S49152x31, .i32⟩
  | 31 => ⟨S49152x31, .i32⟩
  | 32 => ⟨S_, .i32⟩
  | 33 => ⟨S49152x31, .i32⟩
  | 34 => ⟨S49152x31, .i32⟩
  | 35 => ⟨S_, .i32⟩
  | 36 => ⟨S49152x31, .i32⟩
  | 37 => ⟨S49152x31, .i32⟩
  | 38 => ⟨S49152x31, .i32⟩
  | 39 => ⟨S49152x31, .i32⟩
  | 40 => ⟨S49152x31, .i32⟩
  | 41 => ⟨S_, .i32⟩
  | 42 => ⟨S49152x31, .i32⟩
  | 43 => ⟨S49152x31, .i32⟩
  | 44 => ⟨S_, .i32⟩
  | 45 => ⟨S49152x31, .i32⟩
  | 46 => ⟨S49152x31, .i32⟩
  | 47 => ⟨S49152x31, .i32⟩
  | 48 => ⟨S49152x31, .i32⟩
  | 49 => ⟨S49152x31, .i32⟩
  | 50 => ⟨S49152x31, .i32⟩
  | 51 => ⟨S49152x31, .i32⟩
  | 52 => ⟨S49152x31, .i32⟩
  | 53 => ⟨S_, .i32⟩
  | 54 => ⟨S49152x31, .i32⟩
  | 55 => ⟨S49152x31, .i32⟩
  | 56 => ⟨S49152x31, .i32⟩
  | 57 => ⟨S_, .i32⟩
  | 58 => ⟨S49152x31, .i32⟩
  | 59 => ⟨S49152x31, .i32⟩
  | 60 => ⟨S_, .i32⟩
  | 61 => ⟨S49152x31, .i32⟩
  | 62 => ⟨S49152x31, .i32⟩
  | 63 => ⟨S49152x31, .i32⟩
  | 64 => ⟨S49152x31, .i32⟩
  | 65 => ⟨S49152x31, .i32⟩
  | 66 => ⟨S_, .i32⟩
  | 67 => ⟨S49152x31, .i32⟩
  | 68 => ⟨S49152x31, .i32⟩
  | 69 => ⟨S_, .i32⟩
  | 70 => ⟨S49152x31, .i32⟩
  | 71 => ⟨S49152x31, .i32⟩
  | 72 => ⟨S49152x31, .i32⟩
  | 73 => ⟨S49152x31, .i32⟩
  | 74 => ⟨S49152x31, .i32⟩
  | 75 => ⟨S_, .i32⟩
  | 76 => ⟨S49152x31, .i32⟩
  | 77 => ⟨S49152x31, .i32⟩
  | 78 => ⟨S_, .i32⟩
  | 79 => ⟨S49152x31, .i32⟩
  | 80 => ⟨S49152x31, .i32⟩
  | 81 => ⟨S49152x31, .i32⟩
  | 82 => ⟨S49152x31, .i32⟩
  | 83 => ⟨S49152x31, .i32⟩
  | 84 => ⟨S_, .i32⟩
  | 85 => ⟨S49152x31, .i32⟩
  | 86 => ⟨S49152x31, .i32⟩
  | 87 => ⟨S_, .i32⟩
  | 88 => ⟨S49152x31, .i32⟩
  | 89 => ⟨S49152x31, .i32⟩
  | 90 => ⟨S49152x31, .i32⟩
  | 91 => ⟨S49152x31, .i32⟩
  | 92 => ⟨S49152x31, .i32⟩
  | 93 => ⟨S49152x31, .i32⟩
  | 94 => ⟨S49152x31, .i32⟩
  | 95 => ⟨S49152x31, .i32⟩
  | 96 => ⟨S_, .i32⟩
  | 97 => ⟨S49152x31, .i32⟩
  | 98 => ⟨S49152x31, .i32⟩
  | 99 => ⟨S49152x31, .i32⟩
  | 100 => ⟨S_, .i32⟩
  | 101 => ⟨S49152x31, .i32⟩
  | 102 => ⟨S49152x31, .i32⟩
  | 103 => ⟨S_, .i32⟩
  | 104 => ⟨S49152x31, .i32⟩
  | 105 => ⟨S49152x31, .i32⟩
  | 106 => ⟨S49152x31, .f32⟩
  | 107 => ⟨S_, .f32⟩
  | 108 => ⟨S49152x31, .f32⟩
  | 109 => ⟨S49152x31, .f32⟩
  | 110 => ⟨S_, .f32⟩
  | 111 => ⟨S49152x31, .f32⟩
  | 112 => ⟨S49152x31, .f32⟩
  | 113 => ⟨S_, .f32⟩
  | 114 => ⟨S49152x31, .f32⟩
  | 115 => ⟨S49152x31, .f32⟩
  | 116 => ⟨S_, .f32⟩
  | 117 => ⟨S49152x31, .f32⟩
  | 118 => ⟨S49152x31, .f32⟩
  | 119 => ⟨S49152x31, .f32⟩
  | 120 => ⟨S49152x31, .f32⟩
  | 121 => ⟨S49152x31, .f32⟩
  | 122 => ⟨S49152x31, .f32⟩
  | 123 => ⟨S49152x31, .f32⟩
  | 124 => ⟨S49152x1, .f32⟩
  | 125 => ⟨S49152x1, .i32⟩
  | 126 => ⟨S49152, .i32⟩
  | 127 => ⟨S16384x3, .i32⟩
  | _ => ⟨S16384x3x32x32, .f32⟩

abbrev hbmTy0_13 (i : Nat) : BufTy := match i % 128 with
  | 0 => ⟨S49152x31, .f32⟩
  | 1 => ⟨S49152, .i32⟩
  | 2 => ⟨S49152, .i32⟩
  | 3 => ⟨S_, .i32⟩
  | 4 => ⟨S49152, .i32⟩
  | 5 => ⟨S49152, .i1⟩
  | 6 => ⟨S_, .i32⟩
  | 7 => ⟨S49152, .i32⟩
  | 8 => ⟨S49152, .i32⟩
  | 9 => ⟨S49152, .i32⟩
  | 10 => ⟨S_, .i32⟩
  | 11 => ⟨S49152, .i32⟩
  | 12 => ⟨S49152, .i1⟩
  | 13 => ⟨S_, .i32⟩
  | 14 => ⟨S49152, .i32⟩
  | 15 => ⟨S49152, .i32⟩
  | 16 => ⟨S49152, .i32⟩
  | 17 => ⟨S49152x1, .i32⟩
  | 18 => ⟨S49152x1, .i32⟩
  | 19 => ⟨S49152x2, .i32⟩
  | 20 => ⟨S49152, .f32⟩
  | 21 => ⟨S16384x3, .f32⟩
  | 22 => ⟨S_, .f32⟩
  | 23 => ⟨S16384x3, .f32⟩
  | 24 => ⟨S16384x3, .f32⟩
  | 25 => ⟨S16384, .i32⟩
  | 26 => ⟨S_, .i32⟩
  | 27 => ⟨S16384, .i32⟩
  | 28 => ⟨S16384, .i1⟩
  | 29 => ⟨S_, .i32⟩
  | 30 => ⟨S16384, .i32⟩
  | 31 => ⟨S16384, .i32⟩
  | 32 => ⟨S16384, .i32⟩
  | 33 => ⟨S_, .i32⟩
  | 34 => ⟨S16384, .i32⟩
  | 35 => ⟨S16384, .i1⟩
  | 36 => ⟨S_, .i32⟩
  | 37 => ⟨S16384, .i32⟩
  | 38 => ⟨S16384, .i32⟩
  | 39 => ⟨S16384, .i32⟩
  | 40 => ⟨S16384x1, .i32⟩
  | 41 => ⟨S16384x1, .i32⟩
  | 42 => ⟨S16384x2, .i32⟩
  | 43 => ⟨S16384, .f32⟩
  | 44 => ⟨S_, .f32⟩
  | 45 => ⟨S16384, .f32⟩
  | 46 => ⟨S16384, .f32⟩
  | 47 => ⟨S16384x1, .f32⟩
  | _ => ⟨S16384x3x32x32, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | _ => ⟨S16384x3x32x32, .f32⟩

abbrev bufTy : (tb : Table) → Fin (tcTables nBuf tb) → BufTy
  | .hbm, ⟨i, _⟩ => hbmTy i
  | _, _ => ⟨S16384x3x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_5 : Ref sig .tc := ⟨.hbm, 37, rfl⟩
abbrev main_v25 : Ref sig .tc := ⟨.hbm, 38, rfl⟩
abbrev main_v26 : Ref sig .tc := ⟨.hbm, 39, rfl⟩
abbrev main_c_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_7 : Ref sig .tc := ⟨.hbm, 46, rfl⟩
abbrev main_v32 : Ref sig .tc := ⟨.hbm, 47, rfl⟩
abbrev main_v33 : Ref sig .tc := ⟨.hbm, 48, rfl⟩
abbrev main_c_8 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_9 : Ref sig .tc := ⟨.hbm, 55, rfl⟩
abbrev main_v39 : Ref sig .tc := ⟨.hbm, 56, rfl⟩
abbrev main_v40 : Ref sig .tc := ⟨.hbm, 57, rfl⟩
abbrev main_c_10 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_11 : Ref sig .tc := ⟨.hbm, 64, rfl⟩
abbrev main_v46 : Ref sig .tc := ⟨.hbm, 65, rfl⟩
abbrev main_v47 : Ref sig .tc := ⟨.hbm, 66, rfl⟩
abbrev main_c_12 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_c_13 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_c_14 : Ref sig .tc := ⟨.hbm, 80, rfl⟩
abbrev main_v59 : Ref sig .tc := ⟨.hbm, 81, rfl⟩
abbrev main_v60 : Ref sig .tc := ⟨.hbm, 82, rfl⟩
abbrev main_c_15 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_c_16 : Ref sig .tc := ⟨.hbm, 89, rfl⟩
abbrev main_v66 : Ref sig .tc := ⟨.hbm, 90, rfl⟩
abbrev main_v67 : Ref sig .tc := ⟨.hbm, 91, rfl⟩
abbrev main_c_17 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_c_18 : Ref sig .tc := ⟨.hbm, 98, rfl⟩
abbrev main_v73 : Ref sig .tc := ⟨.hbm, 99, rfl⟩
abbrev main_v74 : Ref sig .tc := ⟨.hbm, 100, rfl⟩
abbrev main_c_19 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_c_20 : Ref sig .tc := ⟨.hbm, 107, rfl⟩
abbrev main_v80 : Ref sig .tc := ⟨.hbm, 108, rfl⟩
abbrev main_v81 : Ref sig .tc := ⟨.hbm, 109, rfl⟩
abbrev main_c_21 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_c_22 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_c_23 : Ref sig .tc := ⟨.hbm, 123, rfl⟩
abbrev main_v93 : Ref sig .tc := ⟨.hbm, 124, rfl⟩
abbrev main_v94 : Ref sig .tc := ⟨.hbm, 125, rfl⟩
abbrev main_c_24 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_c_25 : Ref sig .tc := ⟨.hbm, 132, rfl⟩
abbrev main_v100 : Ref sig .tc := ⟨.hbm, 133, rfl⟩
abbrev main_v101 : Ref sig .tc := ⟨.hbm, 134, rfl⟩
abbrev main_c_26 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_c_27 : Ref sig .tc := ⟨.hbm, 141, rfl⟩
abbrev main_v107 : Ref sig .tc := ⟨.hbm, 142, rfl⟩
abbrev main_v108 : Ref sig .tc := ⟨.hbm, 143, rfl⟩
abbrev main_c_28 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_c_29 : Ref sig .tc := ⟨.hbm, 150, rfl⟩
abbrev main_v114 : Ref sig .tc := ⟨.hbm, 151, rfl⟩
abbrev main_v115 : Ref sig .tc := ⟨.hbm, 152, rfl⟩
abbrev main_c_30 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_c_31 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_c_32 : Ref sig .tc := ⟨.hbm, 166, rfl⟩
abbrev main_v127 : Ref sig .tc := ⟨.hbm, 167, rfl⟩
abbrev main_v128 : Ref sig .tc := ⟨.hbm, 168, rfl⟩
abbrev main_c_33 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_c_34 : Ref sig .tc := ⟨.hbm, 175, rfl⟩
abbrev main_v134 : Ref sig .tc := ⟨.hbm, 176, rfl⟩
abbrev main_v135 : Ref sig .tc := ⟨.hbm, 177, rfl⟩
abbrev main_c_35 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_c_36 : Ref sig .tc := ⟨.hbm, 184, rfl⟩
abbrev main_v141 : Ref sig .tc := ⟨.hbm, 185, rfl⟩
abbrev main_v142 : Ref sig .tc := ⟨.hbm, 186, rfl⟩
abbrev main_c_37 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_c_38 : Ref sig .tc := ⟨.hbm, 193, rfl⟩
abbrev main_v148 : Ref sig .tc := ⟨.hbm, 194, rfl⟩
abbrev main_v149 : Ref sig .tc := ⟨.hbm, 195, rfl⟩
abbrev main_c_39 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_c_40 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_c_41 : Ref sig .tc := ⟨.hbm, 209, rfl⟩
abbrev main_v161 : Ref sig .tc := ⟨.hbm, 210, rfl⟩
abbrev main_v162 : Ref sig .tc := ⟨.hbm, 211, rfl⟩
abbrev main_c_42 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_c_43 : Ref sig .tc := ⟨.hbm, 218, rfl⟩
abbrev main_v168 : Ref sig .tc := ⟨.hbm, 219, rfl⟩
abbrev main_v169 : Ref sig .tc := ⟨.hbm, 220, rfl⟩
abbrev main_c_44 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_c_45 : Ref sig .tc := ⟨.hbm, 227, rfl⟩
abbrev main_v175 : Ref sig .tc := ⟨.hbm, 228, rfl⟩
abbrev main_v176 : Ref sig .tc := ⟨.hbm, 229, rfl⟩
abbrev main_c_46 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_c_47 : Ref sig .tc := ⟨.hbm, 236, rfl⟩
abbrev main_v182 : Ref sig .tc := ⟨.hbm, 237, rfl⟩
abbrev main_v183 : Ref sig .tc := ⟨.hbm, 238, rfl⟩
abbrev main_c_48 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_c_49 : Ref sig .tc := ⟨.hbm, 248, rfl⟩
abbrev main_v192 : Ref sig .tc := ⟨.hbm, 249, rfl⟩
abbrev main_v193 : Ref sig .tc := ⟨.hbm, 250, rfl⟩
abbrev main_v194 : Ref sig .tc := ⟨.hbm, 251, rfl⟩
abbrev main_v195 : Ref sig .tc := ⟨.hbm, 252, rfl⟩
abbrev main_v196 : Ref sig .tc := ⟨.hbm, 253, rfl⟩
abbrev main_v197 : Ref sig .tc := ⟨.hbm, 254, rfl⟩
abbrev main_v198 : Ref sig .tc := ⟨.hbm, 255, rfl⟩
abbrev main_v199 : Ref sig .tc := ⟨.hbm, 256, rfl⟩
abbrev main_v200 : Ref sig .tc := ⟨.hbm, 257, rfl⟩
abbrev main_v201 : Ref sig .tc := ⟨.hbm, 258, rfl⟩
abbrev main_v202 : Ref sig .tc := ⟨.hbm, 259, rfl⟩
abbrev main_v203 : Ref sig .tc := ⟨.hbm, 260, rfl⟩
abbrev main_v204 : Ref sig .tc := ⟨.hbm, 261, rfl⟩
abbrev main_v205 : Ref sig .tc := ⟨.hbm, 262, rfl⟩
abbrev main_v206 : Ref sig .tc := ⟨.hbm, 263, rfl⟩
abbrev main_cst : Ref sig .tc := ⟨.hbm, 264, rfl⟩
abbrev main_v207 : Ref sig .tc := ⟨.hbm, 265, rfl⟩
abbrev main_cst_50 : Ref sig .tc := ⟨.hbm, 266, rfl⟩
abbrev main_v208 : Ref sig .tc := ⟨.hbm, 267, rfl⟩
abbrev main_v209 : Ref sig .tc := ⟨.hbm, 268, rfl⟩
abbrev main_v210 : Ref sig .tc := ⟨.hbm, 269, rfl⟩
abbrev main_v211 : Ref sig .tc := ⟨.hbm, 270, rfl⟩
abbrev main_v212 : Ref sig .tc := ⟨.hbm, 271, rfl⟩
abbrev main_v213 : Ref sig .tc := ⟨.hbm, 272, rfl⟩
abbrev main_cst_51 : Ref sig .tc := ⟨.hbm, 273, rfl⟩
abbrev main_v214 : Ref sig .tc := ⟨.hbm, 274, rfl⟩
abbrev main_v215 : Ref sig .tc := ⟨.hbm, 275, rfl⟩
abbrev main_v216 : Ref sig .tc := ⟨.hbm, 276, rfl⟩
abbrev main_v217 : Ref sig .tc := ⟨.hbm, 277, rfl⟩
abbrev main_cst_52 : Ref sig .tc := ⟨.hbm, 278, rfl⟩
abbrev main_v218 : Ref sig .tc := ⟨.hbm, 279, rfl⟩
abbrev main_cst_53 : Ref sig .tc := ⟨.hbm, 280, rfl⟩
abbrev main_v219 : Ref sig .tc := ⟨.hbm, 281, rfl⟩
abbrev main_v220 : Ref sig .tc := ⟨.hbm, 282, rfl⟩
abbrev main_v221 : Ref sig .tc := ⟨.hbm, 283, rfl⟩
abbrev main_v222 : Ref sig .tc := ⟨.hbm, 284, rfl⟩
abbrev main_v223 : Ref sig .tc := ⟨.hbm, 285, rfl⟩
abbrev main_v224 : Ref sig .tc := ⟨.hbm, 286, rfl⟩
abbrev main_cst_54 : Ref sig .tc := ⟨.hbm, 287, rfl⟩
abbrev main_v225 : Ref sig .tc := ⟨.hbm, 288, rfl⟩
abbrev main_v226 : Ref sig .tc := ⟨.hbm, 289, rfl⟩
abbrev main_v227 : Ref sig .tc := ⟨.hbm, 290, rfl⟩
abbrev main_v228 : Ref sig .tc := ⟨.hbm, 291, rfl⟩
abbrev main_v229 : Ref sig .tc := ⟨.hbm, 292, rfl⟩
abbrev main_v230 : Ref sig .tc := ⟨.hbm, 293, rfl⟩
abbrev main_v231 : Ref sig .tc := ⟨.hbm, 294, rfl⟩
abbrev main_v232 : Ref sig .tc := ⟨.hbm, 295, rfl⟩
abbrev main_v233 : Ref sig .tc := ⟨.hbm, 296, rfl⟩
abbrev main_v234 : Ref sig .tc := ⟨.hbm, 297, rfl⟩
abbrev main_v235 : Ref sig .tc := ⟨.hbm, 298, rfl⟩
abbrev main_c_55 : Ref sig .tc := ⟨.hbm, 299, rfl⟩
abbrev main_v236 : Ref sig .tc := ⟨.hbm, 300, rfl⟩
abbrev main_v237 : Ref sig .tc := ⟨.hbm, 301, rfl⟩
abbrev main_c_56 : Ref sig .tc := ⟨.hbm, 302, rfl⟩
abbrev main_v238 : Ref sig .tc := ⟨.hbm, 303, rfl⟩
abbrev main_v239 : Ref sig .tc := ⟨.hbm, 304, rfl⟩
abbrev main_v240 : Ref sig .tc := ⟨.hbm, 305, rfl⟩
abbrev main_c_57 : Ref sig .tc := ⟨.hbm, 306, rfl⟩
abbrev main_v241 : Ref sig .tc := ⟨.hbm, 307, rfl⟩
abbrev main_v242 : Ref sig .tc := ⟨.hbm, 308, rfl⟩
abbrev main_v243 : Ref sig .tc := ⟨.hbm, 309, rfl⟩
abbrev main_v244 : Ref sig .tc := ⟨.hbm, 310, rfl⟩
abbrev main_v245 : Ref sig .tc := ⟨.hbm, 311, rfl⟩
abbrev main_c_58 : Ref sig .tc := ⟨.hbm, 312, rfl⟩
abbrev main_v246 : Ref sig .tc := ⟨.hbm, 313, rfl⟩
abbrev main_v247 : Ref sig .tc := ⟨.hbm, 314, rfl⟩
abbrev main_v248 : Ref sig .tc := ⟨.hbm, 315, rfl⟩
abbrev main_v249 : Ref sig .tc := ⟨.hbm, 316, rfl⟩
abbrev main_v250 : Ref sig .tc := ⟨.hbm, 317, rfl⟩
abbrev main_v251 : Ref sig .tc := ⟨.hbm, 318, rfl⟩
abbrev main_c_59 : Ref sig .tc := ⟨.hbm, 319, rfl⟩
abbrev main_v252 : Ref sig .tc := ⟨.hbm, 320, rfl⟩
abbrev main_v253 : Ref sig .tc := ⟨.hbm, 321, rfl⟩
abbrev main_c_60 : Ref sig .tc := ⟨.hbm, 322, rfl⟩
abbrev main_v254 : Ref sig .tc := ⟨.hbm, 323, rfl⟩
abbrev main_v255 : Ref sig .tc := ⟨.hbm, 324, rfl⟩
abbrev main_v256 : Ref sig .tc := ⟨.hbm, 325, rfl⟩
abbrev main_v257 : Ref sig .tc := ⟨.hbm, 326, rfl⟩
abbrev main_v258 : Ref sig .tc := ⟨.hbm, 327, rfl⟩
abbrev main_c_61 : Ref sig .tc := ⟨.hbm, 328, rfl⟩
abbrev main_v259 : Ref sig .tc := ⟨.hbm, 329, rfl⟩
abbrev main_v260 : Ref sig .tc := ⟨.hbm, 330, rfl⟩
abbrev main_c_62 : Ref sig .tc := ⟨.hbm, 331, rfl⟩
abbrev main_v261 : Ref sig .tc := ⟨.hbm, 332, rfl⟩
abbrev main_v262 : Ref sig .tc := ⟨.hbm, 333, rfl⟩
abbrev main_v263 : Ref sig .tc := ⟨.hbm, 334, rfl⟩
abbrev main_v264 : Ref sig .tc := ⟨.hbm, 335, rfl⟩
abbrev main_v265 : Ref sig .tc := ⟨.hbm, 336, rfl⟩
abbrev main_c_63 : Ref sig .tc := ⟨.hbm, 337, rfl⟩
abbrev main_v266 : Ref sig .tc := ⟨.hbm, 338, rfl⟩
abbrev main_v267 : Ref sig .tc := ⟨.hbm, 339, rfl⟩
abbrev main_c_64 : Ref sig .tc := ⟨.hbm, 340, rfl⟩
abbrev main_v268 : Ref sig .tc := ⟨.hbm, 341, rfl⟩
abbrev main_v269 : Ref sig .tc := ⟨.hbm, 342, rfl⟩
abbrev main_v270 : Ref sig .tc := ⟨.hbm, 343, rfl⟩
abbrev main_v271 : Ref sig .tc := ⟨.hbm, 344, rfl⟩
abbrev main_v272 : Ref sig .tc := ⟨.hbm, 345, rfl⟩
abbrev main_c_65 : Ref sig .tc := ⟨.hbm, 346, rfl⟩
abbrev main_v273 : Ref sig .tc := ⟨.hbm, 347, rfl⟩
abbrev main_v274 : Ref sig .tc := ⟨.hbm, 348, rfl⟩
abbrev main_c_66 : Ref sig .tc := ⟨.hbm, 349, rfl⟩
abbrev main_v275 : Ref sig .tc := ⟨.hbm, 350, rfl⟩
abbrev main_v276 : Ref sig .tc := ⟨.hbm, 351, rfl⟩
abbrev main_v277 : Ref sig .tc := ⟨.hbm, 352, rfl⟩
abbrev main_v278 : Ref sig .tc := ⟨.hbm, 353, rfl⟩
abbrev main_v279 : Ref sig .tc := ⟨.hbm, 354, rfl⟩
abbrev main_v280 : Ref sig .tc := ⟨.hbm, 355, rfl⟩
abbrev main_v281 : Ref sig .tc := ⟨.hbm, 356, rfl⟩
abbrev main_v282 : Ref sig .tc := ⟨.hbm, 357, rfl⟩
abbrev main_c_67 : Ref sig .tc := ⟨.hbm, 358, rfl⟩
abbrev main_v283 : Ref sig .tc := ⟨.hbm, 359, rfl⟩
abbrev main_v284 : Ref sig .tc := ⟨.hbm, 360, rfl⟩
abbrev main_v285 : Ref sig .tc := ⟨.hbm, 361, rfl⟩
abbrev main_c_68 : Ref sig .tc := ⟨.hbm, 362, rfl⟩
abbrev main_v286 : Ref sig .tc := ⟨.hbm, 363, rfl⟩
abbrev main_v287 : Ref sig .tc := ⟨.hbm, 364, rfl⟩
abbrev main_c_69 : Ref sig .tc := ⟨.hbm, 365, rfl⟩
abbrev main_v288 : Ref sig .tc := ⟨.hbm, 366, rfl⟩
abbrev main_v289 : Ref sig .tc := ⟨.hbm, 367, rfl⟩
abbrev main_v290 : Ref sig .tc := ⟨.hbm, 368, rfl⟩
abbrev main_v291 : Ref sig .tc := ⟨.hbm, 369, rfl⟩
abbrev main_v292 : Ref sig .tc := ⟨.hbm, 370, rfl⟩
abbrev main_c_70 : Ref sig .tc := ⟨.hbm, 371, rfl⟩
abbrev main_v293 : Ref sig .tc := ⟨.hbm, 372, rfl⟩
abbrev main_v294 : Ref sig .tc := ⟨.hbm, 373, rfl⟩
abbrev main_c_71 : Ref sig .tc := ⟨.hbm, 374, rfl⟩
abbrev main_v295 : Ref sig .tc := ⟨.hbm, 375, rfl⟩
abbrev main_v296 : Ref sig .tc := ⟨.hbm, 376, rfl⟩
abbrev main_v297 : Ref sig .tc := ⟨.hbm, 377, rfl⟩
abbrev main_v298 : Ref sig .tc := ⟨.hbm, 378, rfl⟩
abbrev main_v299 : Ref sig .tc := ⟨.hbm, 379, rfl⟩
abbrev main_c_72 : Ref sig .tc := ⟨.hbm, 380, rfl⟩
abbrev main_v300 : Ref sig .tc := ⟨.hbm, 381, rfl⟩
abbrev main_v301 : Ref sig .tc := ⟨.hbm, 382, rfl⟩
abbrev main_c_73 : Ref sig .tc := ⟨.hbm, 383, rfl⟩
abbrev main_v302 : Ref sig .tc := ⟨.hbm, 384, rfl⟩
abbrev main_v303 : Ref sig .tc := ⟨.hbm, 385, rfl⟩
abbrev main_v304 : Ref sig .tc := ⟨.hbm, 386, rfl⟩
abbrev main_v305 : Ref sig .tc := ⟨.hbm, 387, rfl⟩
abbrev main_v306 : Ref sig .tc := ⟨.hbm, 388, rfl⟩
abbrev main_c_74 : Ref sig .tc := ⟨.hbm, 389, rfl⟩
abbrev main_v307 : Ref sig .tc := ⟨.hbm, 390, rfl⟩
abbrev main_v308 : Ref sig .tc := ⟨.hbm, 391, rfl⟩
abbrev main_c_75 : Ref sig .tc := ⟨.hbm, 392, rfl⟩
abbrev main_v309 : Ref sig .tc := ⟨.hbm, 393, rfl⟩
abbrev main_v310 : Ref sig .tc := ⟨.hbm, 394, rfl⟩
abbrev main_v311 : Ref sig .tc := ⟨.hbm, 395, rfl⟩
abbrev main_v312 : Ref sig .tc := ⟨.hbm, 396, rfl⟩
abbrev main_v313 : Ref sig .tc := ⟨.hbm, 397, rfl⟩
abbrev main_v314 : Ref sig .tc := ⟨.hbm, 398, rfl⟩
abbrev main_v315 : Ref sig .tc := ⟨.hbm, 399, rfl⟩
abbrev main_v316 : Ref sig .tc := ⟨.hbm, 400, rfl⟩
abbrev main_c_76 : Ref sig .tc := ⟨.hbm, 401, rfl⟩
abbrev main_v317 : Ref sig .tc := ⟨.hbm, 402, rfl⟩
abbrev main_v318 : Ref sig .tc := ⟨.hbm, 403, rfl⟩
abbrev main_v319 : Ref sig .tc := ⟨.hbm, 404, rfl⟩
abbrev main_c_77 : Ref sig .tc := ⟨.hbm, 405, rfl⟩
abbrev main_v320 : Ref sig .tc := ⟨.hbm, 406, rfl⟩
abbrev main_v321 : Ref sig .tc := ⟨.hbm, 407, rfl⟩
abbrev main_c_78 : Ref sig .tc := ⟨.hbm, 408, rfl⟩
abbrev main_v322 : Ref sig .tc := ⟨.hbm, 409, rfl⟩
abbrev main_v323 : Ref sig .tc := ⟨.hbm, 410, rfl⟩
abbrev main_v324 : Ref sig .tc := ⟨.hbm, 411, rfl⟩
abbrev main_v325 : Ref sig .tc := ⟨.hbm, 412, rfl⟩
abbrev main_v326 : Ref sig .tc := ⟨.hbm, 413, rfl⟩
abbrev main_c_79 : Ref sig .tc := ⟨.hbm, 414, rfl⟩
abbrev main_v327 : Ref sig .tc := ⟨.hbm, 415, rfl⟩
abbrev main_v328 : Ref sig .tc := ⟨.hbm, 416, rfl⟩
abbrev main_c_80 : Ref sig .tc := ⟨.hbm, 417, rfl⟩
abbrev main_v329 : Ref sig .tc := ⟨.hbm, 418, rfl⟩
abbrev main_v330 : Ref sig .tc := ⟨.hbm, 419, rfl⟩
abbrev main_v331 : Ref sig .tc := ⟨.hbm, 420, rfl⟩
abbrev main_v332 : Ref sig .tc := ⟨.hbm, 421, rfl⟩
abbrev main_v333 : Ref sig .tc := ⟨.hbm, 422, rfl⟩
abbrev main_c_81 : Ref sig .tc := ⟨.hbm, 423, rfl⟩
abbrev main_v334 : Ref sig .tc := ⟨.hbm, 424, rfl⟩
abbrev main_v335 : Ref sig .tc := ⟨.hbm, 425, rfl⟩
abbrev main_c_82 : Ref sig .tc := ⟨.hbm, 426, rfl⟩
abbrev main_v336 : Ref sig .tc := ⟨.hbm, 427, rfl⟩
abbrev main_v337 : Ref sig .tc := ⟨.hbm, 428, rfl⟩
abbrev main_v338 : Ref sig .tc := ⟨.hbm, 429, rfl⟩
abbrev main_v339 : Ref sig .tc := ⟨.hbm, 430, rfl⟩
abbrev main_v340 : Ref sig .tc := ⟨.hbm, 431, rfl⟩
abbrev main_c_83 : Ref sig .tc := ⟨.hbm, 432, rfl⟩
abbrev main_v341 : Ref sig .tc := ⟨.hbm, 433, rfl⟩
abbrev main_v342 : Ref sig .tc := ⟨.hbm, 434, rfl⟩
abbrev main_c_84 : Ref sig .tc := ⟨.hbm, 435, rfl⟩
abbrev main_v343 : Ref sig .tc := ⟨.hbm, 436, rfl⟩
abbrev main_v344 : Ref sig .tc := ⟨.hbm, 437, rfl⟩
abbrev main_v345 : Ref sig .tc := ⟨.hbm, 438, rfl⟩
abbrev main_v346 : Ref sig .tc := ⟨.hbm, 439, rfl⟩
abbrev main_v347 : Ref sig .tc := ⟨.hbm, 440, rfl⟩
abbrev main_v348 : Ref sig .tc := ⟨.hbm, 441, rfl⟩
abbrev main_v349 : Ref sig .tc := ⟨.hbm, 442, rfl⟩
abbrev main_v350 : Ref sig .tc := ⟨.hbm, 443, rfl⟩
abbrev main_c_85 : Ref sig .tc := ⟨.hbm, 444, rfl⟩
abbrev main_v351 : Ref sig .tc := ⟨.hbm, 445, rfl⟩
abbrev main_v352 : Ref sig .tc := ⟨.hbm, 446, rfl⟩
abbrev main_v353 : Ref sig .tc := ⟨.hbm, 447, rfl⟩
abbrev main_c_86 : Ref sig .tc := ⟨.hbm, 448, rfl⟩
abbrev main_v354 : Ref sig .tc := ⟨.hbm, 449, rfl⟩
abbrev main_v355 : Ref sig .tc := ⟨.hbm, 450, rfl⟩
abbrev main_c_87 : Ref sig .tc := ⟨.hbm, 451, rfl⟩
abbrev main_v356 : Ref sig .tc := ⟨.hbm, 452, rfl⟩
abbrev main_v357 : Ref sig .tc := ⟨.hbm, 453, rfl⟩
abbrev main_v358 : Ref sig .tc := ⟨.hbm, 454, rfl⟩
abbrev main_v359 : Ref sig .tc := ⟨.hbm, 455, rfl⟩
abbrev main_v360 : Ref sig .tc := ⟨.hbm, 456, rfl⟩
abbrev main_c_88 : Ref sig .tc := ⟨.hbm, 457, rfl⟩
abbrev main_v361 : Ref sig .tc := ⟨.hbm, 458, rfl⟩
abbrev main_v362 : Ref sig .tc := ⟨.hbm, 459, rfl⟩
abbrev main_c_89 : Ref sig .tc := ⟨.hbm, 460, rfl⟩
abbrev main_v363 : Ref sig .tc := ⟨.hbm, 461, rfl⟩
abbrev main_v364 : Ref sig .tc := ⟨.hbm, 462, rfl⟩
abbrev main_v365 : Ref sig .tc := ⟨.hbm, 463, rfl⟩
abbrev main_v366 : Ref sig .tc := ⟨.hbm, 464, rfl⟩
abbrev main_v367 : Ref sig .tc := ⟨.hbm, 465, rfl⟩
abbrev main_c_90 : Ref sig .tc := ⟨.hbm, 466, rfl⟩
abbrev main_v368 : Ref sig .tc := ⟨.hbm, 467, rfl⟩
abbrev main_v369 : Ref sig .tc := ⟨.hbm, 468, rfl⟩
abbrev main_c_91 : Ref sig .tc := ⟨.hbm, 469, rfl⟩
abbrev main_v370 : Ref sig .tc := ⟨.hbm, 470, rfl⟩
abbrev main_v371 : Ref sig .tc := ⟨.hbm, 471, rfl⟩
abbrev main_v372 : Ref sig .tc := ⟨.hbm, 472, rfl⟩
abbrev main_v373 : Ref sig .tc := ⟨.hbm, 473, rfl⟩
abbrev main_v374 : Ref sig .tc := ⟨.hbm, 474, rfl⟩
abbrev main_c_92 : Ref sig .tc := ⟨.hbm, 475, rfl⟩
abbrev main_v375 : Ref sig .tc := ⟨.hbm, 476, rfl⟩
abbrev main_v376 : Ref sig .tc := ⟨.hbm, 477, rfl⟩
abbrev main_c_93 : Ref sig .tc := ⟨.hbm, 478, rfl⟩
abbrev main_v377 : Ref sig .tc := ⟨.hbm, 479, rfl⟩
abbrev main_v378 : Ref sig .tc := ⟨.hbm, 480, rfl⟩
abbrev main_v379 : Ref sig .tc := ⟨.hbm, 481, rfl⟩
abbrev main_v380 : Ref sig .tc := ⟨.hbm, 482, rfl⟩
abbrev main_v381 : Ref sig .tc := ⟨.hbm, 483, rfl⟩
abbrev main_v382 : Ref sig .tc := ⟨.hbm, 484, rfl⟩
abbrev main_v383 : Ref sig .tc := ⟨.hbm, 485, rfl⟩
abbrev main_v384 : Ref sig .tc := ⟨.hbm, 486, rfl⟩
abbrev main_c_94 : Ref sig .tc := ⟨.hbm, 487, rfl⟩
abbrev main_v385 : Ref sig .tc := ⟨.hbm, 488, rfl⟩
abbrev main_v386 : Ref sig .tc := ⟨.hbm, 489, rfl⟩
abbrev main_v387 : Ref sig .tc := ⟨.hbm, 490, rfl⟩
abbrev main_c_95 : Ref sig .tc := ⟨.hbm, 491, rfl⟩
abbrev main_v388 : Ref sig .tc := ⟨.hbm, 492, rfl⟩
abbrev main_v389 : Ref sig .tc := ⟨.hbm, 493, rfl⟩
abbrev main_c_96 : Ref sig .tc := ⟨.hbm, 494, rfl⟩
abbrev main_v390 : Ref sig .tc := ⟨.hbm, 495, rfl⟩
abbrev main_v391 : Ref sig .tc := ⟨.hbm, 496, rfl⟩
abbrev main_v392 : Ref sig .tc := ⟨.hbm, 497, rfl⟩
abbrev main_v393 : Ref sig .tc := ⟨.hbm, 498, rfl⟩
abbrev main_v394 : Ref sig .tc := ⟨.hbm, 499, rfl⟩
abbrev main_c_97 : Ref sig .tc := ⟨.hbm, 500, rfl⟩
abbrev main_v395 : Ref sig .tc := ⟨.hbm, 501, rfl⟩
abbrev main_v396 : Ref sig .tc := ⟨.hbm, 502, rfl⟩
abbrev main_c_98 : Ref sig .tc := ⟨.hbm, 503, rfl⟩
abbrev main_v397 : Ref sig .tc := ⟨.hbm, 504, rfl⟩
abbrev main_v398 : Ref sig .tc := ⟨.hbm, 505, rfl⟩
abbrev main_v399 : Ref sig .tc := ⟨.hbm, 506, rfl⟩
abbrev main_v400 : Ref sig .tc := ⟨.hbm, 507, rfl⟩
abbrev main_v401 : Ref sig .tc := ⟨.hbm, 508, rfl⟩
abbrev main_c_99 : Ref sig .tc := ⟨.hbm, 509, rfl⟩
abbrev main_v402 : Ref sig .tc := ⟨.hbm, 510, rfl⟩
abbrev main_v403 : Ref sig .tc := ⟨.hbm, 511, rfl⟩
abbrev main_c_100 : Ref sig .tc := ⟨.hbm, 512, rfl⟩
abbrev main_v404 : Ref sig .tc := ⟨.hbm, 513, rfl⟩
abbrev main_v405 : Ref sig .tc := ⟨.hbm, 514, rfl⟩
abbrev main_v406 : Ref sig .tc := ⟨.hbm, 515, rfl⟩
abbrev main_v407 : Ref sig .tc := ⟨.hbm, 516, rfl⟩
abbrev main_v408 : Ref sig .tc := ⟨.hbm, 517, rfl⟩
abbrev main_c_101 : Ref sig .tc := ⟨.hbm, 518, rfl⟩
abbrev main_v409 : Ref sig .tc := ⟨.hbm, 519, rfl⟩
abbrev main_v410 : Ref sig .tc := ⟨.hbm, 520, rfl⟩
abbrev main_c_102 : Ref sig .tc := ⟨.hbm, 521, rfl⟩
abbrev main_v411 : Ref sig .tc := ⟨.hbm, 522, rfl⟩
abbrev main_v412 : Ref sig .tc := ⟨.hbm, 523, rfl⟩
abbrev main_v413 : Ref sig .tc := ⟨.hbm, 524, rfl⟩
abbrev main_v414 : Ref sig .tc := ⟨.hbm, 525, rfl⟩
abbrev main_v415 : Ref sig .tc := ⟨.hbm, 526, rfl⟩
abbrev main_v416 : Ref sig .tc := ⟨.hbm, 527, rfl⟩
abbrev main_v417 : Ref sig .tc := ⟨.hbm, 528, rfl⟩
abbrev main_v418 : Ref sig .tc := ⟨.hbm, 529, rfl⟩
abbrev main_c_103 : Ref sig .tc := ⟨.hbm, 530, rfl⟩
abbrev main_v419 : Ref sig .tc := ⟨.hbm, 531, rfl⟩
abbrev main_v420 : Ref sig .tc := ⟨.hbm, 532, rfl⟩
abbrev main_v421 : Ref sig .tc := ⟨.hbm, 533, rfl⟩
abbrev main_c_104 : Ref sig .tc := ⟨.hbm, 534, rfl⟩
abbrev main_v422 : Ref sig .tc := ⟨.hbm, 535, rfl⟩
abbrev main_v423 : Ref sig .tc := ⟨.hbm, 536, rfl⟩
abbrev main_c_105 : Ref sig .tc := ⟨.hbm, 537, rfl⟩
abbrev main_v424 : Ref sig .tc := ⟨.hbm, 538, rfl⟩
abbrev main_v425 : Ref sig .tc := ⟨.hbm, 539, rfl⟩
abbrev main_v426 : Ref sig .tc := ⟨.hbm, 540, rfl⟩
abbrev main_cst_106 : Ref sig .tc := ⟨.hbm, 541, rfl⟩
abbrev main_v427 : Ref sig .tc := ⟨.hbm, 542, rfl⟩
abbrev main_v428 : Ref sig .tc := ⟨.hbm, 543, rfl⟩
abbrev main_cst_107 : Ref sig .tc := ⟨.hbm, 544, rfl⟩
abbrev main_v429 : Ref sig .tc := ⟨.hbm, 545, rfl⟩
abbrev main_v430 : Ref sig .tc := ⟨.hbm, 546, rfl⟩
abbrev main_cst_108 : Ref sig .tc := ⟨.hbm, 547, rfl⟩
abbrev main_v431 : Ref sig .tc := ⟨.hbm, 548, rfl⟩
abbrev main_v432 : Ref sig .tc := ⟨.hbm, 549, rfl⟩
abbrev main_cst_109 : Ref sig .tc := ⟨.hbm, 550, rfl⟩
abbrev main_v433 : Ref sig .tc := ⟨.hbm, 551, rfl⟩
abbrev main_v434 : Ref sig .tc := ⟨.hbm, 552, rfl⟩
abbrev main_v435 : Ref sig .tc := ⟨.hbm, 553, rfl⟩
abbrev main_v436 : Ref sig .tc := ⟨.hbm, 554, rfl⟩
abbrev main_v437 : Ref sig .tc := ⟨.hbm, 555, rfl⟩
abbrev main_v438 : Ref sig .tc := ⟨.hbm, 556, rfl⟩
abbrev main_v439 : Ref sig .tc := ⟨.hbm, 557, rfl⟩
abbrev main_values : Ref sig .tc := ⟨.hbm, 558, rfl⟩
abbrev main_indices : Ref sig .tc := ⟨.hbm, 559, rfl⟩
abbrev main_v440 : Ref sig .tc := ⟨.hbm, 560, rfl⟩
abbrev main_c_110 : Ref sig .tc := ⟨.hbm, 561, rfl⟩
abbrev main_v441 : Ref sig .tc := ⟨.hbm, 562, rfl⟩
abbrev main_v442 : Ref sig .tc := ⟨.hbm, 563, rfl⟩
abbrev main_c_111 : Ref sig .tc := ⟨.hbm, 564, rfl⟩
abbrev main_v443 : Ref sig .tc := ⟨.hbm, 565, rfl⟩
abbrev main_v444 : Ref sig .tc := ⟨.hbm, 566, rfl⟩
abbrev main_v445 : Ref sig .tc := ⟨.hbm, 567, rfl⟩
abbrev main_v446 : Ref sig .tc := ⟨.hbm, 568, rfl⟩
abbrev main_v447 : Ref sig .tc := ⟨.hbm, 569, rfl⟩
abbrev main_c_112 : Ref sig .tc := ⟨.hbm, 570, rfl⟩
abbrev main_c_113 : Ref sig .tc := ⟨.hbm, 571, rfl⟩
abbrev main_v448 : Ref sig .tc := ⟨.hbm, 572, rfl⟩
abbrev main_c_114 : Ref sig .tc := ⟨.hbm, 573, rfl⟩
abbrev main_v449 : Ref sig .tc := ⟨.hbm, 574, rfl⟩
abbrev main_c_115 : Ref sig .tc := ⟨.hbm, 575, rfl⟩
abbrev main_v450 : Ref sig .tc := ⟨.hbm, 576, rfl⟩
abbrev main_c_116 : Ref sig .tc := ⟨.hbm, 577, rfl⟩
abbrev main_c_117 : Ref sig .tc := ⟨.hbm, 578, rfl⟩
abbrev main_v451 : Ref sig .tc := ⟨.hbm, 579, rfl⟩
abbrev main_c_118 : Ref sig .tc := ⟨.hbm, 580, rfl⟩
abbrev main_v452 : Ref sig .tc := ⟨.hbm, 581, rfl⟩
abbrev main_v453 : Ref sig .tc := ⟨.hbm, 582, rfl⟩
abbrev main_c_119 : Ref sig .tc := ⟨.hbm, 583, rfl⟩
abbrev main_c_120 : Ref sig .tc := ⟨.hbm, 584, rfl⟩
abbrev main_v454 : Ref sig .tc := ⟨.hbm, 585, rfl⟩
abbrev main_c_121 : Ref sig .tc := ⟨.hbm, 586, rfl⟩
abbrev main_v455 : Ref sig .tc := ⟨.hbm, 587, rfl⟩
abbrev main_v456 : Ref sig .tc := ⟨.hbm, 588, rfl⟩
abbrev main_v457 : Ref sig .tc := ⟨.hbm, 589, rfl⟩
abbrev main_v458 : Ref sig .tc := ⟨.hbm, 590, rfl⟩
abbrev main_v459 : Ref sig .tc := ⟨.hbm, 591, rfl⟩
abbrev main_v460 : Ref sig .tc := ⟨.hbm, 592, rfl⟩
abbrev main_v461 : Ref sig .tc := ⟨.hbm, 593, rfl⟩
abbrev main_v462 : Ref sig .tc := ⟨.hbm, 594, rfl⟩
abbrev main_v463 : Ref sig .tc := ⟨.hbm, 595, rfl⟩
abbrev main_c_122 : Ref sig .tc := ⟨.hbm, 596, rfl⟩
abbrev main_v464 : Ref sig .tc := ⟨.hbm, 597, rfl⟩
abbrev main_v465 : Ref sig .tc := ⟨.hbm, 598, rfl⟩
abbrev main_c_123 : Ref sig .tc := ⟨.hbm, 599, rfl⟩
abbrev main_v466 : Ref sig .tc := ⟨.hbm, 600, rfl⟩
abbrev main_v467 : Ref sig .tc := ⟨.hbm, 601, rfl⟩
abbrev main_v468 : Ref sig .tc := ⟨.hbm, 602, rfl⟩
abbrev main_v469 : Ref sig .tc := ⟨.hbm, 603, rfl⟩
abbrev main_v470 : Ref sig .tc := ⟨.hbm, 604, rfl⟩
abbrev main_c_124 : Ref sig .tc := ⟨.hbm, 605, rfl⟩
abbrev main_v471 : Ref sig .tc := ⟨.hbm, 606, rfl⟩
abbrev main_v472 : Ref sig .tc := ⟨.hbm, 607, rfl⟩
abbrev main_v473 : Ref sig .tc := ⟨.hbm, 608, rfl⟩
abbrev main_v474 : Ref sig .tc := ⟨.hbm, 609, rfl⟩
abbrev main_v475 : Ref sig .tc := ⟨.hbm, 610, rfl⟩
abbrev main_v476 : Ref sig .tc := ⟨.hbm, 611, rfl⟩
abbrev main_c_125 : Ref sig .tc := ⟨.hbm, 612, rfl⟩
abbrev main_v477 : Ref sig .tc := ⟨.hbm, 613, rfl⟩
abbrev main_v478 : Ref sig .tc := ⟨.hbm, 614, rfl⟩
abbrev main_c_126 : Ref sig .tc := ⟨.hbm, 615, rfl⟩
abbrev main_v479 : Ref sig .tc := ⟨.hbm, 616, rfl⟩
abbrev main_v480 : Ref sig .tc := ⟨.hbm, 617, rfl⟩
abbrev main_v481 : Ref sig .tc := ⟨.hbm, 618, rfl⟩
abbrev main_v482 : Ref sig .tc := ⟨.hbm, 619, rfl⟩
abbrev main_v483 : Ref sig .tc := ⟨.hbm, 620, rfl⟩
abbrev main_c_127 : Ref sig .tc := ⟨.hbm, 621, rfl⟩
abbrev main_v484 : Ref sig .tc := ⟨.hbm, 622, rfl⟩
abbrev main_v485 : Ref sig .tc := ⟨.hbm, 623, rfl⟩
abbrev main_c_128 : Ref sig .tc := ⟨.hbm, 624, rfl⟩
abbrev main_v486 : Ref sig .tc := ⟨.hbm, 625, rfl⟩
abbrev main_v487 : Ref sig .tc := ⟨.hbm, 626, rfl⟩
abbrev main_v488 : Ref sig .tc := ⟨.hbm, 627, rfl⟩
abbrev main_v489 : Ref sig .tc := ⟨.hbm, 628, rfl⟩
abbrev main_v490 : Ref sig .tc := ⟨.hbm, 629, rfl⟩
abbrev main_c_129 : Ref sig .tc := ⟨.hbm, 630, rfl⟩
abbrev main_v491 : Ref sig .tc := ⟨.hbm, 631, rfl⟩
abbrev main_v492 : Ref sig .tc := ⟨.hbm, 632, rfl⟩
abbrev main_c_130 : Ref sig .tc := ⟨.hbm, 633, rfl⟩
abbrev main_v493 : Ref sig .tc := ⟨.hbm, 634, rfl⟩
abbrev main_v494 : Ref sig .tc := ⟨.hbm, 635, rfl⟩
abbrev main_v495 : Ref sig .tc := ⟨.hbm, 636, rfl⟩
abbrev main_v496 : Ref sig .tc := ⟨.hbm, 637, rfl⟩
abbrev main_v497 : Ref sig .tc := ⟨.hbm, 638, rfl⟩
abbrev main_c_131 : Ref sig .tc := ⟨.hbm, 639, rfl⟩
abbrev main_v498 : Ref sig .tc := ⟨.hbm, 640, rfl⟩
abbrev main_v499 : Ref sig .tc := ⟨.hbm, 641, rfl⟩
abbrev main_c_132 : Ref sig .tc := ⟨.hbm, 642, rfl⟩
abbrev main_v500 : Ref sig .tc := ⟨.hbm, 643, rfl⟩
abbrev main_v501 : Ref sig .tc := ⟨.hbm, 644, rfl⟩
abbrev main_v502 : Ref sig .tc := ⟨.hbm, 645, rfl⟩
abbrev main_v503 : Ref sig .tc := ⟨.hbm, 646, rfl⟩
abbrev main_v504 : Ref sig .tc := ⟨.hbm, 647, rfl⟩
abbrev main_v505 : Ref sig .tc := ⟨.hbm, 648, rfl⟩
abbrev main_v506 : Ref sig .tc := ⟨.hbm, 649, rfl⟩
abbrev main_v507 : Ref sig .tc := ⟨.hbm, 650, rfl⟩
abbrev main_c_133 : Ref sig .tc := ⟨.hbm, 651, rfl⟩
abbrev main_v508 : Ref sig .tc := ⟨.hbm, 652, rfl⟩
abbrev main_v509 : Ref sig .tc := ⟨.hbm, 653, rfl⟩
abbrev main_v510 : Ref sig .tc := ⟨.hbm, 654, rfl⟩
abbrev main_c_134 : Ref sig .tc := ⟨.hbm, 655, rfl⟩
abbrev main_v511 : Ref sig .tc := ⟨.hbm, 656, rfl⟩
abbrev main_v512 : Ref sig .tc := ⟨.hbm, 657, rfl⟩
abbrev main_c_135 : Ref sig .tc := ⟨.hbm, 658, rfl⟩
abbrev main_v513 : Ref sig .tc := ⟨.hbm, 659, rfl⟩
abbrev main_v514 : Ref sig .tc := ⟨.hbm, 660, rfl⟩
abbrev main_v515 : Ref sig .tc := ⟨.hbm, 661, rfl⟩
abbrev main_v516 : Ref sig .tc := ⟨.hbm, 662, rfl⟩
abbrev main_v517 : Ref sig .tc := ⟨.hbm, 663, rfl⟩
abbrev main_c_136 : Ref sig .tc := ⟨.hbm, 664, rfl⟩
abbrev main_v518 : Ref sig .tc := ⟨.hbm, 665, rfl⟩
abbrev main_v519 : Ref sig .tc := ⟨.hbm, 666, rfl⟩
abbrev main_c_137 : Ref sig .tc := ⟨.hbm, 667, rfl⟩
abbrev main_v520 : Ref sig .tc := ⟨.hbm, 668, rfl⟩
abbrev main_v521 : Ref sig .tc := ⟨.hbm, 669, rfl⟩
abbrev main_v522 : Ref sig .tc := ⟨.hbm, 670, rfl⟩
abbrev main_v523 : Ref sig .tc := ⟨.hbm, 671, rfl⟩
abbrev main_v524 : Ref sig .tc := ⟨.hbm, 672, rfl⟩
abbrev main_c_138 : Ref sig .tc := ⟨.hbm, 673, rfl⟩
abbrev main_v525 : Ref sig .tc := ⟨.hbm, 674, rfl⟩
abbrev main_v526 : Ref sig .tc := ⟨.hbm, 675, rfl⟩
abbrev main_c_139 : Ref sig .tc := ⟨.hbm, 676, rfl⟩
abbrev main_v527 : Ref sig .tc := ⟨.hbm, 677, rfl⟩
abbrev main_v528 : Ref sig .tc := ⟨.hbm, 678, rfl⟩
abbrev main_v529 : Ref sig .tc := ⟨.hbm, 679, rfl⟩
abbrev main_v530 : Ref sig .tc := ⟨.hbm, 680, rfl⟩
abbrev main_v531 : Ref sig .tc := ⟨.hbm, 681, rfl⟩
abbrev main_c_140 : Ref sig .tc := ⟨.hbm, 682, rfl⟩
abbrev main_v532 : Ref sig .tc := ⟨.hbm, 683, rfl⟩
abbrev main_v533 : Ref sig .tc := ⟨.hbm, 684, rfl⟩
abbrev main_c_141 : Ref sig .tc := ⟨.hbm, 685, rfl⟩
abbrev main_v534 : Ref sig .tc := ⟨.hbm, 686, rfl⟩
abbrev main_v535 : Ref sig .tc := ⟨.hbm, 687, rfl⟩
abbrev main_v536 : Ref sig .tc := ⟨.hbm, 688, rfl⟩
abbrev main_v537 : Ref sig .tc := ⟨.hbm, 689, rfl⟩
abbrev main_v538 : Ref sig .tc := ⟨.hbm, 690, rfl⟩
abbrev main_v539 : Ref sig .tc := ⟨.hbm, 691, rfl⟩
abbrev main_v540 : Ref sig .tc := ⟨.hbm, 692, rfl⟩
abbrev main_v541 : Ref sig .tc := ⟨.hbm, 693, rfl⟩
abbrev main_c_142 : Ref sig .tc := ⟨.hbm, 694, rfl⟩
abbrev main_v542 : Ref sig .tc := ⟨.hbm, 695, rfl⟩
abbrev main_v543 : Ref sig .tc := ⟨.hbm, 696, rfl⟩
abbrev main_v544 : Ref sig .tc := ⟨.hbm, 697, rfl⟩
abbrev main_c_143 : Ref sig .tc := ⟨.hbm, 698, rfl⟩
abbrev main_v545 : Ref sig .tc := ⟨.hbm, 699, rfl⟩
abbrev main_v546 : Ref sig .tc := ⟨.hbm, 700, rfl⟩
abbrev main_c_144 : Ref sig .tc := ⟨.hbm, 701, rfl⟩
abbrev main_v547 : Ref sig .tc := ⟨.hbm, 702, rfl⟩
abbrev main_v548 : Ref sig .tc := ⟨.hbm, 703, rfl⟩
abbrev main_v549 : Ref sig .tc := ⟨.hbm, 704, rfl⟩
abbrev main_v550 : Ref sig .tc := ⟨.hbm, 705, rfl⟩
abbrev main_v551 : Ref sig .tc := ⟨.hbm, 706, rfl⟩
abbrev main_c_145 : Ref sig .tc := ⟨.hbm, 707, rfl⟩
abbrev main_v552 : Ref sig .tc := ⟨.hbm, 708, rfl⟩
abbrev main_v553 : Ref sig .tc := ⟨.hbm, 709, rfl⟩
abbrev main_c_146 : Ref sig .tc := ⟨.hbm, 710, rfl⟩
abbrev main_v554 : Ref sig .tc := ⟨.hbm, 711, rfl⟩
abbrev main_v555 : Ref sig .tc := ⟨.hbm, 712, rfl⟩
abbrev main_v556 : Ref sig .tc := ⟨.hbm, 713, rfl⟩
abbrev main_v557 : Ref sig .tc := ⟨.hbm, 714, rfl⟩
abbrev main_v558 : Ref sig .tc := ⟨.hbm, 715, rfl⟩
abbrev main_c_147 : Ref sig .tc := ⟨.hbm, 716, rfl⟩
abbrev main_v559 : Ref sig .tc := ⟨.hbm, 717, rfl⟩
abbrev main_v560 : Ref sig .tc := ⟨.hbm, 718, rfl⟩
abbrev main_c_148 : Ref sig .tc := ⟨.hbm, 719, rfl⟩
abbrev main_v561 : Ref sig .tc := ⟨.hbm, 720, rfl⟩
abbrev main_v562 : Ref sig .tc := ⟨.hbm, 721, rfl⟩
abbrev main_v563 : Ref sig .tc := ⟨.hbm, 722, rfl⟩
abbrev main_v564 : Ref sig .tc := ⟨.hbm, 723, rfl⟩
abbrev main_v565 : Ref sig .tc := ⟨.hbm, 724, rfl⟩
abbrev main_c_149 : Ref sig .tc := ⟨.hbm, 725, rfl⟩
abbrev main_v566 : Ref sig .tc := ⟨.hbm, 726, rfl⟩
abbrev main_v567 : Ref sig .tc := ⟨.hbm, 727, rfl⟩
abbrev main_c_150 : Ref sig .tc := ⟨.hbm, 728, rfl⟩
abbrev main_v568 : Ref sig .tc := ⟨.hbm, 729, rfl⟩
abbrev main_v569 : Ref sig .tc := ⟨.hbm, 730, rfl⟩
abbrev main_v570 : Ref sig .tc := ⟨.hbm, 731, rfl⟩
abbrev main_v571 : Ref sig .tc := ⟨.hbm, 732, rfl⟩
abbrev main_v572 : Ref sig .tc := ⟨.hbm, 733, rfl⟩
abbrev main_v573 : Ref sig .tc := ⟨.hbm, 734, rfl⟩
abbrev main_v574 : Ref sig .tc := ⟨.hbm, 735, rfl⟩
abbrev main_v575 : Ref sig .tc := ⟨.hbm, 736, rfl⟩
abbrev main_c_151 : Ref sig .tc := ⟨.hbm, 737, rfl⟩
abbrev main_v576 : Ref sig .tc := ⟨.hbm, 738, rfl⟩
abbrev main_v577 : Ref sig .tc := ⟨.hbm, 739, rfl⟩
abbrev main_v578 : Ref sig .tc := ⟨.hbm, 740, rfl⟩
abbrev main_c_152 : Ref sig .tc := ⟨.hbm, 741, rfl⟩
abbrev main_v579 : Ref sig .tc := ⟨.hbm, 742, rfl⟩
abbrev main_v580 : Ref sig .tc := ⟨.hbm, 743, rfl⟩
abbrev main_c_153 : Ref sig .tc := ⟨.hbm, 744, rfl⟩
abbrev main_v581 : Ref sig .tc := ⟨.hbm, 745, rfl⟩
abbrev main_v582 : Ref sig .tc := ⟨.hbm, 746, rfl⟩
abbrev main_v583 : Ref sig .tc := ⟨.hbm, 747, rfl⟩
abbrev main_v584 : Ref sig .tc := ⟨.hbm, 748, rfl⟩
abbrev main_v585 : Ref sig .tc := ⟨.hbm, 749, rfl⟩
abbrev main_c_154 : Ref sig .tc := ⟨.hbm, 750, rfl⟩
abbrev main_v586 : Ref sig .tc := ⟨.hbm, 751, rfl⟩
abbrev main_v587 : Ref sig .tc := ⟨.hbm, 752, rfl⟩
abbrev main_c_155 : Ref sig .tc := ⟨.hbm, 753, rfl⟩
abbrev main_v588 : Ref sig .tc := ⟨.hbm, 754, rfl⟩
abbrev main_v589 : Ref sig .tc := ⟨.hbm, 755, rfl⟩
abbrev main_v590 : Ref sig .tc := ⟨.hbm, 756, rfl⟩
abbrev main_v591 : Ref sig .tc := ⟨.hbm, 757, rfl⟩
abbrev main_v592 : Ref sig .tc := ⟨.hbm, 758, rfl⟩
abbrev main_c_156 : Ref sig .tc := ⟨.hbm, 759, rfl⟩
abbrev main_v593 : Ref sig .tc := ⟨.hbm, 760, rfl⟩
abbrev main_v594 : Ref sig .tc := ⟨.hbm, 761, rfl⟩
abbrev main_c_157 : Ref sig .tc := ⟨.hbm, 762, rfl⟩
abbrev main_v595 : Ref sig .tc := ⟨.hbm, 763, rfl⟩
abbrev main_v596 : Ref sig .tc := ⟨.hbm, 764, rfl⟩
abbrev main_v597 : Ref sig .tc := ⟨.hbm, 765, rfl⟩
abbrev main_v598 : Ref sig .tc := ⟨.hbm, 766, rfl⟩
abbrev main_v599 : Ref sig .tc := ⟨.hbm, 767, rfl⟩
abbrev main_c_158 : Ref sig .tc := ⟨.hbm, 768, rfl⟩
abbrev main_v600 : Ref sig .tc := ⟨.hbm, 769, rfl⟩
abbrev main_v601 : Ref sig .tc := ⟨.hbm, 770, rfl⟩
abbrev main_c_159 : Ref sig .tc := ⟨.hbm, 771, rfl⟩
abbrev main_v602 : Ref sig .tc := ⟨.hbm, 772, rfl⟩
abbrev main_v603 : Ref sig .tc := ⟨.hbm, 773, rfl⟩
abbrev main_v604 : Ref sig .tc := ⟨.hbm, 774, rfl⟩
abbrev main_v605 : Ref sig .tc := ⟨.hbm, 775, rfl⟩
abbrev main_v606 : Ref sig .tc := ⟨.hbm, 776, rfl⟩
abbrev main_v607 : Ref sig .tc := ⟨.hbm, 777, rfl⟩
abbrev main_v608 : Ref sig .tc := ⟨.hbm, 778, rfl⟩
abbrev main_v609 : Ref sig .tc := ⟨.hbm, 779, rfl⟩
abbrev main_c_160 : Ref sig .tc := ⟨.hbm, 780, rfl⟩
abbrev main_v610 : Ref sig .tc := ⟨.hbm, 781, rfl⟩
abbrev main_v611 : Ref sig .tc := ⟨.hbm, 782, rfl⟩
abbrev main_v612 : Ref sig .tc := ⟨.hbm, 783, rfl⟩
abbrev main_c_161 : Ref sig .tc := ⟨.hbm, 784, rfl⟩
abbrev main_v613 : Ref sig .tc := ⟨.hbm, 785, rfl⟩
abbrev main_v614 : Ref sig .tc := ⟨.hbm, 786, rfl⟩
abbrev main_c_162 : Ref sig .tc := ⟨.hbm, 787, rfl⟩
abbrev main_v615 : Ref sig .tc := ⟨.hbm, 788, rfl⟩
abbrev main_v616 : Ref sig .tc := ⟨.hbm, 789, rfl⟩
abbrev main_v617 : Ref sig .tc := ⟨.hbm, 790, rfl⟩
abbrev main_v618 : Ref sig .tc := ⟨.hbm, 791, rfl⟩
abbrev main_v619 : Ref sig .tc := ⟨.hbm, 792, rfl⟩
abbrev main_c_163 : Ref sig .tc := ⟨.hbm, 793, rfl⟩
abbrev main_v620 : Ref sig .tc := ⟨.hbm, 794, rfl⟩
abbrev main_v621 : Ref sig .tc := ⟨.hbm, 795, rfl⟩
abbrev main_c_164 : Ref sig .tc := ⟨.hbm, 796, rfl⟩
abbrev main_v622 : Ref sig .tc := ⟨.hbm, 797, rfl⟩
abbrev main_v623 : Ref sig .tc := ⟨.hbm, 798, rfl⟩
abbrev main_v624 : Ref sig .tc := ⟨.hbm, 799, rfl⟩
abbrev main_v625 : Ref sig .tc := ⟨.hbm, 800, rfl⟩
abbrev main_v626 : Ref sig .tc := ⟨.hbm, 801, rfl⟩
abbrev main_c_165 : Ref sig .tc := ⟨.hbm, 802, rfl⟩
abbrev main_v627 : Ref sig .tc := ⟨.hbm, 803, rfl⟩
abbrev main_v628 : Ref sig .tc := ⟨.hbm, 804, rfl⟩
abbrev main_c_166 : Ref sig .tc := ⟨.hbm, 805, rfl⟩
abbrev main_v629 : Ref sig .tc := ⟨.hbm, 806, rfl⟩
abbrev main_v630 : Ref sig .tc := ⟨.hbm, 807, rfl⟩
abbrev main_v631 : Ref sig .tc := ⟨.hbm, 808, rfl⟩
abbrev main_v632 : Ref sig .tc := ⟨.hbm, 809, rfl⟩
abbrev main_v633 : Ref sig .tc := ⟨.hbm, 810, rfl⟩
abbrev main_c_167 : Ref sig .tc := ⟨.hbm, 811, rfl⟩
abbrev main_v634 : Ref sig .tc := ⟨.hbm, 812, rfl⟩
abbrev main_v635 : Ref sig .tc := ⟨.hbm, 813, rfl⟩
abbrev main_c_168 : Ref sig .tc := ⟨.hbm, 814, rfl⟩
abbrev main_v636 : Ref sig .tc := ⟨.hbm, 815, rfl⟩
abbrev main_v637 : Ref sig .tc := ⟨.hbm, 816, rfl⟩
abbrev main_v638 : Ref sig .tc := ⟨.hbm, 817, rfl⟩
abbrev main_v639 : Ref sig .tc := ⟨.hbm, 818, rfl⟩
abbrev main_v640 : Ref sig .tc := ⟨.hbm, 819, rfl⟩
abbrev main_v641 : Ref sig .tc := ⟨.hbm, 820, rfl⟩
abbrev main_v642 : Ref sig .tc := ⟨.hbm, 821, rfl⟩
abbrev main_v643 : Ref sig .tc := ⟨.hbm, 822, rfl⟩
abbrev main_c_169 : Ref sig .tc := ⟨.hbm, 823, rfl⟩
abbrev main_v644 : Ref sig .tc := ⟨.hbm, 824, rfl⟩
abbrev main_v645 : Ref sig .tc := ⟨.hbm, 825, rfl⟩
abbrev main_v646 : Ref sig .tc := ⟨.hbm, 826, rfl⟩
abbrev main_v647 : Ref sig .tc := ⟨.hbm, 827, rfl⟩
abbrev main_v648 : Ref sig .tc := ⟨.hbm, 828, rfl⟩
abbrev main_v649 : Ref sig .tc := ⟨.hbm, 829, rfl⟩
abbrev main_v650 : Ref sig .tc := ⟨.hbm, 830, rfl⟩
abbrev main_v651 : Ref sig .tc := ⟨.hbm, 831, rfl⟩
abbrev main_v652 : Ref sig .tc := ⟨.hbm, 832, rfl⟩
abbrev main_v653 : Ref sig .tc := ⟨.hbm, 833, rfl⟩
abbrev main_v654 : Ref sig .tc := ⟨.hbm, 834, rfl⟩
abbrev main_v655 : Ref sig .tc := ⟨.hbm, 835, rfl⟩
abbrev main_v656 : Ref sig .tc := ⟨.hbm, 836, rfl⟩
abbrev main_v657 : Ref sig .tc := ⟨.hbm, 837, rfl⟩
abbrev main_v658 : Ref sig .tc := ⟨.hbm, 838, rfl⟩
abbrev main_c_170 : Ref sig .tc := ⟨.hbm, 839, rfl⟩
abbrev main_v659 : Ref sig .tc := ⟨.hbm, 840, rfl⟩
abbrev main_v660 : Ref sig .tc := ⟨.hbm, 841, rfl⟩
abbrev main_c_171 : Ref sig .tc := ⟨.hbm, 842, rfl⟩
abbrev main_v661 : Ref sig .tc := ⟨.hbm, 843, rfl⟩
abbrev main_v662 : Ref sig .tc := ⟨.hbm, 844, rfl⟩
abbrev main_v663 : Ref sig .tc := ⟨.hbm, 845, rfl⟩
abbrev main_c_172 : Ref sig .tc := ⟨.hbm, 846, rfl⟩
abbrev main_v664 : Ref sig .tc := ⟨.hbm, 847, rfl⟩
abbrev main_v665 : Ref sig .tc := ⟨.hbm, 848, rfl⟩
abbrev main_v666 : Ref sig .tc := ⟨.hbm, 849, rfl⟩
abbrev main_v667 : Ref sig .tc := ⟨.hbm, 850, rfl⟩
abbrev main_v668 : Ref sig .tc := ⟨.hbm, 851, rfl⟩
abbrev main_c_173 : Ref sig .tc := ⟨.hbm, 852, rfl⟩
abbrev main_v669 : Ref sig .tc := ⟨.hbm, 853, rfl⟩
abbrev main_v670 : Ref sig .tc := ⟨.hbm, 854, rfl⟩
abbrev main_v671 : Ref sig .tc := ⟨.hbm, 855, rfl⟩
abbrev main_v672 : Ref sig .tc := ⟨.hbm, 856, rfl⟩
abbrev main_v673 : Ref sig .tc := ⟨.hbm, 857, rfl⟩
abbrev main_v674 : Ref sig .tc := ⟨.hbm, 858, rfl⟩
abbrev main_c_174 : Ref sig .tc := ⟨.hbm, 859, rfl⟩
abbrev main_v675 : Ref sig .tc := ⟨.hbm, 860, rfl⟩
abbrev main_v676 : Ref sig .tc := ⟨.hbm, 861, rfl⟩
abbrev main_c_175 : Ref sig .tc := ⟨.hbm, 862, rfl⟩
abbrev main_v677 : Ref sig .tc := ⟨.hbm, 863, rfl⟩
abbrev main_v678 : Ref sig .tc := ⟨.hbm, 864, rfl⟩
abbrev main_v679 : Ref sig .tc := ⟨.hbm, 865, rfl⟩
abbrev main_v680 : Ref sig .tc := ⟨.hbm, 866, rfl⟩
abbrev main_v681 : Ref sig .tc := ⟨.hbm, 867, rfl⟩
abbrev main_c_176 : Ref sig .tc := ⟨.hbm, 868, rfl⟩
abbrev main_v682 : Ref sig .tc := ⟨.hbm, 869, rfl⟩
abbrev main_v683 : Ref sig .tc := ⟨.hbm, 870, rfl⟩
abbrev main_c_177 : Ref sig .tc := ⟨.hbm, 871, rfl⟩
abbrev main_v684 : Ref sig .tc := ⟨.hbm, 872, rfl⟩
abbrev main_v685 : Ref sig .tc := ⟨.hbm, 873, rfl⟩
abbrev main_v686 : Ref sig .tc := ⟨.hbm, 874, rfl⟩
abbrev main_v687 : Ref sig .tc := ⟨.hbm, 875, rfl⟩
abbrev main_v688 : Ref sig .tc := ⟨.hbm, 876, rfl⟩
abbrev main_c_178 : Ref sig .tc := ⟨.hbm, 877, rfl⟩
abbrev main_v689 : Ref sig .tc := ⟨.hbm, 878, rfl⟩
abbrev main_v690 : Ref sig .tc := ⟨.hbm, 879, rfl⟩
abbrev main_c_179 : Ref sig .tc := ⟨.hbm, 880, rfl⟩
abbrev main_v691 : Ref sig .tc := ⟨.hbm, 881, rfl⟩
abbrev main_v692 : Ref sig .tc := ⟨.hbm, 882, rfl⟩
abbrev main_v693 : Ref sig .tc := ⟨.hbm, 883, rfl⟩
abbrev main_v694 : Ref sig .tc := ⟨.hbm, 884, rfl⟩
abbrev main_v695 : Ref sig .tc := ⟨.hbm, 885, rfl⟩
abbrev main_c_180 : Ref sig .tc := ⟨.hbm, 886, rfl⟩
abbrev main_v696 : Ref sig .tc := ⟨.hbm, 887, rfl⟩
abbrev main_v697 : Ref sig .tc := ⟨.hbm, 888, rfl⟩
abbrev main_c_181 : Ref sig .tc := ⟨.hbm, 889, rfl⟩
abbrev main_v698 : Ref sig .tc := ⟨.hbm, 890, rfl⟩
abbrev main_v699 : Ref sig .tc := ⟨.hbm, 891, rfl⟩
abbrev main_v700 : Ref sig .tc := ⟨.hbm, 892, rfl⟩
abbrev main_v701 : Ref sig .tc := ⟨.hbm, 893, rfl⟩
abbrev main_v702 : Ref sig .tc := ⟨.hbm, 894, rfl⟩
abbrev main_v703 : Ref sig .tc := ⟨.hbm, 895, rfl⟩
abbrev main_v704 : Ref sig .tc := ⟨.hbm, 896, rfl⟩
abbrev main_v705 : Ref sig .tc := ⟨.hbm, 897, rfl⟩
abbrev main_c_182 : Ref sig .tc := ⟨.hbm, 898, rfl⟩
abbrev main_v706 : Ref sig .tc := ⟨.hbm, 899, rfl⟩
abbrev main_v707 : Ref sig .tc := ⟨.hbm, 900, rfl⟩
abbrev main_v708 : Ref sig .tc := ⟨.hbm, 901, rfl⟩
abbrev main_c_183 : Ref sig .tc := ⟨.hbm, 902, rfl⟩
abbrev main_v709 : Ref sig .tc := ⟨.hbm, 903, rfl⟩
abbrev main_v710 : Ref sig .tc := ⟨.hbm, 904, rfl⟩
abbrev main_c_184 : Ref sig .tc := ⟨.hbm, 905, rfl⟩
abbrev main_v711 : Ref sig .tc := ⟨.hbm, 906, rfl⟩
abbrev main_v712 : Ref sig .tc := ⟨.hbm, 907, rfl⟩
abbrev main_v713 : Ref sig .tc := ⟨.hbm, 908, rfl⟩
abbrev main_v714 : Ref sig .tc := ⟨.hbm, 909, rfl⟩
abbrev main_v715 : Ref sig .tc := ⟨.hbm, 910, rfl⟩
abbrev main_c_185 : Ref sig .tc := ⟨.hbm, 911, rfl⟩
abbrev main_v716 : Ref sig .tc := ⟨.hbm, 912, rfl⟩
abbrev main_v717 : Ref sig .tc := ⟨.hbm, 913, rfl⟩
abbrev main_c_186 : Ref sig .tc := ⟨.hbm, 914, rfl⟩
abbrev main_v718 : Ref sig .tc := ⟨.hbm, 915, rfl⟩
abbrev main_v719 : Ref sig .tc := ⟨.hbm, 916, rfl⟩
abbrev main_v720 : Ref sig .tc := ⟨.hbm, 917, rfl⟩
abbrev main_v721 : Ref sig .tc := ⟨.hbm, 918, rfl⟩
abbrev main_v722 : Ref sig .tc := ⟨.hbm, 919, rfl⟩
abbrev main_c_187 : Ref sig .tc := ⟨.hbm, 920, rfl⟩
abbrev main_v723 : Ref sig .tc := ⟨.hbm, 921, rfl⟩
abbrev main_v724 : Ref sig .tc := ⟨.hbm, 922, rfl⟩
abbrev main_c_188 : Ref sig .tc := ⟨.hbm, 923, rfl⟩
abbrev main_v725 : Ref sig .tc := ⟨.hbm, 924, rfl⟩
abbrev main_v726 : Ref sig .tc := ⟨.hbm, 925, rfl⟩
abbrev main_v727 : Ref sig .tc := ⟨.hbm, 926, rfl⟩
abbrev main_v728 : Ref sig .tc := ⟨.hbm, 927, rfl⟩
abbrev main_v729 : Ref sig .tc := ⟨.hbm, 928, rfl⟩
abbrev main_c_189 : Ref sig .tc := ⟨.hbm, 929, rfl⟩
abbrev main_v730 : Ref sig .tc := ⟨.hbm, 930, rfl⟩
abbrev main_v731 : Ref sig .tc := ⟨.hbm, 931, rfl⟩
abbrev main_c_190 : Ref sig .tc := ⟨.hbm, 932, rfl⟩
abbrev main_v732 : Ref sig .tc := ⟨.hbm, 933, rfl⟩
abbrev main_v733 : Ref sig .tc := ⟨.hbm, 934, rfl⟩
abbrev main_v734 : Ref sig .tc := ⟨.hbm, 935, rfl⟩
abbrev main_v735 : Ref sig .tc := ⟨.hbm, 936, rfl⟩
abbrev main_v736 : Ref sig .tc := ⟨.hbm, 937, rfl⟩
abbrev main_v737 : Ref sig .tc := ⟨.hbm, 938, rfl⟩
abbrev main_v738 : Ref sig .tc := ⟨.hbm, 939, rfl⟩
abbrev main_v739 : Ref sig .tc := ⟨.hbm, 940, rfl⟩
abbrev main_c_191 : Ref sig .tc := ⟨.hbm, 941, rfl⟩
abbrev main_v740 : Ref sig .tc := ⟨.hbm, 942, rfl⟩
abbrev main_v741 : Ref sig .tc := ⟨.hbm, 943, rfl⟩
abbrev main_v742 : Ref sig .tc := ⟨.hbm, 944, rfl⟩
abbrev main_c_192 : Ref sig .tc := ⟨.hbm, 945, rfl⟩
abbrev main_v743 : Ref sig .tc := ⟨.hbm, 946, rfl⟩
abbrev main_v744 : Ref sig .tc := ⟨.hbm, 947, rfl⟩
abbrev main_c_193 : Ref sig .tc := ⟨.hbm, 948, rfl⟩
abbrev main_v745 : Ref sig .tc := ⟨.hbm, 949, rfl⟩
abbrev main_v746 : Ref sig .tc := ⟨.hbm, 950, rfl⟩
abbrev main_v747 : Ref sig .tc := ⟨.hbm, 951, rfl⟩
abbrev main_v748 : Ref sig .tc := ⟨.hbm, 952, rfl⟩
abbrev main_v749 : Ref sig .tc := ⟨.hbm, 953, rfl⟩
abbrev main_c_194 : Ref sig .tc := ⟨.hbm, 954, rfl⟩
abbrev main_v750 : Ref sig .tc := ⟨.hbm, 955, rfl⟩
abbrev main_v751 : Ref sig .tc := ⟨.hbm, 956, rfl⟩
abbrev main_c_195 : Ref sig .tc := ⟨.hbm, 957, rfl⟩
abbrev main_v752 : Ref sig .tc := ⟨.hbm, 958, rfl⟩
abbrev main_v753 : Ref sig .tc := ⟨.hbm, 959, rfl⟩
abbrev main_v754 : Ref sig .tc := ⟨.hbm, 960, rfl⟩
abbrev main_v755 : Ref sig .tc := ⟨.hbm, 961, rfl⟩
abbrev main_v756 : Ref sig .tc := ⟨.hbm, 962, rfl⟩
abbrev main_c_196 : Ref sig .tc := ⟨.hbm, 963, rfl⟩
abbrev main_v757 : Ref sig .tc := ⟨.hbm, 964, rfl⟩
abbrev main_v758 : Ref sig .tc := ⟨.hbm, 965, rfl⟩
abbrev main_c_197 : Ref sig .tc := ⟨.hbm, 966, rfl⟩
abbrev main_v759 : Ref sig .tc := ⟨.hbm, 967, rfl⟩
abbrev main_v760 : Ref sig .tc := ⟨.hbm, 968, rfl⟩
abbrev main_v761 : Ref sig .tc := ⟨.hbm, 969, rfl⟩
abbrev main_v762 : Ref sig .tc := ⟨.hbm, 970, rfl⟩
abbrev main_v763 : Ref sig .tc := ⟨.hbm, 971, rfl⟩
abbrev main_c_198 : Ref sig .tc := ⟨.hbm, 972, rfl⟩
abbrev main_v764 : Ref sig .tc := ⟨.hbm, 973, rfl⟩
abbrev main_v765 : Ref sig .tc := ⟨.hbm, 974, rfl⟩
abbrev main_c_199 : Ref sig .tc := ⟨.hbm, 975, rfl⟩
abbrev main_v766 : Ref sig .tc := ⟨.hbm, 976, rfl⟩
abbrev main_v767 : Ref sig .tc := ⟨.hbm, 977, rfl⟩
abbrev main_v768 : Ref sig .tc := ⟨.hbm, 978, rfl⟩
abbrev main_v769 : Ref sig .tc := ⟨.hbm, 979, rfl⟩
abbrev main_v770 : Ref sig .tc := ⟨.hbm, 980, rfl⟩
abbrev main_v771 : Ref sig .tc := ⟨.hbm, 981, rfl⟩
abbrev main_v772 : Ref sig .tc := ⟨.hbm, 982, rfl⟩
abbrev main_v773 : Ref sig .tc := ⟨.hbm, 983, rfl⟩
abbrev main_c_200 : Ref sig .tc := ⟨.hbm, 984, rfl⟩
abbrev main_v774 : Ref sig .tc := ⟨.hbm, 985, rfl⟩
abbrev main_v775 : Ref sig .tc := ⟨.hbm, 986, rfl⟩
abbrev main_v776 : Ref sig .tc := ⟨.hbm, 987, rfl⟩
abbrev main_c_201 : Ref sig .tc := ⟨.hbm, 988, rfl⟩
abbrev main_v777 : Ref sig .tc := ⟨.hbm, 989, rfl⟩
abbrev main_v778 : Ref sig .tc := ⟨.hbm, 990, rfl⟩
abbrev main_c_202 : Ref sig .tc := ⟨.hbm, 991, rfl⟩
abbrev main_v779 : Ref sig .tc := ⟨.hbm, 992, rfl⟩
abbrev main_v780 : Ref sig .tc := ⟨.hbm, 993, rfl⟩
abbrev main_v781 : Ref sig .tc := ⟨.hbm, 994, rfl⟩
abbrev main_v782 : Ref sig .tc := ⟨.hbm, 995, rfl⟩
abbrev main_v783 : Ref sig .tc := ⟨.hbm, 996, rfl⟩
abbrev main_c_203 : Ref sig .tc := ⟨.hbm, 997, rfl⟩
abbrev main_v784 : Ref sig .tc := ⟨.hbm, 998, rfl⟩
abbrev main_v785 : Ref sig .tc := ⟨.hbm, 999, rfl⟩
abbrev main_c_204 : Ref sig .tc := ⟨.hbm, 1000, rfl⟩
abbrev main_v786 : Ref sig .tc := ⟨.hbm, 1001, rfl⟩
abbrev main_v787 : Ref sig .tc := ⟨.hbm, 1002, rfl⟩
abbrev main_v788 : Ref sig .tc := ⟨.hbm, 1003, rfl⟩
abbrev main_v789 : Ref sig .tc := ⟨.hbm, 1004, rfl⟩
abbrev main_v790 : Ref sig .tc := ⟨.hbm, 1005, rfl⟩
abbrev main_c_205 : Ref sig .tc := ⟨.hbm, 1006, rfl⟩
abbrev main_v791 : Ref sig .tc := ⟨.hbm, 1007, rfl⟩
abbrev main_v792 : Ref sig .tc := ⟨.hbm, 1008, rfl⟩
abbrev main_c_206 : Ref sig .tc := ⟨.hbm, 1009, rfl⟩
abbrev main_v793 : Ref sig .tc := ⟨.hbm, 1010, rfl⟩
abbrev main_v794 : Ref sig .tc := ⟨.hbm, 1011, rfl⟩
abbrev main_v795 : Ref sig .tc := ⟨.hbm, 1012, rfl⟩
abbrev main_v796 : Ref sig .tc := ⟨.hbm, 1013, rfl⟩
abbrev main_v797 : Ref sig .tc := ⟨.hbm, 1014, rfl⟩
abbrev main_c_207 : Ref sig .tc := ⟨.hbm, 1015, rfl⟩
abbrev main_v798 : Ref sig .tc := ⟨.hbm, 1016, rfl⟩
abbrev main_v799 : Ref sig .tc := ⟨.hbm, 1017, rfl⟩
abbrev main_c_208 : Ref sig .tc := ⟨.hbm, 1018, rfl⟩
abbrev main_v800 : Ref sig .tc := ⟨.hbm, 1019, rfl⟩
abbrev main_v801 : Ref sig .tc := ⟨.hbm, 1020, rfl⟩
abbrev main_v802 : Ref sig .tc := ⟨.hbm, 1021, rfl⟩
abbrev main_v803 : Ref sig .tc := ⟨.hbm, 1022, rfl⟩
abbrev main_v804 : Ref sig .tc := ⟨.hbm, 1023, rfl⟩
abbrev main_v805 : Ref sig .tc := ⟨.hbm, 1024, rfl⟩
abbrev main_v806 : Ref sig .tc := ⟨.hbm, 1025, rfl⟩
abbrev main_v807 : Ref sig .tc := ⟨.hbm, 1026, rfl⟩
abbrev main_c_209 : Ref sig .tc := ⟨.hbm, 1027, rfl⟩
abbrev main_v808 : Ref sig .tc := ⟨.hbm, 1028, rfl⟩
abbrev main_v809 : Ref sig .tc := ⟨.hbm, 1029, rfl⟩
abbrev main_v810 : Ref sig .tc := ⟨.hbm, 1030, rfl⟩
abbrev main_c_210 : Ref sig .tc := ⟨.hbm, 1031, rfl⟩
abbrev main_v811 : Ref sig .tc := ⟨.hbm, 1032, rfl⟩
abbrev main_v812 : Ref sig .tc := ⟨.hbm, 1033, rfl⟩
abbrev main_c_211 : Ref sig .tc := ⟨.hbm, 1034, rfl⟩
abbrev main_v813 : Ref sig .tc := ⟨.hbm, 1035, rfl⟩
abbrev main_v814 : Ref sig .tc := ⟨.hbm, 1036, rfl⟩
abbrev main_v815 : Ref sig .tc := ⟨.hbm, 1037, rfl⟩
abbrev main_v816 : Ref sig .tc := ⟨.hbm, 1038, rfl⟩
abbrev main_v817 : Ref sig .tc := ⟨.hbm, 1039, rfl⟩
abbrev main_c_212 : Ref sig .tc := ⟨.hbm, 1040, rfl⟩
abbrev main_v818 : Ref sig .tc := ⟨.hbm, 1041, rfl⟩
abbrev main_v819 : Ref sig .tc := ⟨.hbm, 1042, rfl⟩
abbrev main_c_213 : Ref sig .tc := ⟨.hbm, 1043, rfl⟩
abbrev main_v820 : Ref sig .tc := ⟨.hbm, 1044, rfl⟩
abbrev main_v821 : Ref sig .tc := ⟨.hbm, 1045, rfl⟩
abbrev main_v822 : Ref sig .tc := ⟨.hbm, 1046, rfl⟩
abbrev main_v823 : Ref sig .tc := ⟨.hbm, 1047, rfl⟩
abbrev main_v824 : Ref sig .tc := ⟨.hbm, 1048, rfl⟩
abbrev main_c_214 : Ref sig .tc := ⟨.hbm, 1049, rfl⟩
abbrev main_v825 : Ref sig .tc := ⟨.hbm, 1050, rfl⟩
abbrev main_v826 : Ref sig .tc := ⟨.hbm, 1051, rfl⟩
abbrev main_c_215 : Ref sig .tc := ⟨.hbm, 1052, rfl⟩
abbrev main_v827 : Ref sig .tc := ⟨.hbm, 1053, rfl⟩
abbrev main_v828 : Ref sig .tc := ⟨.hbm, 1054, rfl⟩
abbrev main_v829 : Ref sig .tc := ⟨.hbm, 1055, rfl⟩
abbrev main_v830 : Ref sig .tc := ⟨.hbm, 1056, rfl⟩
abbrev main_v831 : Ref sig .tc := ⟨.hbm, 1057, rfl⟩
abbrev main_c_216 : Ref sig .tc := ⟨.hbm, 1058, rfl⟩
abbrev main_v832 : Ref sig .tc := ⟨.hbm, 1059, rfl⟩
abbrev main_v833 : Ref sig .tc := ⟨.hbm, 1060, rfl⟩
abbrev main_c_217 : Ref sig .tc := ⟨.hbm, 1061, rfl⟩
abbrev main_v834 : Ref sig .tc := ⟨.hbm, 1062, rfl⟩
abbrev main_v835 : Ref sig .tc := ⟨.hbm, 1063, rfl⟩
abbrev main_v836 : Ref sig .tc := ⟨.hbm, 1064, rfl⟩
abbrev main_v837 : Ref sig .tc := ⟨.hbm, 1065, rfl⟩
abbrev main_v838 : Ref sig .tc := ⟨.hbm, 1066, rfl⟩
abbrev main_v839 : Ref sig .tc := ⟨.hbm, 1067, rfl⟩
abbrev main_v840 : Ref sig .tc := ⟨.hbm, 1068, rfl⟩
abbrev main_v841 : Ref sig .tc := ⟨.hbm, 1069, rfl⟩
abbrev main_c_218 : Ref sig .tc := ⟨.hbm, 1070, rfl⟩
abbrev main_v842 : Ref sig .tc := ⟨.hbm, 1071, rfl⟩
abbrev main_v843 : Ref sig .tc := ⟨.hbm, 1072, rfl⟩
abbrev main_v844 : Ref sig .tc := ⟨.hbm, 1073, rfl⟩
abbrev main_v845 : Ref sig .tc := ⟨.hbm, 1074, rfl⟩
abbrev main_v846 : Ref sig .tc := ⟨.hbm, 1075, rfl⟩
abbrev main_v847 : Ref sig .tc := ⟨.hbm, 1076, rfl⟩
abbrev main_v848 : Ref sig .tc := ⟨.hbm, 1077, rfl⟩
abbrev main_v849 : Ref sig .tc := ⟨.hbm, 1078, rfl⟩
abbrev main_v850 : Ref sig .tc := ⟨.hbm, 1079, rfl⟩
abbrev main_c_219 : Ref sig .tc := ⟨.hbm, 1080, rfl⟩
abbrev main_v851 : Ref sig .tc := ⟨.hbm, 1081, rfl⟩
abbrev main_v852 : Ref sig .tc := ⟨.hbm, 1082, rfl⟩
abbrev main_c_220 : Ref sig .tc := ⟨.hbm, 1083, rfl⟩
abbrev main_v853 : Ref sig .tc := ⟨.hbm, 1084, rfl⟩
abbrev main_v854 : Ref sig .tc := ⟨.hbm, 1085, rfl⟩
abbrev main_v855 : Ref sig .tc := ⟨.hbm, 1086, rfl⟩
abbrev main_c_221 : Ref sig .tc := ⟨.hbm, 1087, rfl⟩
abbrev main_v856 : Ref sig .tc := ⟨.hbm, 1088, rfl⟩
abbrev main_v857 : Ref sig .tc := ⟨.hbm, 1089, rfl⟩
abbrev main_v858 : Ref sig .tc := ⟨.hbm, 1090, rfl⟩
abbrev main_v859 : Ref sig .tc := ⟨.hbm, 1091, rfl⟩
abbrev main_v860 : Ref sig .tc := ⟨.hbm, 1092, rfl⟩
abbrev main_c_222 : Ref sig .tc := ⟨.hbm, 1093, rfl⟩
abbrev main_v861 : Ref sig .tc := ⟨.hbm, 1094, rfl⟩
abbrev main_v862 : Ref sig .tc := ⟨.hbm, 1095, rfl⟩
abbrev main_v863 : Ref sig .tc := ⟨.hbm, 1096, rfl⟩
abbrev main_v864 : Ref sig .tc := ⟨.hbm, 1097, rfl⟩
abbrev main_v865 : Ref sig .tc := ⟨.hbm, 1098, rfl⟩
abbrev main_v866 : Ref sig .tc := ⟨.hbm, 1099, rfl⟩
abbrev main_c_223 : Ref sig .tc := ⟨.hbm, 1100, rfl⟩
abbrev main_v867 : Ref sig .tc := ⟨.hbm, 1101, rfl⟩
abbrev main_v868 : Ref sig .tc := ⟨.hbm, 1102, rfl⟩
abbrev main_c_224 : Ref sig .tc := ⟨.hbm, 1103, rfl⟩
abbrev main_v869 : Ref sig .tc := ⟨.hbm, 1104, rfl⟩
abbrev main_v870 : Ref sig .tc := ⟨.hbm, 1105, rfl⟩
abbrev main_v871 : Ref sig .tc := ⟨.hbm, 1106, rfl⟩
abbrev main_v872 : Ref sig .tc := ⟨.hbm, 1107, rfl⟩
abbrev main_v873 : Ref sig .tc := ⟨.hbm, 1108, rfl⟩
abbrev main_c_225 : Ref sig .tc := ⟨.hbm, 1109, rfl⟩
abbrev main_v874 : Ref sig .tc := ⟨.hbm, 1110, rfl⟩
abbrev main_v875 : Ref sig .tc := ⟨.hbm, 1111, rfl⟩
abbrev main_c_226 : Ref sig .tc := ⟨.hbm, 1112, rfl⟩
abbrev main_v876 : Ref sig .tc := ⟨.hbm, 1113, rfl⟩
abbrev main_v877 : Ref sig .tc := ⟨.hbm, 1114, rfl⟩
abbrev main_v878 : Ref sig .tc := ⟨.hbm, 1115, rfl⟩
abbrev main_v879 : Ref sig .tc := ⟨.hbm, 1116, rfl⟩
abbrev main_v880 : Ref sig .tc := ⟨.hbm, 1117, rfl⟩
abbrev main_c_227 : Ref sig .tc := ⟨.hbm, 1118, rfl⟩
abbrev main_v881 : Ref sig .tc := ⟨.hbm, 1119, rfl⟩
abbrev main_v882 : Ref sig .tc := ⟨.hbm, 1120, rfl⟩
abbrev main_c_228 : Ref sig .tc := ⟨.hbm, 1121, rfl⟩
abbrev main_v883 : Ref sig .tc := ⟨.hbm, 1122, rfl⟩
abbrev main_v884 : Ref sig .tc := ⟨.hbm, 1123, rfl⟩
abbrev main_v885 : Ref sig .tc := ⟨.hbm, 1124, rfl⟩
abbrev main_v886 : Ref sig .tc := ⟨.hbm, 1125, rfl⟩
abbrev main_v887 : Ref sig .tc := ⟨.hbm, 1126, rfl⟩
abbrev main_c_229 : Ref sig .tc := ⟨.hbm, 1127, rfl⟩
abbrev main_v888 : Ref sig .tc := ⟨.hbm, 1128, rfl⟩
abbrev main_v889 : Ref sig .tc := ⟨.hbm, 1129, rfl⟩
abbrev main_c_230 : Ref sig .tc := ⟨.hbm, 1130, rfl⟩
abbrev main_v890 : Ref sig .tc := ⟨.hbm, 1131, rfl⟩
abbrev main_v891 : Ref sig .tc := ⟨.hbm, 1132, rfl⟩
abbrev main_v892 : Ref sig .tc := ⟨.hbm, 1133, rfl⟩
abbrev main_v893 : Ref sig .tc := ⟨.hbm, 1134, rfl⟩
abbrev main_v894 : Ref sig .tc := ⟨.hbm, 1135, rfl⟩
abbrev main_v895 : Ref sig .tc := ⟨.hbm, 1136, rfl⟩
abbrev main_v896 : Ref sig .tc := ⟨.hbm, 1137, rfl⟩
abbrev main_v897 : Ref sig .tc := ⟨.hbm, 1138, rfl⟩
abbrev main_c_231 : Ref sig .tc := ⟨.hbm, 1139, rfl⟩
abbrev main_v898 : Ref sig .tc := ⟨.hbm, 1140, rfl⟩
abbrev main_v899 : Ref sig .tc := ⟨.hbm, 1141, rfl⟩
abbrev main_v900 : Ref sig .tc := ⟨.hbm, 1142, rfl⟩
abbrev main_c_232 : Ref sig .tc := ⟨.hbm, 1143, rfl⟩
abbrev main_v901 : Ref sig .tc := ⟨.hbm, 1144, rfl⟩
abbrev main_v902 : Ref sig .tc := ⟨.hbm, 1145, rfl⟩
abbrev main_c_233 : Ref sig .tc := ⟨.hbm, 1146, rfl⟩
abbrev main_v903 : Ref sig .tc := ⟨.hbm, 1147, rfl⟩
abbrev main_v904 : Ref sig .tc := ⟨.hbm, 1148, rfl⟩
abbrev main_v905 : Ref sig .tc := ⟨.hbm, 1149, rfl⟩
abbrev main_v906 : Ref sig .tc := ⟨.hbm, 1150, rfl⟩
abbrev main_v907 : Ref sig .tc := ⟨.hbm, 1151, rfl⟩
abbrev main_c_234 : Ref sig .tc := ⟨.hbm, 1152, rfl⟩
abbrev main_v908 : Ref sig .tc := ⟨.hbm, 1153, rfl⟩
abbrev main_v909 : Ref sig .tc := ⟨.hbm, 1154, rfl⟩
abbrev main_c_235 : Ref sig .tc := ⟨.hbm, 1155, rfl⟩
abbrev main_v910 : Ref sig .tc := ⟨.hbm, 1156, rfl⟩
abbrev main_v911 : Ref sig .tc := ⟨.hbm, 1157, rfl⟩
abbrev main_v912 : Ref sig .tc := ⟨.hbm, 1158, rfl⟩
abbrev main_v913 : Ref sig .tc := ⟨.hbm, 1159, rfl⟩
abbrev main_v914 : Ref sig .tc := ⟨.hbm, 1160, rfl⟩
abbrev main_c_236 : Ref sig .tc := ⟨.hbm, 1161, rfl⟩
abbrev main_v915 : Ref sig .tc := ⟨.hbm, 1162, rfl⟩
abbrev main_v916 : Ref sig .tc := ⟨.hbm, 1163, rfl⟩
abbrev main_c_237 : Ref sig .tc := ⟨.hbm, 1164, rfl⟩
abbrev main_v917 : Ref sig .tc := ⟨.hbm, 1165, rfl⟩
abbrev main_v918 : Ref sig .tc := ⟨.hbm, 1166, rfl⟩
abbrev main_v919 : Ref sig .tc := ⟨.hbm, 1167, rfl⟩
abbrev main_v920 : Ref sig .tc := ⟨.hbm, 1168, rfl⟩
abbrev main_v921 : Ref sig .tc := ⟨.hbm, 1169, rfl⟩
abbrev main_c_238 : Ref sig .tc := ⟨.hbm, 1170, rfl⟩
abbrev main_v922 : Ref sig .tc := ⟨.hbm, 1171, rfl⟩
abbrev main_v923 : Ref sig .tc := ⟨.hbm, 1172, rfl⟩
abbrev main_c_239 : Ref sig .tc := ⟨.hbm, 1173, rfl⟩
abbrev main_v924 : Ref sig .tc := ⟨.hbm, 1174, rfl⟩
abbrev main_v925 : Ref sig .tc := ⟨.hbm, 1175, rfl⟩
abbrev main_v926 : Ref sig .tc := ⟨.hbm, 1176, rfl⟩
abbrev main_v927 : Ref sig .tc := ⟨.hbm, 1177, rfl⟩
abbrev main_v928 : Ref sig .tc := ⟨.hbm, 1178, rfl⟩
abbrev main_v929 : Ref sig .tc := ⟨.hbm, 1179, rfl⟩
abbrev main_v930 : Ref sig .tc := ⟨.hbm, 1180, rfl⟩
abbrev main_v931 : Ref sig .tc := ⟨.hbm, 1181, rfl⟩
abbrev main_c_240 : Ref sig .tc := ⟨.hbm, 1182, rfl⟩
abbrev main_v932 : Ref sig .tc := ⟨.hbm, 1183, rfl⟩
abbrev main_v933 : Ref sig .tc := ⟨.hbm, 1184, rfl⟩
abbrev main_v934 : Ref sig .tc := ⟨.hbm, 1185, rfl⟩
abbrev main_c_241 : Ref sig .tc := ⟨.hbm, 1186, rfl⟩
abbrev main_v935 : Ref sig .tc := ⟨.hbm, 1187, rfl⟩
abbrev main_v936 : Ref sig .tc := ⟨.hbm, 1188, rfl⟩
abbrev main_c_242 : Ref sig .tc := ⟨.hbm, 1189, rfl⟩
abbrev main_v937 : Ref sig .tc := ⟨.hbm, 1190, rfl⟩
abbrev main_v938 : Ref sig .tc := ⟨.hbm, 1191, rfl⟩
abbrev main_v939 : Ref sig .tc := ⟨.hbm, 1192, rfl⟩
abbrev main_v940 : Ref sig .tc := ⟨.hbm, 1193, rfl⟩
abbrev main_v941 : Ref sig .tc := ⟨.hbm, 1194, rfl⟩
abbrev main_c_243 : Ref sig .tc := ⟨.hbm, 1195, rfl⟩
abbrev main_v942 : Ref sig .tc := ⟨.hbm, 1196, rfl⟩
abbrev main_v943 : Ref sig .tc := ⟨.hbm, 1197, rfl⟩
abbrev main_c_244 : Ref sig .tc := ⟨.hbm, 1198, rfl⟩
abbrev main_v944 : Ref sig .tc := ⟨.hbm, 1199, rfl⟩
abbrev main_v945 : Ref sig .tc := ⟨.hbm, 1200, rfl⟩
abbrev main_v946 : Ref sig .tc := ⟨.hbm, 1201, rfl⟩
abbrev main_v947 : Ref sig .tc := ⟨.hbm, 1202, rfl⟩
abbrev main_v948 : Ref sig .tc := ⟨.hbm, 1203, rfl⟩
abbrev main_c_245 : Ref sig .tc := ⟨.hbm, 1204, rfl⟩
abbrev main_v949 : Ref sig .tc := ⟨.hbm, 1205, rfl⟩
abbrev main_v950 : Ref sig .tc := ⟨.hbm, 1206, rfl⟩
abbrev main_c_246 : Ref sig .tc := ⟨.hbm, 1207, rfl⟩
abbrev main_v951 : Ref sig .tc := ⟨.hbm, 1208, rfl⟩
abbrev main_v952 : Ref sig .tc := ⟨.hbm, 1209, rfl⟩
abbrev main_v953 : Ref sig .tc := ⟨.hbm, 1210, rfl⟩
abbrev main_v954 : Ref sig .tc := ⟨.hbm, 1211, rfl⟩
abbrev main_v955 : Ref sig .tc := ⟨.hbm, 1212, rfl⟩
abbrev main_c_247 : Ref sig .tc := ⟨.hbm, 1213, rfl⟩
abbrev main_v956 : Ref sig .tc := ⟨.hbm, 1214, rfl⟩
abbrev main_v957 : Ref sig .tc := ⟨.hbm, 1215, rfl⟩
abbrev main_c_248 : Ref sig .tc := ⟨.hbm, 1216, rfl⟩
abbrev main_v958 : Ref sig .tc := ⟨.hbm, 1217, rfl⟩
abbrev main_v959 : Ref sig .tc := ⟨.hbm, 1218, rfl⟩
abbrev main_v960 : Ref sig .tc := ⟨.hbm, 1219, rfl⟩
abbrev main_v961 : Ref sig .tc := ⟨.hbm, 1220, rfl⟩
abbrev main_v962 : Ref sig .tc := ⟨.hbm, 1221, rfl⟩
abbrev main_v963 : Ref sig .tc := ⟨.hbm, 1222, rfl⟩
abbrev main_v964 : Ref sig .tc := ⟨.hbm, 1223, rfl⟩
abbrev main_v965 : Ref sig .tc := ⟨.hbm, 1224, rfl⟩
abbrev main_c_249 : Ref sig .tc := ⟨.hbm, 1225, rfl⟩
abbrev main_v966 : Ref sig .tc := ⟨.hbm, 1226, rfl⟩
abbrev main_v967 : Ref sig .tc := ⟨.hbm, 1227, rfl⟩
abbrev main_v968 : Ref sig .tc := ⟨.hbm, 1228, rfl⟩
abbrev main_c_250 : Ref sig .tc := ⟨.hbm, 1229, rfl⟩
abbrev main_v969 : Ref sig .tc := ⟨.hbm, 1230, rfl⟩
abbrev main_v970 : Ref sig .tc := ⟨.hbm, 1231, rfl⟩
abbrev main_c_251 : Ref sig .tc := ⟨.hbm, 1232, rfl⟩
abbrev main_v971 : Ref sig .tc := ⟨.hbm, 1233, rfl⟩
abbrev main_v972 : Ref sig .tc := ⟨.hbm, 1234, rfl⟩
abbrev main_v973 : Ref sig .tc := ⟨.hbm, 1235, rfl⟩
abbrev main_v974 : Ref sig .tc := ⟨.hbm, 1236, rfl⟩
abbrev main_v975 : Ref sig .tc := ⟨.hbm, 1237, rfl⟩
abbrev main_c_252 : Ref sig .tc := ⟨.hbm, 1238, rfl⟩
abbrev main_v976 : Ref sig .tc := ⟨.hbm, 1239, rfl⟩
abbrev main_v977 : Ref sig .tc := ⟨.hbm, 1240, rfl⟩
abbrev main_c_253 : Ref sig .tc := ⟨.hbm, 1241, rfl⟩
abbrev main_v978 : Ref sig .tc := ⟨.hbm, 1242, rfl⟩
abbrev main_v979 : Ref sig .tc := ⟨.hbm, 1243, rfl⟩
abbrev main_v980 : Ref sig .tc := ⟨.hbm, 1244, rfl⟩
abbrev main_v981 : Ref sig .tc := ⟨.hbm, 1245, rfl⟩
abbrev main_v982 : Ref sig .tc := ⟨.hbm, 1246, rfl⟩
abbrev main_c_254 : Ref sig .tc := ⟨.hbm, 1247, rfl⟩
abbrev main_v983 : Ref sig .tc := ⟨.hbm, 1248, rfl⟩
abbrev main_v984 : Ref sig .tc := ⟨.hbm, 1249, rfl⟩
abbrev main_c_255 : Ref sig .tc := ⟨.hbm, 1250, rfl⟩
abbrev main_v985 : Ref sig .tc := ⟨.hbm, 1251, rfl⟩
abbrev main_v986 : Ref sig .tc := ⟨.hbm, 1252, rfl⟩
abbrev main_v987 : Ref sig .tc := ⟨.hbm, 1253, rfl⟩
abbrev main_v988 : Ref sig .tc := ⟨.hbm, 1254, rfl⟩
abbrev main_v989 : Ref sig .tc := ⟨.hbm, 1255, rfl⟩
abbrev main_c_256 : Ref sig .tc := ⟨.hbm, 1256, rfl⟩
abbrev main_v990 : Ref sig .tc := ⟨.hbm, 1257, rfl⟩
abbrev main_v991 : Ref sig .tc := ⟨.hbm, 1258, rfl⟩
abbrev main_c_257 : Ref sig .tc := ⟨.hbm, 1259, rfl⟩
abbrev main_v992 : Ref sig .tc := ⟨.hbm, 1260, rfl⟩
abbrev main_v993 : Ref sig .tc := ⟨.hbm, 1261, rfl⟩
abbrev main_v994 : Ref sig .tc := ⟨.hbm, 1262, rfl⟩
abbrev main_v995 : Ref sig .tc := ⟨.hbm, 1263, rfl⟩
abbrev main_v996 : Ref sig .tc := ⟨.hbm, 1264, rfl⟩
abbrev main_v997 : Ref sig .tc := ⟨.hbm, 1265, rfl⟩
abbrev main_v998 : Ref sig .tc := ⟨.hbm, 1266, rfl⟩
abbrev main_v999 : Ref sig .tc := ⟨.hbm, 1267, rfl⟩
abbrev main_c_258 : Ref sig .tc := ⟨.hbm, 1268, rfl⟩
abbrev main_v1000 : Ref sig .tc := ⟨.hbm, 1269, rfl⟩
abbrev main_v1001 : Ref sig .tc := ⟨.hbm, 1270, rfl⟩
abbrev main_v1002 : Ref sig .tc := ⟨.hbm, 1271, rfl⟩
abbrev main_c_259 : Ref sig .tc := ⟨.hbm, 1272, rfl⟩
abbrev main_v1003 : Ref sig .tc := ⟨.hbm, 1273, rfl⟩
abbrev main_v1004 : Ref sig .tc := ⟨.hbm, 1274, rfl⟩
abbrev main_c_260 : Ref sig .tc := ⟨.hbm, 1275, rfl⟩
abbrev main_v1005 : Ref sig .tc := ⟨.hbm, 1276, rfl⟩
abbrev main_v1006 : Ref sig .tc := ⟨.hbm, 1277, rfl⟩
abbrev main_v1007 : Ref sig .tc := ⟨.hbm, 1278, rfl⟩
abbrev main_v1008 : Ref sig .tc := ⟨.hbm, 1279, rfl⟩
abbrev main_v1009 : Ref sig .tc := ⟨.hbm, 1280, rfl⟩
abbrev main_c_261 : Ref sig .tc := ⟨.hbm, 1281, rfl⟩
abbrev main_v1010 : Ref sig .tc := ⟨.hbm, 1282, rfl⟩
abbrev main_v1011 : Ref sig .tc := ⟨.hbm, 1283, rfl⟩
abbrev main_c_262 : Ref sig .tc := ⟨.hbm, 1284, rfl⟩
abbrev main_v1012 : Ref sig .tc := ⟨.hbm, 1285, rfl⟩
abbrev main_v1013 : Ref sig .tc := ⟨.hbm, 1286, rfl⟩
abbrev main_v1014 : Ref sig .tc := ⟨.hbm, 1287, rfl⟩
abbrev main_v1015 : Ref sig .tc := ⟨.hbm, 1288, rfl⟩
abbrev main_v1016 : Ref sig .tc := ⟨.hbm, 1289, rfl⟩
abbrev main_c_263 : Ref sig .tc := ⟨.hbm, 1290, rfl⟩
abbrev main_v1017 : Ref sig .tc := ⟨.hbm, 1291, rfl⟩
abbrev main_v1018 : Ref sig .tc := ⟨.hbm, 1292, rfl⟩
abbrev main_c_264 : Ref sig .tc := ⟨.hbm, 1293, rfl⟩
abbrev main_v1019 : Ref sig .tc := ⟨.hbm, 1294, rfl⟩
abbrev main_v1020 : Ref sig .tc := ⟨.hbm, 1295, rfl⟩
abbrev main_v1021 : Ref sig .tc := ⟨.hbm, 1296, rfl⟩
abbrev main_v1022 : Ref sig .tc := ⟨.hbm, 1297, rfl⟩
abbrev main_v1023 : Ref sig .tc := ⟨.hbm, 1298, rfl⟩
abbrev main_c_265 : Ref sig .tc := ⟨.hbm, 1299, rfl⟩
abbrev main_v1024 : Ref sig .tc := ⟨.hbm, 1300, rfl⟩
abbrev main_v1025 : Ref sig .tc := ⟨.hbm, 1301, rfl⟩
abbrev main_c_266 : Ref sig .tc := ⟨.hbm, 1302, rfl⟩
abbrev main_v1026 : Ref sig .tc := ⟨.hbm, 1303, rfl⟩
abbrev main_v1027 : Ref sig .tc := ⟨.hbm, 1304, rfl⟩
abbrev main_v1028 : Ref sig .tc := ⟨.hbm, 1305, rfl⟩
abbrev main_v1029 : Ref sig .tc := ⟨.hbm, 1306, rfl⟩
abbrev main_v1030 : Ref sig .tc := ⟨.hbm, 1307, rfl⟩
abbrev main_v1031 : Ref sig .tc := ⟨.hbm, 1308, rfl⟩
abbrev main_v1032 : Ref sig .tc := ⟨.hbm, 1309, rfl⟩
abbrev main_v1033 : Ref sig .tc := ⟨.hbm, 1310, rfl⟩
abbrev main_c_267 : Ref sig .tc := ⟨.hbm, 1311, rfl⟩
abbrev main_v1034 : Ref sig .tc := ⟨.hbm, 1312, rfl⟩
abbrev main_v1035 : Ref sig .tc := ⟨.hbm, 1313, rfl⟩
abbrev main_v1036 : Ref sig .tc := ⟨.hbm, 1314, rfl⟩
abbrev main_v1037 : Ref sig .tc := ⟨.hbm, 1315, rfl⟩
abbrev main_v1038 : Ref sig .tc := ⟨.hbm, 1316, rfl⟩
abbrev main_v1039 : Ref sig .tc := ⟨.hbm, 1317, rfl⟩
abbrev main_c_268 : Ref sig .tc := ⟨.hbm, 1318, rfl⟩
abbrev main_v1040 : Ref sig .tc := ⟨.hbm, 1319, rfl⟩
abbrev main_v1041 : Ref sig .tc := ⟨.hbm, 1320, rfl⟩
abbrev main_v1042 : Ref sig .tc := ⟨.hbm, 1321, rfl⟩
abbrev main_v1043 : Ref sig .tc := ⟨.hbm, 1322, rfl⟩
abbrev main_v1044 : Ref sig .tc := ⟨.hbm, 1323, rfl⟩
abbrev main_c_269 : Ref sig .tc := ⟨.hbm, 1324, rfl⟩
abbrev main_v1045 : Ref sig .tc := ⟨.hbm, 1325, rfl⟩
abbrev main_v1046 : Ref sig .tc := ⟨.hbm, 1326, rfl⟩
abbrev main_v1047 : Ref sig .tc := ⟨.hbm, 1327, rfl⟩
abbrev main_c_270 : Ref sig .tc := ⟨.hbm, 1328, rfl⟩
abbrev main_v1048 : Ref sig .tc := ⟨.hbm, 1329, rfl⟩
abbrev main_v1049 : Ref sig .tc := ⟨.hbm, 1330, rfl⟩
abbrev main_v1050 : Ref sig .tc := ⟨.hbm, 1331, rfl⟩
abbrev main_v1051 : Ref sig .tc := ⟨.hbm, 1332, rfl⟩
abbrev main_v1052 : Ref sig .tc := ⟨.hbm, 1333, rfl⟩
abbrev main_v1053 : Ref sig .tc := ⟨.hbm, 1334, rfl⟩
abbrev main_v1054 : Ref sig .tc := ⟨.hbm, 1335, rfl⟩
abbrev main_v1055 : Ref sig .tc := ⟨.hbm, 1336, rfl⟩
abbrev main_v1056 : Ref sig .tc := ⟨.hbm, 1337, rfl⟩
abbrev main_v1057 : Ref sig .tc := ⟨.hbm, 1338, rfl⟩
abbrev main_v1058 : Ref sig .tc := ⟨.hbm, 1339, rfl⟩
abbrev main_v1059 : Ref sig .tc := ⟨.hbm, 1340, rfl⟩
abbrev main_v1060 : Ref sig .tc := ⟨.hbm, 1341, rfl⟩
abbrev main_v1061 : Ref sig .tc := ⟨.hbm, 1342, rfl⟩
abbrev main_v1062 : Ref sig .tc := ⟨.hbm, 1343, rfl⟩
abbrev main_v1063 : Ref sig .tc := ⟨.hbm, 1344, rfl⟩
abbrev main_v1064 : Ref sig .tc := ⟨.hbm, 1345, rfl⟩
abbrev main_v1065 : Ref sig .tc := ⟨.hbm, 1346, rfl⟩
abbrev main_v1066 : Ref sig .tc := ⟨.hbm, 1347, rfl⟩
abbrev main_v1067 : Ref sig .tc := ⟨.hbm, 1348, rfl⟩
abbrev main_v1068 : Ref sig .tc := ⟨.hbm, 1349, rfl⟩
abbrev main_v1069 : Ref sig .tc := ⟨.hbm, 1350, rfl⟩
abbrev main_c_271 : Ref sig .tc := ⟨.hbm, 1351, rfl⟩
abbrev main_v1070 : Ref sig .tc := ⟨.hbm, 1352, rfl⟩
abbrev main_v1071 : Ref sig .tc := ⟨.hbm, 1353, rfl⟩
abbrev main_c_272 : Ref sig .tc := ⟨.hbm, 1354, rfl⟩
abbrev main_v1072 : Ref sig .tc := ⟨.hbm, 1355, rfl⟩
abbrev main_v1073 : Ref sig .tc := ⟨.hbm, 1356, rfl⟩
abbrev main_c_273 : Ref sig .tc := ⟨.hbm, 1357, rfl⟩
abbrev main_v1074 : Ref sig .tc := ⟨.hbm, 1358, rfl⟩
abbrev main_v1075 : Ref sig .tc := ⟨.hbm, 1359, rfl⟩
abbrev main_v1076 : Ref sig .tc := ⟨.hbm, 1360, rfl⟩
abbrev main_v1077 : Ref sig .tc := ⟨.hbm, 1361, rfl⟩
abbrev main_c_274 : Ref sig .tc := ⟨.hbm, 1362, rfl⟩
abbrev main_c_275 : Ref sig .tc := ⟨.hbm, 1363, rfl⟩
abbrev main_v1078 : Ref sig .tc := ⟨.hbm, 1364, rfl⟩
abbrev main_v1079 : Ref sig .tc := ⟨.hbm, 1365, rfl⟩
abbrev main_v1080 : Ref sig .tc := ⟨.hbm, 1366, rfl⟩
abbrev main_v1081 : Ref sig .tc := ⟨.hbm, 1367, rfl⟩
abbrev main_v1082 : Ref sig .tc := ⟨.hbm, 1368, rfl⟩
abbrev main_v1083 : Ref sig .tc := ⟨.hbm, 1369, rfl⟩
abbrev main_c_276 : Ref sig .tc := ⟨.hbm, 1370, rfl⟩
abbrev main_v1084 : Ref sig .tc := ⟨.hbm, 1371, rfl⟩
abbrev main_v1085 : Ref sig .tc := ⟨.hbm, 1372, rfl⟩
abbrev main_v1086 : Ref sig .tc := ⟨.hbm, 1373, rfl⟩
abbrev main_cst_277 : Ref sig .tc := ⟨.hbm, 1374, rfl⟩
abbrev main_v1087 : Ref sig .tc := ⟨.hbm, 1375, rfl⟩
abbrev main_v1088 : Ref sig .tc := ⟨.hbm, 1376, rfl⟩
abbrev main_v1089 : Ref sig .tc := ⟨.hbm, 1377, rfl⟩
abbrev main_v1090 : Ref sig .tc := ⟨.hbm, 1378, rfl⟩
abbrev main_cst_278 : Ref sig .tc := ⟨.hbm, 1379, rfl⟩
abbrev main_v1091 : Ref sig .tc := ⟨.hbm, 1380, rfl⟩
abbrev main_cst_279 : Ref sig .tc := ⟨.hbm, 1381, rfl⟩
abbrev main_v1092 : Ref sig .tc := ⟨.hbm, 1382, rfl⟩
abbrev main_v1093 : Ref sig .tc := ⟨.hbm, 1383, rfl⟩
abbrev main_v1094 : Ref sig .tc := ⟨.hbm, 1384, rfl⟩
abbrev main_v1095 : Ref sig .tc := ⟨.hbm, 1385, rfl⟩
abbrev main_v1096 : Ref sig .tc := ⟨.hbm, 1386, rfl⟩
abbrev main_v1097 : Ref sig .tc := ⟨.hbm, 1387, rfl⟩
abbrev main_cst_280 : Ref sig .tc := ⟨.hbm, 1388, rfl⟩
abbrev main_v1098 : Ref sig .tc := ⟨.hbm, 1389, rfl⟩
abbrev main_v1099 : Ref sig .tc := ⟨.hbm, 1390, rfl⟩
abbrev main_v1100 : Ref sig .tc := ⟨.hbm, 1391, rfl⟩
abbrev main_v1101 : Ref sig .tc := ⟨.hbm, 1392, rfl⟩
abbrev main_v1102 : Ref sig .tc := ⟨.hbm, 1393, rfl⟩
abbrev main_v1103 : Ref sig .tc := ⟨.hbm, 1394, rfl⟩
abbrev main_v1104 : Ref sig .tc := ⟨.hbm, 1395, rfl⟩
abbrev main_v1105 : Ref sig .tc := ⟨.hbm, 1396, rfl⟩
abbrev main_v1106 : Ref sig .tc := ⟨.hbm, 1397, rfl⟩
abbrev main_v1107 : Ref sig .tc := ⟨.hbm, 1398, rfl⟩
abbrev main_v1108 : Ref sig .tc := ⟨.hbm, 1399, rfl⟩
abbrev main_v1109 : Ref sig .tc := ⟨.hbm, 1400, rfl⟩
abbrev main_c_281 : Ref sig .tc := ⟨.hbm, 1401, rfl⟩
abbrev main_v1110 : Ref sig .tc := ⟨.hbm, 1402, rfl⟩
abbrev main_v1111 : Ref sig .tc := ⟨.hbm, 1403, rfl⟩
abbrev main_c_282 : Ref sig .tc := ⟨.hbm, 1404, rfl⟩
abbrev main_v1112 : Ref sig .tc := ⟨.hbm, 1405, rfl⟩
abbrev main_v1113 : Ref sig .tc := ⟨.hbm, 1406, rfl⟩
abbrev main_v1114 : Ref sig .tc := ⟨.hbm, 1407, rfl⟩
abbrev main_c_283 : Ref sig .tc := ⟨.hbm, 1408, rfl⟩
abbrev main_v1115 : Ref sig .tc := ⟨.hbm, 1409, rfl⟩
abbrev main_v1116 : Ref sig .tc := ⟨.hbm, 1410, rfl⟩
abbrev main_v1117 : Ref sig .tc := ⟨.hbm, 1411, rfl⟩
abbrev main_v1118 : Ref sig .tc := ⟨.hbm, 1412, rfl⟩
abbrev main_v1119 : Ref sig .tc := ⟨.hbm, 1413, rfl⟩
abbrev main_c_284 : Ref sig .tc := ⟨.hbm, 1414, rfl⟩
abbrev main_v1120 : Ref sig .tc := ⟨.hbm, 1415, rfl⟩
abbrev main_v1121 : Ref sig .tc := ⟨.hbm, 1416, rfl⟩
abbrev main_v1122 : Ref sig .tc := ⟨.hbm, 1417, rfl⟩
abbrev main_v1123 : Ref sig .tc := ⟨.hbm, 1418, rfl⟩
abbrev main_v1124 : Ref sig .tc := ⟨.hbm, 1419, rfl⟩
abbrev main_v1125 : Ref sig .tc := ⟨.hbm, 1420, rfl⟩
abbrev main_c_285 : Ref sig .tc := ⟨.hbm, 1421, rfl⟩
abbrev main_v1126 : Ref sig .tc := ⟨.hbm, 1422, rfl⟩
abbrev main_v1127 : Ref sig .tc := ⟨.hbm, 1423, rfl⟩
abbrev main_c_286 : Ref sig .tc := ⟨.hbm, 1424, rfl⟩
abbrev main_v1128 : Ref sig .tc := ⟨.hbm, 1425, rfl⟩
abbrev main_v1129 : Ref sig .tc := ⟨.hbm, 1426, rfl⟩
abbrev main_v1130 : Ref sig .tc := ⟨.hbm, 1427, rfl⟩
abbrev main_v1131 : Ref sig .tc := ⟨.hbm, 1428, rfl⟩
abbrev main_v1132 : Ref sig .tc := ⟨.hbm, 1429, rfl⟩
abbrev main_c_287 : Ref sig .tc := ⟨.hbm, 1430, rfl⟩
abbrev main_v1133 : Ref sig .tc := ⟨.hbm, 1431, rfl⟩
abbrev main_v1134 : Ref sig .tc := ⟨.hbm, 1432, rfl⟩
abbrev main_c_288 : Ref sig .tc := ⟨.hbm, 1433, rfl⟩
abbrev main_v1135 : Ref sig .tc := ⟨.hbm, 1434, rfl⟩
abbrev main_v1136 : Ref sig .tc := ⟨.hbm, 1435, rfl⟩
abbrev main_v1137 : Ref sig .tc := ⟨.hbm, 1436, rfl⟩
abbrev main_v1138 : Ref sig .tc := ⟨.hbm, 1437, rfl⟩
abbrev main_v1139 : Ref sig .tc := ⟨.hbm, 1438, rfl⟩
abbrev main_c_289 : Ref sig .tc := ⟨.hbm, 1439, rfl⟩
abbrev main_v1140 : Ref sig .tc := ⟨.hbm, 1440, rfl⟩
abbrev main_v1141 : Ref sig .tc := ⟨.hbm, 1441, rfl⟩
abbrev main_c_290 : Ref sig .tc := ⟨.hbm, 1442, rfl⟩
abbrev main_v1142 : Ref sig .tc := ⟨.hbm, 1443, rfl⟩
abbrev main_v1143 : Ref sig .tc := ⟨.hbm, 1444, rfl⟩
abbrev main_v1144 : Ref sig .tc := ⟨.hbm, 1445, rfl⟩
abbrev main_v1145 : Ref sig .tc := ⟨.hbm, 1446, rfl⟩
abbrev main_v1146 : Ref sig .tc := ⟨.hbm, 1447, rfl⟩
abbrev main_c_291 : Ref sig .tc := ⟨.hbm, 1448, rfl⟩
abbrev main_v1147 : Ref sig .tc := ⟨.hbm, 1449, rfl⟩
abbrev main_v1148 : Ref sig .tc := ⟨.hbm, 1450, rfl⟩
abbrev main_c_292 : Ref sig .tc := ⟨.hbm, 1451, rfl⟩
abbrev main_v1149 : Ref sig .tc := ⟨.hbm, 1452, rfl⟩
abbrev main_v1150 : Ref sig .tc := ⟨.hbm, 1453, rfl⟩
abbrev main_v1151 : Ref sig .tc := ⟨.hbm, 1454, rfl⟩
abbrev main_v1152 : Ref sig .tc := ⟨.hbm, 1455, rfl⟩
abbrev main_v1153 : Ref sig .tc := ⟨.hbm, 1456, rfl⟩
abbrev main_v1154 : Ref sig .tc := ⟨.hbm, 1457, rfl⟩
abbrev main_v1155 : Ref sig .tc := ⟨.hbm, 1458, rfl⟩
abbrev main_v1156 : Ref sig .tc := ⟨.hbm, 1459, rfl⟩
abbrev main_c_293 : Ref sig .tc := ⟨.hbm, 1460, rfl⟩
abbrev main_v1157 : Ref sig .tc := ⟨.hbm, 1461, rfl⟩
abbrev main_v1158 : Ref sig .tc := ⟨.hbm, 1462, rfl⟩
abbrev main_v1159 : Ref sig .tc := ⟨.hbm, 1463, rfl⟩
abbrev main_c_294 : Ref sig .tc := ⟨.hbm, 1464, rfl⟩
abbrev main_v1160 : Ref sig .tc := ⟨.hbm, 1465, rfl⟩
abbrev main_v1161 : Ref sig .tc := ⟨.hbm, 1466, rfl⟩
abbrev main_c_295 : Ref sig .tc := ⟨.hbm, 1467, rfl⟩
abbrev main_v1162 : Ref sig .tc := ⟨.hbm, 1468, rfl⟩
abbrev main_v1163 : Ref sig .tc := ⟨.hbm, 1469, rfl⟩
abbrev main_v1164 : Ref sig .tc := ⟨.hbm, 1470, rfl⟩
abbrev main_v1165 : Ref sig .tc := ⟨.hbm, 1471, rfl⟩
abbrev main_v1166 : Ref sig .tc := ⟨.hbm, 1472, rfl⟩
abbrev main_c_296 : Ref sig .tc := ⟨.hbm, 1473, rfl⟩
abbrev main_v1167 : Ref sig .tc := ⟨.hbm, 1474, rfl⟩
abbrev main_v1168 : Ref sig .tc := ⟨.hbm, 1475, rfl⟩
abbrev main_c_297 : Ref sig .tc := ⟨.hbm, 1476, rfl⟩
abbrev main_v1169 : Ref sig .tc := ⟨.hbm, 1477, rfl⟩
abbrev main_v1170 : Ref sig .tc := ⟨.hbm, 1478, rfl⟩
abbrev main_v1171 : Ref sig .tc := ⟨.hbm, 1479, rfl⟩
abbrev main_v1172 : Ref sig .tc := ⟨.hbm, 1480, rfl⟩
abbrev main_v1173 : Ref sig .tc := ⟨.hbm, 1481, rfl⟩
abbrev main_c_298 : Ref sig .tc := ⟨.hbm, 1482, rfl⟩
abbrev main_v1174 : Ref sig .tc := ⟨.hbm, 1483, rfl⟩
abbrev main_v1175 : Ref sig .tc := ⟨.hbm, 1484, rfl⟩
abbrev main_c_299 : Ref sig .tc := ⟨.hbm, 1485, rfl⟩
abbrev main_v1176 : Ref sig .tc := ⟨.hbm, 1486, rfl⟩
abbrev main_v1177 : Ref sig .tc := ⟨.hbm, 1487, rfl⟩
abbrev main_v1178 : Ref sig .tc := ⟨.hbm, 1488, rfl⟩
abbrev main_v1179 : Ref sig .tc := ⟨.hbm, 1489, rfl⟩
abbrev main_v1180 : Ref sig .tc := ⟨.hbm, 1490, rfl⟩
abbrev main_c_300 : Ref sig .tc := ⟨.hbm, 1491, rfl⟩
abbrev main_v1181 : Ref sig .tc := ⟨.hbm, 1492, rfl⟩
abbrev main_v1182 : Ref sig .tc := ⟨.hbm, 1493, rfl⟩
abbrev main_c_301 : Ref sig .tc := ⟨.hbm, 1494, rfl⟩
abbrev main_v1183 : Ref sig .tc := ⟨.hbm, 1495, rfl⟩
abbrev main_v1184 : Ref sig .tc := ⟨.hbm, 1496, rfl⟩
abbrev main_v1185 : Ref sig .tc := ⟨.hbm, 1497, rfl⟩
abbrev main_v1186 : Ref sig .tc := ⟨.hbm, 1498, rfl⟩
abbrev main_v1187 : Ref sig .tc := ⟨.hbm, 1499, rfl⟩
abbrev main_v1188 : Ref sig .tc := ⟨.hbm, 1500, rfl⟩
abbrev main_v1189 : Ref sig .tc := ⟨.hbm, 1501, rfl⟩
abbrev main_v1190 : Ref sig .tc := ⟨.hbm, 1502, rfl⟩
abbrev main_c_302 : Ref sig .tc := ⟨.hbm, 1503, rfl⟩
abbrev main_v1191 : Ref sig .tc := ⟨.hbm, 1504, rfl⟩
abbrev main_v1192 : Ref sig .tc := ⟨.hbm, 1505, rfl⟩
abbrev main_v1193 : Ref sig .tc := ⟨.hbm, 1506, rfl⟩
abbrev main_c_303 : Ref sig .tc := ⟨.hbm, 1507, rfl⟩
abbrev main_v1194 : Ref sig .tc := ⟨.hbm, 1508, rfl⟩
abbrev main_v1195 : Ref sig .tc := ⟨.hbm, 1509, rfl⟩
abbrev main_c_304 : Ref sig .tc := ⟨.hbm, 1510, rfl⟩
abbrev main_v1196 : Ref sig .tc := ⟨.hbm, 1511, rfl⟩
abbrev main_v1197 : Ref sig .tc := ⟨.hbm, 1512, rfl⟩
abbrev main_v1198 : Ref sig .tc := ⟨.hbm, 1513, rfl⟩
abbrev main_v1199 : Ref sig .tc := ⟨.hbm, 1514, rfl⟩
abbrev main_v1200 : Ref sig .tc := ⟨.hbm, 1515, rfl⟩
abbrev main_c_305 : Ref sig .tc := ⟨.hbm, 1516, rfl⟩
abbrev main_v1201 : Ref sig .tc := ⟨.hbm, 1517, rfl⟩
abbrev main_v1202 : Ref sig .tc := ⟨.hbm, 1518, rfl⟩
abbrev main_c_306 : Ref sig .tc := ⟨.hbm, 1519, rfl⟩
abbrev main_v1203 : Ref sig .tc := ⟨.hbm, 1520, rfl⟩
abbrev main_v1204 : Ref sig .tc := ⟨.hbm, 1521, rfl⟩
abbrev main_v1205 : Ref sig .tc := ⟨.hbm, 1522, rfl⟩
abbrev main_v1206 : Ref sig .tc := ⟨.hbm, 1523, rfl⟩
abbrev main_v1207 : Ref sig .tc := ⟨.hbm, 1524, rfl⟩
abbrev main_c_307 : Ref sig .tc := ⟨.hbm, 1525, rfl⟩
abbrev main_v1208 : Ref sig .tc := ⟨.hbm, 1526, rfl⟩
abbrev main_v1209 : Ref sig .tc := ⟨.hbm, 1527, rfl⟩
abbrev main_c_308 : Ref sig .tc := ⟨.hbm, 1528, rfl⟩
abbrev main_v1210 : Ref sig .tc := ⟨.hbm, 1529, rfl⟩
abbrev main_v1211 : Ref sig .tc := ⟨.hbm, 1530, rfl⟩
abbrev main_v1212 : Ref sig .tc := ⟨.hbm, 1531, rfl⟩
abbrev main_v1213 : Ref sig .tc := ⟨.hbm, 1532, rfl⟩
abbrev main_v1214 : Ref sig .tc := ⟨.hbm, 1533, rfl⟩
abbrev main_c_309 : Ref sig .tc := ⟨.hbm, 1534, rfl⟩
abbrev main_v1215 : Ref sig .tc := ⟨.hbm, 1535, rfl⟩
abbrev main_v1216 : Ref sig .tc := ⟨.hbm, 1536, rfl⟩
abbrev main_c_310 : Ref sig .tc := ⟨.hbm, 1537, rfl⟩
abbrev main_v1217 : Ref sig .tc := ⟨.hbm, 1538, rfl⟩
abbrev main_v1218 : Ref sig .tc := ⟨.hbm, 1539, rfl⟩
abbrev main_v1219 : Ref sig .tc := ⟨.hbm, 1540, rfl⟩
abbrev main_v1220 : Ref sig .tc := ⟨.hbm, 1541, rfl⟩
abbrev main_v1221 : Ref sig .tc := ⟨.hbm, 1542, rfl⟩
abbrev main_v1222 : Ref sig .tc := ⟨.hbm, 1543, rfl⟩
abbrev main_v1223 : Ref sig .tc := ⟨.hbm, 1544, rfl⟩
abbrev main_v1224 : Ref sig .tc := ⟨.hbm, 1545, rfl⟩
abbrev main_c_311 : Ref sig .tc := ⟨.hbm, 1546, rfl⟩
abbrev main_v1225 : Ref sig .tc := ⟨.hbm, 1547, rfl⟩
abbrev main_v1226 : Ref sig .tc := ⟨.hbm, 1548, rfl⟩
abbrev main_v1227 : Ref sig .tc := ⟨.hbm, 1549, rfl⟩
abbrev main_c_312 : Ref sig .tc := ⟨.hbm, 1550, rfl⟩
abbrev main_v1228 : Ref sig .tc := ⟨.hbm, 1551, rfl⟩
abbrev main_v1229 : Ref sig .tc := ⟨.hbm, 1552, rfl⟩
abbrev main_c_313 : Ref sig .tc := ⟨.hbm, 1553, rfl⟩
abbrev main_v1230 : Ref sig .tc := ⟨.hbm, 1554, rfl⟩
abbrev main_v1231 : Ref sig .tc := ⟨.hbm, 1555, rfl⟩
abbrev main_v1232 : Ref sig .tc := ⟨.hbm, 1556, rfl⟩
abbrev main_v1233 : Ref sig .tc := ⟨.hbm, 1557, rfl⟩
abbrev main_v1234 : Ref sig .tc := ⟨.hbm, 1558, rfl⟩
abbrev main_c_314 : Ref sig .tc := ⟨.hbm, 1559, rfl⟩
abbrev main_v1235 : Ref sig .tc := ⟨.hbm, 1560, rfl⟩
abbrev main_v1236 : Ref sig .tc := ⟨.hbm, 1561, rfl⟩
abbrev main_c_315 : Ref sig .tc := ⟨.hbm, 1562, rfl⟩
abbrev main_v1237 : Ref sig .tc := ⟨.hbm, 1563, rfl⟩
abbrev main_v1238 : Ref sig .tc := ⟨.hbm, 1564, rfl⟩
abbrev main_v1239 : Ref sig .tc := ⟨.hbm, 1565, rfl⟩
abbrev main_v1240 : Ref sig .tc := ⟨.hbm, 1566, rfl⟩
abbrev main_v1241 : Ref sig .tc := ⟨.hbm, 1567, rfl⟩
abbrev main_c_316 : Ref sig .tc := ⟨.hbm, 1568, rfl⟩
abbrev main_v1242 : Ref sig .tc := ⟨.hbm, 1569, rfl⟩
abbrev main_v1243 : Ref sig .tc := ⟨.hbm, 1570, rfl⟩
abbrev main_c_317 : Ref sig .tc := ⟨.hbm, 1571, rfl⟩
abbrev main_v1244 : Ref sig .tc := ⟨.hbm, 1572, rfl⟩
abbrev main_v1245 : Ref sig .tc := ⟨.hbm, 1573, rfl⟩
abbrev main_v1246 : Ref sig .tc := ⟨.hbm, 1574, rfl⟩
abbrev main_v1247 : Ref sig .tc := ⟨.hbm, 1575, rfl⟩
abbrev main_v1248 : Ref sig .tc := ⟨.hbm, 1576, rfl⟩
abbrev main_c_318 : Ref sig .tc := ⟨.hbm, 1577, rfl⟩
abbrev main_v1249 : Ref sig .tc := ⟨.hbm, 1578, rfl⟩
abbrev main_v1250 : Ref sig .tc := ⟨.hbm, 1579, rfl⟩
abbrev main_c_319 : Ref sig .tc := ⟨.hbm, 1580, rfl⟩
abbrev main_v1251 : Ref sig .tc := ⟨.hbm, 1581, rfl⟩
abbrev main_v1252 : Ref sig .tc := ⟨.hbm, 1582, rfl⟩
abbrev main_v1253 : Ref sig .tc := ⟨.hbm, 1583, rfl⟩
abbrev main_v1254 : Ref sig .tc := ⟨.hbm, 1584, rfl⟩
abbrev main_v1255 : Ref sig .tc := ⟨.hbm, 1585, rfl⟩
abbrev main_v1256 : Ref sig .tc := ⟨.hbm, 1586, rfl⟩
abbrev main_v1257 : Ref sig .tc := ⟨.hbm, 1587, rfl⟩
abbrev main_v1258 : Ref sig .tc := ⟨.hbm, 1588, rfl⟩
abbrev main_c_320 : Ref sig .tc := ⟨.hbm, 1589, rfl⟩
abbrev main_v1259 : Ref sig .tc := ⟨.hbm, 1590, rfl⟩
abbrev main_v1260 : Ref sig .tc := ⟨.hbm, 1591, rfl⟩
abbrev main_v1261 : Ref sig .tc := ⟨.hbm, 1592, rfl⟩
abbrev main_c_321 : Ref sig .tc := ⟨.hbm, 1593, rfl⟩
abbrev main_v1262 : Ref sig .tc := ⟨.hbm, 1594, rfl⟩
abbrev main_v1263 : Ref sig .tc := ⟨.hbm, 1595, rfl⟩
abbrev main_c_322 : Ref sig .tc := ⟨.hbm, 1596, rfl⟩
abbrev main_v1264 : Ref sig .tc := ⟨.hbm, 1597, rfl⟩
abbrev main_v1265 : Ref sig .tc := ⟨.hbm, 1598, rfl⟩
abbrev main_v1266 : Ref sig .tc := ⟨.hbm, 1599, rfl⟩
abbrev main_v1267 : Ref sig .tc := ⟨.hbm, 1600, rfl⟩
abbrev main_v1268 : Ref sig .tc := ⟨.hbm, 1601, rfl⟩
abbrev main_c_323 : Ref sig .tc := ⟨.hbm, 1602, rfl⟩
abbrev main_v1269 : Ref sig .tc := ⟨.hbm, 1603, rfl⟩
abbrev main_v1270 : Ref sig .tc := ⟨.hbm, 1604, rfl⟩
abbrev main_c_324 : Ref sig .tc := ⟨.hbm, 1605, rfl⟩
abbrev main_v1271 : Ref sig .tc := ⟨.hbm, 1606, rfl⟩
abbrev main_v1272 : Ref sig .tc := ⟨.hbm, 1607, rfl⟩
abbrev main_v1273 : Ref sig .tc := ⟨.hbm, 1608, rfl⟩
abbrev main_v1274 : Ref sig .tc := ⟨.hbm, 1609, rfl⟩
abbrev main_v1275 : Ref sig .tc := ⟨.hbm, 1610, rfl⟩
abbrev main_c_325 : Ref sig .tc := ⟨.hbm, 1611, rfl⟩
abbrev main_v1276 : Ref sig .tc := ⟨.hbm, 1612, rfl⟩
abbrev main_v1277 : Ref sig .tc := ⟨.hbm, 1613, rfl⟩
abbrev main_c_326 : Ref sig .tc := ⟨.hbm, 1614, rfl⟩
abbrev main_v1278 : Ref sig .tc := ⟨.hbm, 1615, rfl⟩
abbrev main_v1279 : Ref sig .tc := ⟨.hbm, 1616, rfl⟩
abbrev main_v1280 : Ref sig .tc := ⟨.hbm, 1617, rfl⟩
abbrev main_v1281 : Ref sig .tc := ⟨.hbm, 1618, rfl⟩
abbrev main_v1282 : Ref sig .tc := ⟨.hbm, 1619, rfl⟩
abbrev main_c_327 : Ref sig .tc := ⟨.hbm, 1620, rfl⟩
abbrev main_v1283 : Ref sig .tc := ⟨.hbm, 1621, rfl⟩
abbrev main_v1284 : Ref sig .tc := ⟨.hbm, 1622, rfl⟩
abbrev main_c_328 : Ref sig .tc := ⟨.hbm, 1623, rfl⟩
abbrev main_v1285 : Ref sig .tc := ⟨.hbm, 1624, rfl⟩
abbrev main_v1286 : Ref sig .tc := ⟨.hbm, 1625, rfl⟩
abbrev main_v1287 : Ref sig .tc := ⟨.hbm, 1626, rfl⟩
abbrev main_v1288 : Ref sig .tc := ⟨.hbm, 1627, rfl⟩
abbrev main_v1289 : Ref sig .tc := ⟨.hbm, 1628, rfl⟩
abbrev main_v1290 : Ref sig .tc := ⟨.hbm, 1629, rfl⟩
abbrev main_v1291 : Ref sig .tc := ⟨.hbm, 1630, rfl⟩
abbrev main_v1292 : Ref sig .tc := ⟨.hbm, 1631, rfl⟩
abbrev main_c_329 : Ref sig .tc := ⟨.hbm, 1632, rfl⟩
abbrev main_v1293 : Ref sig .tc := ⟨.hbm, 1633, rfl⟩
abbrev main_v1294 : Ref sig .tc := ⟨.hbm, 1634, rfl⟩
abbrev main_v1295 : Ref sig .tc := ⟨.hbm, 1635, rfl⟩
abbrev main_c_330 : Ref sig .tc := ⟨.hbm, 1636, rfl⟩
abbrev main_v1296 : Ref sig .tc := ⟨.hbm, 1637, rfl⟩
abbrev main_v1297 : Ref sig .tc := ⟨.hbm, 1638, rfl⟩
abbrev main_c_331 : Ref sig .tc := ⟨.hbm, 1639, rfl⟩
abbrev main_v1298 : Ref sig .tc := ⟨.hbm, 1640, rfl⟩
abbrev main_v1299 : Ref sig .tc := ⟨.hbm, 1641, rfl⟩
abbrev main_v1300 : Ref sig .tc := ⟨.hbm, 1642, rfl⟩
abbrev main_cst_332 : Ref sig .tc := ⟨.hbm, 1643, rfl⟩
abbrev main_v1301 : Ref sig .tc := ⟨.hbm, 1644, rfl⟩
abbrev main_v1302 : Ref sig .tc := ⟨.hbm, 1645, rfl⟩
abbrev main_cst_333 : Ref sig .tc := ⟨.hbm, 1646, rfl⟩
abbrev main_v1303 : Ref sig .tc := ⟨.hbm, 1647, rfl⟩
abbrev main_v1304 : Ref sig .tc := ⟨.hbm, 1648, rfl⟩
abbrev main_cst_334 : Ref sig .tc := ⟨.hbm, 1649, rfl⟩
abbrev main_v1305 : Ref sig .tc := ⟨.hbm, 1650, rfl⟩
abbrev main_v1306 : Ref sig .tc := ⟨.hbm, 1651, rfl⟩
abbrev main_cst_335 : Ref sig .tc := ⟨.hbm, 1652, rfl⟩
abbrev main_v1307 : Ref sig .tc := ⟨.hbm, 1653, rfl⟩
abbrev main_v1308 : Ref sig .tc := ⟨.hbm, 1654, rfl⟩
abbrev main_v1309 : Ref sig .tc := ⟨.hbm, 1655, rfl⟩
abbrev main_v1310 : Ref sig .tc := ⟨.hbm, 1656, rfl⟩
abbrev main_v1311 : Ref sig .tc := ⟨.hbm, 1657, rfl⟩
abbrev main_v1312 : Ref sig .tc := ⟨.hbm, 1658, rfl⟩
abbrev main_v1313 : Ref sig .tc := ⟨.hbm, 1659, rfl⟩
abbrev main_values_336 : Ref sig .tc := ⟨.hbm, 1660, rfl⟩
abbrev main_indices_337 : Ref sig .tc := ⟨.hbm, 1661, rfl⟩
abbrev main_v1314 : Ref sig .tc := ⟨.hbm, 1662, rfl⟩
abbrev main_v1315 : Ref sig .tc := ⟨.hbm, 1663, rfl⟩
abbrev main_v1316 : Ref sig .tc := ⟨.hbm, 1664, rfl⟩
abbrev main_v1317 : Ref sig .tc := ⟨.hbm, 1665, rfl⟩
abbrev main_v1318 : Ref sig .tc := ⟨.hbm, 1666, rfl⟩
abbrev main_c_338 : Ref sig .tc := ⟨.hbm, 1667, rfl⟩
abbrev main_v1319 : Ref sig .tc := ⟨.hbm, 1668, rfl⟩
abbrev main_v1320 : Ref sig .tc := ⟨.hbm, 1669, rfl⟩
abbrev main_c_339 : Ref sig .tc := ⟨.hbm, 1670, rfl⟩
abbrev main_v1321 : Ref sig .tc := ⟨.hbm, 1671, rfl⟩
abbrev main_v1322 : Ref sig .tc := ⟨.hbm, 1672, rfl⟩
abbrev main_v1323 : Ref sig .tc := ⟨.hbm, 1673, rfl⟩
abbrev main_c_340 : Ref sig .tc := ⟨.hbm, 1674, rfl⟩
abbrev main_v1324 : Ref sig .tc := ⟨.hbm, 1675, rfl⟩
abbrev main_v1325 : Ref sig .tc := ⟨.hbm, 1676, rfl⟩
abbrev main_c_341 : Ref sig .tc := ⟨.hbm, 1677, rfl⟩
abbrev main_v1326 : Ref sig .tc := ⟨.hbm, 1678, rfl⟩
abbrev main_v1327 : Ref sig .tc := ⟨.hbm, 1679, rfl⟩
abbrev main_v1328 : Ref sig .tc := ⟨.hbm, 1680, rfl⟩
abbrev main_v1329 : Ref sig .tc := ⟨.hbm, 1681, rfl⟩
abbrev main_v1330 : Ref sig .tc := ⟨.hbm, 1682, rfl⟩
abbrev main_v1331 : Ref sig .tc := ⟨.hbm, 1683, rfl⟩
abbrev main_v1332 : Ref sig .tc := ⟨.hbm, 1684, rfl⟩
abbrev main_v1333 : Ref sig .tc := ⟨.hbm, 1685, rfl⟩
abbrev main_cst_342 : Ref sig .tc := ⟨.hbm, 1686, rfl⟩
abbrev main_v1334 : Ref sig .tc := ⟨.hbm, 1687, rfl⟩
abbrev main_v1335 : Ref sig .tc := ⟨.hbm, 1688, rfl⟩
abbrev main_v1336 : Ref sig .tc := ⟨.hbm, 1689, rfl⟩
abbrev main_c_343 : Ref sig .tc := ⟨.hbm, 1690, rfl⟩
abbrev main_v1337 : Ref sig .tc := ⟨.hbm, 1691, rfl⟩
abbrev main_v1338 : Ref sig .tc := ⟨.hbm, 1692, rfl⟩
abbrev main_c_344 : Ref sig .tc := ⟨.hbm, 1693, rfl⟩
abbrev main_v1339 : Ref sig .tc := ⟨.hbm, 1694, rfl⟩
abbrev main_v1340 : Ref sig .tc := ⟨.hbm, 1695, rfl⟩
abbrev main_v1341 : Ref sig .tc := ⟨.hbm, 1696, rfl⟩
abbrev main_c_345 : Ref sig .tc := ⟨.hbm, 1697, rfl⟩
abbrev main_v1342 : Ref sig .tc := ⟨.hbm, 1698, rfl⟩
abbrev main_v1343 : Ref sig .tc := ⟨.hbm, 1699, rfl⟩
abbrev main_c_346 : Ref sig .tc := ⟨.hbm, 1700, rfl⟩
abbrev main_v1344 : Ref sig .tc := ⟨.hbm, 1701, rfl⟩
abbrev main_v1345 : Ref sig .tc := ⟨.hbm, 1702, rfl⟩
abbrev main_v1346 : Ref sig .tc := ⟨.hbm, 1703, rfl⟩
abbrev main_v1347 : Ref sig .tc := ⟨.hbm, 1704, rfl⟩
abbrev main_v1348 : Ref sig .tc := ⟨.hbm, 1705, rfl⟩
abbrev main_v1349 : Ref sig .tc := ⟨.hbm, 1706, rfl⟩
abbrev main_v1350 : Ref sig .tc := ⟨.hbm, 1707, rfl⟩
abbrev main_cst_347 : Ref sig .tc := ⟨.hbm, 1708, rfl⟩
abbrev main_v1351 : Ref sig .tc := ⟨.hbm, 1709, rfl⟩
abbrev main_v1352 : Ref sig .tc := ⟨.hbm, 1710, rfl⟩
abbrev main_v1353 : Ref sig .tc := ⟨.hbm, 1711, rfl⟩

abbrev nD : Nat := 1
abbrev τ : Topo := Topo.v7x

variable {F : FTy → Type} [FloatOps F]
-- ==== Proof.Precondition.lean ====
/- The precondition read at an entry: every operation and scale embedding is a real number. -/
module

public import proofs.«01_k».proof.Pre_finite
public import Idealize.ShloMosaic.Lib.ValueIdx
public import Idealize.ShloMosaic.Lib.IdealHost

@[expose] public section

noncomputable section

namespace Cert.Precondition

open Idealize.ShloMosaic Cert.Pre_finite

/-- The side conditions of the precondition. -/
theorem facts : Cert.Pre_finite.Facts where
  bcast_S_S16x128 := by decide
  bcast_S_S31x128 := by decide

/-- The pattern of infinity is the greatest extended real. -/
theorem ofBits_inf : Ideal.ofBits .f32 0x7F800000#32 = ⊤ := by simp [Ideal.ofBits, Ideal.ieee]

/-- A value of magnitude below infinity is real. -/
theorem real_of_lt (x : EReal) (h : BitVec.ofBool (decide (max x (-x) < Ideal.ofBits .f32 0x7F800000#32)) = 1#1) : ∃ r : ℝ, x = r := by
  rw [ofBits_inf] at h
  have hlt : max x (-x) < ⊤ := by
    by_contra hn
    rw [decide_eq_false hn] at h
    exact absurd h (by decide)
  refine ⟨x.toReal, (EReal.coe_toReal ?_ ?_).symm⟩
  · exact ((le_max_left _ _).trans_lt hlt).ne
  · rintro rfl
    exact absurd ((le_max_right _ _).trans_lt hlt) (by simp)

variable [Cert.Pre_finite.Facts] (a0 : FVec Ideal S16384x3x32x32 .f32) (a1 : FVec Ideal S16x128 .f32) (a2 : FVec Ideal S4x128 .f32)
  (a3 : FVec Ideal S31x128 .f32) (a4 : FVec Ideal S128 .f32) (a5 : IVec S4 32)

theorem op_real (h : (fn (F := Ideal) a0 a1 a2 a3 a4 a5).1 = fun _ => 1#1) (i : S16x128.Idx) : ∃ r : ℝ, a1 i = r :=
  real_of_lt _ (congrFun h i)

theorem se_real (h : (fn (F := Ideal) a0 a1 a2 a3 a4 a5).2 = fun _ => 1#1) (i : S31x128.Idx) : ∃ r : ℝ, a3 i = r :=
  real_of_lt _ (congrFun h i)

end Cert.Precondition

end
-- ==== Proof.Threefry.lean ====
/- The threefry-2x32 cipher on one pair of counter words, step by step, and the lemmas that fold one line of either
   program into one step of it. -/
module

public import Idealize.ShloMosaic.PureOps
public import Idealize.ShloMosaic.Lib.Pointwise

@[expose] public section

namespace Cert.Threefry

open Idealize.ShloMosaic

/-- The left and right shift amounts of the rotation in step `n` (four rounds, then a key injection, per five steps). -/
def rot (n : Nat) : BitVec 32 × BitVec 32 :=
  if n / 5 % 2 = 0 then
    if n % 5 = 0 then (13#32, 19#32) else if n % 5 = 1 then (15#32, 17#32) else if n % 5 = 2 then (26#32, 6#32) else (6#32, 26#32)
  else
    if n % 5 = 0 then (17#32, 15#32) else if n % 5 = 1 then (29#32, 3#32) else if n % 5 = 2 then (16#32, 16#32) else (24#32, 8#32)

/-- The three key words in turn. -/
def key (k0 k1 k2 : BitVec 32) (n : Nat) : BitVec 32 :=
  if n % 3 = 0 then k0 else if n % 3 = 1 then k1 else k2

/-- The pair of words after `n` steps. -/
def st (k0 k1 k2 c0 c1 : BitVec 32) : Nat → BitVec 32 × BitVec 32
  | 0 => (c0 + k0, c1 + k1)
  | n + 1 =>
    let p := st k0 k1 k2 c0 c1 n
    if n % 5 < 4 then
      (p.1 + p.2, (p.2 <<< (rot n).1 ||| p.2 >>> (rot n).2) ^^^ (p.1 + p.2))
    else
      (p.1 + key k0 k1 k2 (n / 5 + 1), p.2 + key k0 k1 k2 (n / 5 + 2) + BitVec.ofNat 32 (n / 5 + 1))

/-- The first word after `n` steps. -/
def X0 (k0 k1 k2 c0 c1 : BitVec 32) (n : Nat) : BitVec 32 := (st k0 k1 k2 c0 c1 n).1

/-- The second word after `n` steps. -/
def X1 (k0 k1 k2 c0 c1 : BitVec 32) (n : Nat) : BitVec 32 := (st k0 k1 k2 c0 c1 n).2

variable {k0 k1 k2 c0 c1 : BitVec 32}

/-- A mixing step adds the second word to the first. -/
theorem fold_add (n : Nat) (h : n % 5 < 4) :
    IntOp.addi (X0 k0 k1 k2 c0 c1 n) (X1 k0 k1 k2 c0 c1 n) = X0 k0 k1 k2 c0 c1 (n + 1) := by
  simp only [X0, X1, st, h, if_true, IntOp.addi]

/-- A mixing step rotates the second word and adds the new first word to it bit by bit. -/
theorem fold_mix (u : ArithUnit) (n : Nat) (r s : BitVec 32) (h : n % 5 < 4) (hr : rot n = (r, s)) :
    IntOp.xori (IntOp.ori (IntOp.shli u (X1 k0 k1 k2 c0 c1 n) r) (IntOp.shrui u (X1 k0 k1 k2 c0 c1 n) s))
      (X0 k0 k1 k2 c0 c1 (n + 1)) = X1 k0 k1 k2 c0 c1 (n + 1) := by
  have hrs : r.toNat < 32 ∧ s.toNat < 32 := by
    unfold rot at hr
    split_ifs at hr <;> (cases hr; decide)
  simp only [X0, X1, st, h, if_true, IntOp.xori, IntOp.ori, IntOp.shli, IntOp.shrui, hr, hrs.1, hrs.2]

/-- The same with the two operands of the last operation the other way round. -/
theorem fold_mix' (u : ArithUnit) (n : Nat) (r s : BitVec 32) (h : n % 5 < 4) (hr : rot n = (r, s)) :
    IntOp.xori (X0 k0 k1 k2 c0 c1 (n + 1))
      (IntOp.ori (IntOp.shli u (X1 k0 k1 k2 c0 c1 n) r) (IntOp.shrui u (X1 k0 k1 k2 c0 c1 n) s)) = X1 k0 k1 k2 c0 c1 (n + 1) := by
  rw [← fold_mix u n r s h hr]
  exact BitVec.xor_comm _ _

/-- An injection step adds a key word to the first word. -/
theorem fold_key0 (n : Nat) (k : BitVec 32) (h : n % 5 = 4) (hk : key k0 k1 k2 (n / 5 + 1) = k) :
    IntOp.addi (X0 k0 k1 k2 c0 c1 n) k = X0 k0 k1 k2 c0 c1 (n + 1) := by
  simp only [X0, st, h, hk, IntOp.addi, show ¬ (4 < 4) by decide, if_false]

/-- An injection step adds the next key word and the step's number to the second word. -/
theorem fold_key1 (n : Nat) (k i : BitVec 32) (h : n % 5 = 4) (hk : key k0 k1 k2 (n / 5 + 2) = k)
    (hi : BitVec.ofNat 32 (n / 5 + 1) = i) :
    IntOp.addi (IntOp.addi (X1 k0 k1 k2 c0 c1 n) k) i = X1 k0 k1 k2 c0 c1 (n + 1) := by
  simp only [X1, st, h, hk, hi, IntOp.addi, show ¬ (4 < 4) by decide, if_false]

/-- The cipher starts from the counter words with the key added. -/
theorem start0 : IntOp.addi c0 k0 = X0 k0 k1 k2 c0 c1 0 := rfl

/-- The cipher starts from the counter words with the key added. -/
theorem start1 : IntOp.addi c1 k1 = X1 k0 k1 k2 c0 c1 0 := rfl

/-- The first output word. -/
def out0 (k0 k1 k2 c0 c1 : BitVec 32) : BitVec 32 := X0 k0 k1 k2 c0 c1 25

/-- The second output word. -/
def out1 (k0 k1 k2 c0 c1 : BitVec 32) : BitVec 32 := X1 k0 k1 k2 c0 c1 25

/-- Thirty-two random bits: the two output words added bit by bit. -/
def bits (k0 k1 k2 c0 c1 : BitVec 32) : BitVec 32 := IntOp.xori (out0 k0 k1 k2 c0 c1) (out1 k0 k1 k2 c0 c1)

end Cert.Threefry

end
-- ==== Proof.KernelBits.lean ====
/- The random words of one block of the kernel, read entry by entry as threefry of the entry's counter. -/
module

public import proofs.«01_k».proof.Proof.Threefry
public import proofs.«01_k».proof.Proof.Gen.KernelIdeal.Value
public import Idealize.ShloMosaic.Lib.ValueIdx

@[expose] public section

noncomputable section

namespace Cert.KernelSide

open Cert.KernelIdeal Cert.KernelIdeal.Gen Cert.Threefry Idealize.ShloMosaic

variable {F : FTy → Type} [FloatOps F]
variable (i : grid0.Coords) (x0 : Vec F S16x128 .f32) (x1 : Vec F S4x128 .f32) (x2 : Vec F S31x128 .f32)
  (x3 : Vec F S128x1 .f32) (x4 : Vec F S4x1 .i32)

theorem kA2 : Scalar.xori (Scalar.xori 1832780943#32 270669613#32) 466688986#32 = 1724713080#32 := by decide
theorem kB2 : Scalar.xori (Scalar.xori 2350016172#32 1168365246#32) 466688986#32 = 3529550792#32 := by decide
theorem kC2 : Scalar.xori (Scalar.xori 2465931498#32 255383827#32) 466688986#32 = 2249384483#32 := by decide

/-- Standard Gumbel noise from an array of random words: twenty-three bits of mantissa make a uniform number, and two
logarithms turn it. -/
def gumV (s : Shape) (w : IVec s 32) : FVec F s .f32 :=
  subf (broadcast s (Scalar.ofBits .f32 0x00000000#32)) (log (subf (broadcast s (Scalar.ofBits .f32 0x00000000#32)) (log
    (maximumf (broadcast s (Scalar.ofBits .f32 0x00800000#32))
      (addf (mulf (subf (bitcastToFloat .f32 (ori (shrui w (broadcast s 9#32)) (broadcast s 1065353216#32)))
        (broadcast s (Scalar.ofBits .f32 0x3F800000#32))) (broadcast s (Scalar.ofBits .f32 0x3F800000#32)))
        (broadcast s (Scalar.ofBits .f32 0x00800000#32)))))))

/-- The counter word of entry `j` of the first draw. -/
def cA (j : S4x8192.Idx) : BitVec 32 := (addi (broadcastTo S4x8192 (muli (broadcast S1x8192 4#32) (k0_pay3 i)) broadcasts_S1x8192_S4x8192)
  (iota .tc S4x8192 32 [0] iota_S4x8192_d0_w32)) j

/-- The counter word of entry `j` of the second draw. -/
def cB (j : S3x8192.Idx) : BitVec 32 := (addi (broadcastTo S3x8192 (muli (broadcast S1x8192 3#32) (k0_pay3 i)) broadcasts_S1x8192_S3x8192)
  (iota .tc S3x8192 32 [0] iota_S3x8192_d0_w32)) j

/-- The counter word of entry `j` of the third draw's part that starts at word `o` of each row's ninety-three. -/
def cC (o : BitVec 32) (j : S31x8192.Idx) : BitVec 32 :=
  (addi (broadcastTo S31x8192 (addi (muli (broadcast S1x8192 93#32) (k0_pay3 i)) (broadcast S1x8192 o)) broadcasts_S1x8192_S31x8192)
    (iota .tc S31x8192 32 [0] iota_S31x8192_d0_w32)) j

/-- The random word of entry `j` of the first draw. -/
def bitsA (j : S4x8192.Idx) : BitVec 32 := bits 1832780943#32 270669613#32 1724713080#32 0#32 (cA i j)

/-- The random word of entry `j` of the second draw. -/
def bitsB (j : S3x8192.Idx) : BitVec 32 := bits 2350016172#32 1168365246#32 3529550792#32 0#32 (cB i j)

/-- The random word of entry `j` of the third draw's part from `o`. -/
def bitsC (o : BitVec 32) (j : S31x8192.Idx) : BitVec 32 := bits 2465931498#32 255383827#32 2249384483#32 0#32 (cC i o j)

/-! ## The first draw -/

theorem a29 (j : S4x8192.Idx) : k0_pay6 i j = X1 1832780943#32 270669613#32 1724713080#32 0#32 (cA i j) 0 := rfl

theorem a30 (j : S4x8192.Idx) : k0_pay7 i j = X0 1832780943#32 270669613#32 1724713080#32 0#32 (cA i j) 1 := by
  rw [← fold_add 0 (by decide), ← a29]; rfl

theorem a_173 (j : S4x8192.Idx) : k0_pay316 i x0 x1 x2 x3 x4 j = X0 1832780943#32 270669613#32 1724713080#32 0#32 (cA i j) 22 := by
  simp (config := {decide := true}) only [kA2, ↓k0_pay308, ↓k0_pay309, ↓k0_pay310, ↓k0_pay311, ↓k0_pay312, ↓k0_pay313, ↓k0_pay314, ↓k0_pay315, ↓k0_pay316, ↓k0_pay8, ↓k0_pay9, ↓k0_pay10,
    ↓k0_pay11, ↓k0_pay12, ↓k0_pay13, ↓k0_pay14, ↓k0_pay15, ↓k0_pay16, ↓k0_pay17, ↓k0_pay18, ↓k0_pay19, ↓k0_pay20, ↓k0_pay21, ↓k0_pay22,
    ↓k0_pay23, ↓k0_pay24, ↓k0_pay25, ↓k0_pay26, ↓k0_pay27, ↓k0_pay28, ↓k0_pay29, ↓k0_pay30, ↓k0_pay31, ↓k0_pay32, ↓k0_pay33, ↓k0_pay34,
    ↓k0_pay35, ↓k0_pay36, ↓k0_pay37, ↓k0_pay38, ↓k0_pay39, ↓k0_pay40, ↓k0_pay41, ↓k0_pay42, ↓k0_pay43, ↓addi_apply, ↓xori_apply, ↓ori_apply, ↓shli_apply, ↓shrui_apply, ↓andi_apply, ↓ValueIdx.broadcast_apply,
    a29, a30, fold_add, fold_mix, fold_key0, fold_key1, Nat.reduceAdd]

/-- The first scores: Gumbel noise from the first draw's words, plus the logits. -/
theorem a_221 : k0_pay318 i x0 x1 x2 x3 x4 = addf (gumV S4x8192 (bitsA i))
    (broadcastTo S4x8192 (k0_pay4 (View.ld x1 r0_0) (View.ld x3 r0_1)) broadcasts_S4x1_S4x8192) := by
  refine (show _ = addf (gumV S4x8192 _) _ from rfl).trans (congrArg (fun w => addf (gumV S4x8192 w) _) (funext fun j => ?_))
  simp (config := {decide := true}) only [bitsA, bits, out0, out1, kA2, a_173, ↓k0_pay308, ↓k0_pay309, ↓k0_pay310, ↓k0_pay311, ↓k0_pay312, ↓k0_pay313, ↓k0_pay314, ↓k0_pay315, ↓k0_pay317, ↓k0_pay8, ↓k0_pay9, ↓k0_pay10,
    ↓k0_pay11, ↓k0_pay12, ↓k0_pay13, ↓k0_pay14, ↓k0_pay15, ↓k0_pay16, ↓k0_pay17, ↓k0_pay18, ↓k0_pay19, ↓k0_pay20, ↓k0_pay21, ↓k0_pay22,
    ↓k0_pay23, ↓k0_pay24, ↓k0_pay25, ↓k0_pay26, ↓k0_pay27, ↓k0_pay28, ↓k0_pay29, ↓k0_pay30, ↓k0_pay31, ↓k0_pay32, ↓k0_pay33, ↓k0_pay34,
    ↓k0_pay35, ↓k0_pay36, ↓k0_pay37, ↓k0_pay38, ↓k0_pay39, ↓k0_pay40, ↓k0_pay41, ↓k0_pay42, ↓k0_pay43, ↓k0_pay44, ↓addi_apply, ↓xori_apply, ↓ori_apply, ↓shli_apply, ↓shrui_apply, ↓andi_apply, ↓ValueIdx.broadcast_apply,
    a29, a30, fold_add, fold_mix, fold_key0, fold_key1, Nat.reduceAdd]

/-! ## The second draw -/

theorem b258 (j : S3x8192.Idx) : k0_pay50 (k0_pay306 i x0 x1 x2 x3 x4) j = X1 2350016172#32 1168365246#32 3529550792#32 0#32 (cB i j) 0 := rfl

theorem b259 (j : S3x8192.Idx) : k0_pay51 (k0_pay306 i x0 x1 x2 x3 x4) j = X0 2350016172#32 1168365246#32 3529550792#32 0#32 (cB i j) 1 := by
  rw [← fold_add 0 (by decide), ← b258 i x0 x1 x2 x3 x4]; rfl

/-- The second draw's entries are the low four bits of its words. -/
theorem b_431 (j : S3x8192.Idx) : k0_pay329 i x0 x1 x2 x3 x4 j = IntOp.andi (bitsB i j) 15#32 := by
  simp (config := {decide := true}) only [bitsB, bits, out0, out1, kB2, ↓k0_pay321, ↓k0_pay322, ↓k0_pay323, ↓k0_pay324, ↓k0_pay325, ↓k0_pay326, ↓k0_pay329, ↓k0_pay52, ↓k0_pay53, ↓k0_pay54, ↓k0_pay55, ↓k0_pay56,
    ↓k0_pay57, ↓k0_pay58, ↓k0_pay59, ↓k0_pay60, ↓k0_pay61, ↓k0_pay62, ↓k0_pay63, ↓k0_pay64, ↓k0_pay65, ↓k0_pay66, ↓k0_pay67, ↓k0_pay68,
    ↓k0_pay69, ↓k0_pay70, ↓k0_pay71, ↓k0_pay72, ↓k0_pay73, ↓k0_pay74, ↓k0_pay75, ↓k0_pay76, ↓k0_pay77, ↓k0_pay78, ↓k0_pay79, ↓k0_pay80,
    ↓k0_pay81, ↓k0_pay82, ↓k0_pay83, ↓k0_pay84, ↓k0_pay85, ↓k0_pay86, ↓k0_pay87, ↓k0_pay88, ↓k0_pay89, ↓k0_pay90, ↓addi_apply, ↓xori_apply, ↓ori_apply, ↓shli_apply, ↓shrui_apply, ↓andi_apply, ↓ValueIdx.broadcast_apply,
    b258, b259, fold_add, fold_mix, fold_key0, fold_key1, Nat.reduceAdd]

/-! ## The third draw, in its three parts -/

theorem c0_575 (j : S31x8192.Idx) : k0_pay118 (k0_pay328 i x0 x1 x2 x3 x4) (k0_pay331 i x0 x1 x2 x3 x4) j
    = X1 2465931498#32 255383827#32 2249384483#32 0#32 (cC i 0#32 j) 0 := rfl

theorem c0_576 (j : S31x8192.Idx) : k0_pay119 (k0_pay328 i x0 x1 x2 x3 x4) (k0_pay331 i x0 x1 x2 x3 x4) j
    = X0 2465931498#32 255383827#32 2249384483#32 0#32 (cC i 0#32 j) 1 := by
  rw [← fold_add 0 (by decide), ← c0_575 i x0 x1 x2 x3 x4]; rfl

theorem c1_911 (j : S31x8192.Idx) : k0_pay190 (k0_pay328 i x0 x1 x2 x3 x4) (k0_pay331 i x0 x1 x2 x3 x4) j
    = X1 2465931498#32 255383827#32 2249384483#32 0#32 (cC i 31#32 j) 0 := rfl

theorem c1_912 (j : S31x8192.Idx) : k0_pay191 (k0_pay328 i x0 x1 x2 x3 x4) (k0_pay331 i x0 x1 x2 x3 x4) j
    = X0 2465931498#32 255383827#32 2249384483#32 0#32 (cC i 31#32 j) 1 := by
  rw [← fold_add 0 (by decide), ← c1_911 i x0 x1 x2 x3 x4]; rfl

theorem c2_1247 (j : S31x8192.Idx) : k0_pay256 (k0_pay328 i x0 x1 x2 x3 x4) (k0_pay331 i x0 x1 x2 x3 x4) j
    = X1 2465931498#32 255383827#32 2249384483#32 0#32 (cC i 62#32 j) 0 := rfl

theorem c2_1248 (j : S31x8192.Idx) : k0_pay257 (k0_pay328 i x0 x1 x2 x3 x4) (k0_pay331 i x0 x1 x2 x3 x4) j
    = X0 2465931498#32 255383827#32 2249384483#32 0#32 (cC i 62#32 j) 1 := by
  rw [← fold_add 0 (by decide), ← c2_1247 i x0 x1 x2 x3 x4]; rfl

/-- The least row among those at which an array of thirty-one rows reaches its column's maximum. -/
def firstV (v : FVec F S31x8192 .f32) : IVec S1x8192 32 :=
  shapeCast S1x8192 (multiReductionI .minsi [0] S8192 (select (cmpf .oeq v (broadcastTo S31x8192 (shapeCast S1x8192
    (multiReduction .maximumf [0] S8192 v 0xFF800000#32 reduces_S31x8192_S8192 (.inl rfl) rfl) shapeCasts_S8192_S1x8192)
    broadcasts_S1x8192_S31x8192)) (iota .tc S31x8192 32 [0] iota_S31x8192_d0_w32) (broadcast S31x8192 31#32))
    2147483647#32 reduces_S31x8192_S8192 rfl) shapeCasts_S8192_S1x8192

/-- The first sampled row. -/
theorem c0_774 (v : FVec F S31x8192 .f32) :
    k0_pay163 (k0_pay327 i x0 x1 x2 x3 x4) v (k0_pay345 i x0 x1 x2 x3 x4) (k0_pay346 i x0 x1 x2 x3 x4) 2465931498#32
      = firstV (addf v (gumV S31x8192 (bitsC i 0#32))) := by
  refine (show _ = firstV (addf v (gumV S31x8192 _)) from rfl).trans
    (congrArg (fun w => firstV (addf v (gumV S31x8192 w))) (funext fun j => ?_))
  simp (config := {decide := true}) only [bitsC, bits, out0, out1, kC2, ↓k0_pay338, ↓k0_pay339, ↓k0_pay340, ↓k0_pay341, ↓k0_pay342, ↓k0_pay343, ↓k0_pay344, ↓k0_pay345, ↓k0_pay346, ↓k0_pay120, ↓k0_pay121, ↓k0_pay122,
    ↓k0_pay123, ↓k0_pay124, ↓k0_pay125, ↓k0_pay126, ↓k0_pay127, ↓k0_pay128, ↓k0_pay129, ↓k0_pay130, ↓k0_pay131, ↓k0_pay132, ↓k0_pay133, ↓k0_pay134,
    ↓k0_pay135, ↓k0_pay136, ↓k0_pay137, ↓k0_pay138, ↓k0_pay139, ↓k0_pay140, ↓k0_pay141, ↓k0_pay142, ↓k0_pay143, ↓k0_pay144, ↓k0_pay145, ↓k0_pay146,
    ↓k0_pay147, ↓k0_pay148, ↓k0_pay149, ↓k0_pay150, ↓k0_pay151, ↓k0_pay152, ↓k0_pay153, ↓k0_pay154, ↓k0_pay155, ↓k0_pay156, ↓k0_pay157, ↓k0_pay158,
    ↓k0_pay159, ↓k0_pay160, ↓k0_pay161, ↓k0_pay162, ↓addi_apply, ↓xori_apply, ↓ori_apply, ↓shli_apply, ↓shrui_apply, ↓andi_apply, ↓ValueIdx.broadcast_apply,
    c0_575, c0_576, fold_add, fold_mix, fold_key0, fold_key1, Nat.reduceAdd]

/-- The second sampled row. -/
theorem c1_1110 (v : FVec F S31x8192 .f32) :
    k0_pay236 (k0_pay327 i x0 x1 x2 x3 x4) v (k0_pay361 i x0 x1 x2 x3 x4) (k0_pay362 i x0 x1 x2 x3 x4)
      = firstV (addf v (gumV S31x8192 (bitsC i 31#32))) := by
  refine (show _ = firstV (addf v (gumV S31x8192 _)) from rfl).trans
    (congrArg (fun w => firstV (addf v (gumV S31x8192 w))) (funext fun j => ?_))
  simp (config := {decide := true}) only [bitsC, bits, out0, out1, kC2, ↓k0_pay353, ↓k0_pay354, ↓k0_pay355, ↓k0_pay356, ↓k0_pay357, ↓k0_pay358, ↓k0_pay359, ↓k0_pay360, ↓k0_pay361, ↓k0_pay362, ↓k0_pay192, ↓k0_pay193,
    ↓k0_pay194, ↓k0_pay195, ↓k0_pay196, ↓k0_pay197, ↓k0_pay198, ↓k0_pay199, ↓k0_pay200, ↓k0_pay201, ↓k0_pay202, ↓k0_pay203, ↓k0_pay204, ↓k0_pay205,
    ↓k0_pay206, ↓k0_pay207, ↓k0_pay208, ↓k0_pay209, ↓k0_pay210, ↓k0_pay211, ↓k0_pay212, ↓k0_pay213, ↓k0_pay214, ↓k0_pay215, ↓k0_pay216, ↓k0_pay217,
    ↓k0_pay218, ↓k0_pay219, ↓k0_pay220, ↓k0_pay221, ↓k0_pay222, ↓k0_pay223, ↓k0_pay224, ↓k0_pay225, ↓k0_pay226, ↓k0_pay227, ↓k0_pay228, ↓k0_pay229,
    ↓k0_pay230, ↓k0_pay231, ↓k0_pay232, ↓k0_pay233, ↓k0_pay234, ↓k0_pay235, ↓addi_apply, ↓xori_apply, ↓ori_apply, ↓shli_apply, ↓shrui_apply, ↓andi_apply, ↓ValueIdx.broadcast_apply,
    c1_911, c1_912, fold_add, fold_mix, fold_key0, fold_key1, Nat.reduceAdd]

/-- The third sampled row. -/
theorem c2_1446 (v : FVec F S31x8192 .f32) :
    k0_pay303 (k0_pay327 i x0 x1 x2 x3 x4) v (k0_pay376 i x0 x1 x2 x3 x4) (k0_pay377 i x0 x1 x2 x3 x4) (k0_pay378 i x0 x1 x2 x3 x4)
      = firstV (addf v (gumV S31x8192 (bitsC i 62#32))) := by
  refine (show _ = firstV (addf v (gumV S31x8192 _)) from rfl).trans
    (congrArg (fun w => firstV (addf v (gumV S31x8192 w))) (funext fun j => ?_))
  simp (config := {decide := true}) only [bitsC, bits, out0, out1, kC2, ↓k0_pay368, ↓k0_pay369, ↓k0_pay370, ↓k0_pay371, ↓k0_pay372, ↓k0_pay373, ↓k0_pay374, ↓k0_pay375, ↓k0_pay376, ↓k0_pay377, ↓k0_pay378, ↓k0_pay258,
    ↓k0_pay259, ↓k0_pay260, ↓k0_pay261, ↓k0_pay262, ↓k0_pay263, ↓k0_pay264, ↓k0_pay265, ↓k0_pay266, ↓k0_pay267, ↓k0_pay268, ↓k0_pay269, ↓k0_pay270,
    ↓k0_pay271, ↓k0_pay272, ↓k0_pay273, ↓k0_pay274, ↓k0_pay275, ↓k0_pay276, ↓k0_pay277, ↓k0_pay278, ↓k0_pay279, ↓k0_pay280, ↓k0_pay281, ↓k0_pay282,
    ↓k0_pay283, ↓k0_pay284, ↓k0_pay285, ↓k0_pay286, ↓k0_pay287, ↓k0_pay288, ↓k0_pay289, ↓k0_pay290, ↓k0_pay291, ↓k0_pay292, ↓k0_pay293, ↓k0_pay294,
    ↓k0_pay295, ↓k0_pay296, ↓k0_pay297, ↓k0_pay298, ↓k0_pay299, ↓k0_pay300, ↓k0_pay301, ↓k0_pay302, ↓addi_apply, ↓xori_apply, ↓ori_apply, ↓shli_apply, ↓shrui_apply, ↓andi_apply, ↓ValueIdx.broadcast_apply,
    c2_1247, c2_1248, fold_add, fold_mix, fold_key0, fold_key1, Nat.reduceAdd]

end Cert.KernelSide

end
-- ==== Proof.Pick.lean ====
/- The first index at which a finite family of extended reals is greatest, and the two ways a program finds it:
   the least index among those that reach the maximum, and the head of a stable descending sort. -/
module

public import Idealize.ShloMosaic.PureOps.Ideal.Laws
public import Idealize.ShloMosaic.Lib.ValueIdx
public import Idealize.ShloMosaic.Lib.IdealHost

@[expose] public section

noncomputable section

namespace Cert.Pick

open Idealize.ShloMosaic

variable {n : Nat}

/-- `k` is the first index at which `f` is greatest. -/
def IsFirst (f : Fin n → EReal) (k : Fin n) : Prop := (∀ j, f j ≤ f k) ∧ ∀ j, j < k → f j < f k

theorem IsFirst.unique {f : Fin n → EReal} {k k' : Fin n} (h : IsFirst f k) (h' : IsFirst f k') : k = k' := by
  rcases lt_trichotomy k k' with e | e | e
  · exact absurd (h.1 k') (not_le.mpr (h'.2 k e))
  · exact e
  · exact absurd (h'.1 k) (not_le.mpr (h.2 k' e))

theorem exists_isFirst [NeZero n] (f : Fin n → EReal) : ∃ k, IsFirst f k := by
  obtain ⟨m, hm⟩ := Finite.exists_max f
  have hne : (Finset.univ.filter fun k => f k = f m).Nonempty := ⟨m, by simp⟩
  refine ⟨(Finset.univ.filter fun k => f k = f m).min' hne, ?_⟩
  have hk : f ((Finset.univ.filter fun k => f k = f m).min' hne) = f m := by
    have := Finset.min'_mem _ hne
    simpa using this
  refine ⟨fun j => by rw [hk]; exact hm j, fun j hj => ?_⟩
  rw [hk]
  refine lt_of_le_of_ne (hm j) fun e => ?_
  exact absurd (Finset.min'_le _ j (by simp [e])) (not_le.mpr hj)

/-- The first index at which `f` is greatest. -/
def firstMax [NeZero n] (f : Fin n → EReal) : Fin n := (exists_isFirst f).choose

theorem firstMax_spec [NeZero n] (f : Fin n → EReal) : IsFirst f (firstMax f) := (exists_isFirst f).choose_spec

/-- The maximum of all the values is the value at the first index that reaches it. -/
theorem fold_max_eq [NeZero n] (f : Fin n → EReal) : Finset.univ.fold max ⊥ f = f (firstMax f) := by
  apply le_antisymm
  · exact (Finset.fold_max_le _).mpr ⟨bot_le, fun k _ => (firstMax_spec f).1 k⟩
  · exact (Finset.le_fold_max _).mpr (Or.inr ⟨_, Finset.mem_univ _, le_rfl⟩)

theorem toInt_minsi (x y : BitVec 32) : (IntOp.minsi x y).toInt = min x.toInt y.toInt := by
  unfold IntOp.minsi
  rw [BitVec.slt_eq_decide]
  by_cases h : x.toInt < y.toInt
  · simp [h, h.le]
  · simp [h, not_lt.mp h]

/-- The least signed word of a family, when one of its members is below or equal to all the others and to the start. -/
theorem fold_minsi_eq {ι : Type} [Fintype ι] (b v : BitVec 32) (g : ι → BitVec 32) (hb : v.toInt ≤ b.toInt)
    (hk : ∃ k, g k = v) (hg : ∀ k, v.toInt ≤ (g k).toInt) : Finset.univ.fold IntOp.minsi b g = v := by
  apply BitVec.eq_of_toInt_eq
  rw [← Finset.fold_hom (op' := min) (m := BitVec.toInt) (f := g) (fun x y => (toInt_minsi x y))]
  apply le_antisymm
  · obtain ⟨k, rfl⟩ := hk
    exact (Finset.fold_min_le _).mpr (Or.inr ⟨k, Finset.mem_univ _, le_rfl⟩)
  · exact (Finset.le_fold_min _).mpr ⟨hb, fun k _ => hg k⟩

theorem toInt_small {k : Nat} (h : k < 1000) : (BitVec.ofNat 32 k).toInt = k := by
  rw [BitVec.toInt_eq_toNat_cond, BitVec.toNat_ofNat, Nat.mod_eq_of_lt (by omega), if_pos (by omega)]

/-- The least index among those whose value is the maximum is the first index of the maximum. -/
theorem fold_min_index [NeZero n] (hn : n < 1000) (f : Fin n → EReal) (M : EReal) (hM : M = f (firstMax f)) :
    Finset.univ.fold IntOp.minsi 2147483647#32
      (fun k : Fin n => Scalar.select (Ideal.cmp .oeq (f k) M) (BitVec.ofNat 32 k.val) (BitVec.ofNat 32 n)) =
      BitVec.ofNat 32 (firstMax f).val := by
  have hlt := (firstMax f).isLt
  refine fold_minsi_eq _ _ _ ?_ ⟨firstMax f, ?_⟩ fun k => ?_
  · rw [toInt_small (by omega)]
    exact le_trans (Int.ofNat_le.mpr (show (firstMax f).val ≤ 1000 by omega)) (by decide)
  · simp [Scalar.select, Ideal.cmp, hM]
  · rw [toInt_small (by omega)]
    by_cases e : f k = M
    · simp only [Scalar.select, Ideal.cmp, e, decide_true, BitVec.ofBool_true, if_true]
      rw [toInt_small (by omega)]
      have : firstMax f ≤ k := by
        by_contra h
        exact absurd (e.trans hM) ((firstMax_spec f).2 k (not_le.mp h)).ne
      exact Int.ofNat_le.mpr this
    · simp only [Scalar.select, Ideal.cmp, e, decide_false, BitVec.ofBool_false]
      rw [if_neg (by decide), toInt_small (by omega)]
      exact Int.ofNat_le.mpr hlt.le

/-- The pattern of minus infinity is the least extended real. -/
theorem ofBits_ninf : Ideal.ofBits .f32 4286578688#32 = ⊥ := by simp [Ideal.ofBits, Ideal.ieee]

/-- The same with the comparison already decided and the maximum still a fold. -/
theorem fold_min_index' [NeZero n] (hn : n < 1000) (f : Fin n → EReal) :
    Finset.univ.fold IntOp.minsi 2147483647#32
      (fun k : Fin n => if f k = Finset.univ.fold max (Ideal.ofBits .f32 4286578688#32) f then BitVec.ofNat 32 k.val else BitVec.ofNat 32 n) =
      BitVec.ofNat 32 (firstMax f).val := by
  rw [← fold_min_index hn f (Finset.univ.fold max (Ideal.ofBits .f32 4286578688#32) f) (by rw [ofBits_ninf, fold_max_eq])]
  congr 1
  funext k
  by_cases e : f k = Finset.univ.fold max (Ideal.ofBits .f32 4286578688#32) f <;> simp [Scalar.select, Ideal.cmp, e]

/-- Equality of two small index words is equality of the indices. -/
theorem cmpi_eq_index (hn : n < 1000) (k k' : Fin n) :
    IntOp.cmpi .eq (BitVec.ofNat 32 k.val) (BitVec.ofNat 32 k'.val) = BitVec.ofBool (decide (k = k')) := by
  have : (BitVec.ofNat 32 k.val == BitVec.ofNat 32 k'.val) = decide (k = k') := by
    rw [Bool.eq_iff_iff]
    simp only [beq_iff_eq, decide_eq_true_eq]
    constructor
    · intro h
      have := congrArg BitVec.toNat h
      rw [BitVec.toNat_ofNat, BitVec.toNat_ofNat, Nat.mod_eq_of_lt (by omega), Nat.mod_eq_of_lt (by omega)] at this
      exact Fin.ext this
    · rintro rfl; rfl
  simp only [IntOp.cmpi, this]

theorem select_ofBool {α : Type} (b : Bool) (x y : α) : Scalar.select (BitVec.ofBool b) x y = if b then x else y := by
  cases b <;> simp [Scalar.select]

/-- The sum that keeps one index's term and zeroes the rest is that term. -/
theorem sum_one_hot (hn : n < 1000) (k' : Fin n) (g : Fin n → EReal) :
    ∑ k : Fin n, Scalar.select (IntOp.cmpi .eq (BitVec.ofNat 32 k.val) (BitVec.ofNat 32 k'.val)) (g k) 0 = g k' := by
  simp [cmpi_eq_index hn, select_ofBool]

/-- The same for words. -/
theorem fold_one_hot (hn : n < 1000) (k' : Fin n) (g : Fin n → BitVec 32) :
    Finset.univ.fold IntOp.addi 0#32
      (fun k : Fin n => Scalar.select (IntOp.cmpi .eq (BitVec.ofNat 32 k.val) (BitVec.ofNat 32 k'.val)) (g k) 0#32) = g k' := by
  simp only [cmpi_eq_index hn, select_ofBool, decide_eq_true_eq]
  have zero : ∀ s : Finset (Fin n), k' ∉ s → s.fold IntOp.addi 0#32 (fun k => if k = k' then g k else 0#32) = 0#32 := by
    intro s
    induction s using Finset.induction_on with
    | empty => intro _; rfl
    | insert a s ha ih =>
      intro h
      rw [Finset.mem_insert, not_or] at h
      rw [Finset.fold_insert ha, ih h.2, if_neg (Ne.symm h.1)]
      rfl
  rw [← Finset.insert_erase (Finset.mem_univ k'), Finset.fold_insert (Finset.notMem_erase _ _), zero _ (Finset.notMem_erase _ _), if_pos rfl]
  exact BitVec.add_zero _

/-- The head of a stable descending sort of a list of increasing indices is the first index of the maximum. -/
theorem head_stableSort (f : Fin n → EReal) (R : Fin n → Fin n → Bool) (hR : ∀ a b, R a b = decide (f b < f a)) :
    ∀ (l : List (Fin n)), l.Pairwise (· < ·) → ∀ h t, stableSort R l = h :: t →
      h ∈ l ∧ ∀ j ∈ l, f j ≤ f h ∧ (j < h → f j < f h)
  | [], _, h, t, e => by simp [stableSort] at e
  | a :: l, hl, h, t, e => by
    rw [List.pairwise_cons] at hl
    rw [stableSort] at e
    cases hs : stableSort R l with
    | nil =>
      rw [hs, insertBefore] at e
      have hl0 : l = [] := by
        have := length_stableSort R l
        rw [hs] at this
        exact List.length_eq_zero_iff.mp this.symm
      cases e
      subst hl0
      refine ⟨by simp, fun j hj => ?_⟩
      simp only [List.mem_singleton] at hj
      subst hj
      exact ⟨le_rfl, fun h => absurd h (lt_irrefl _)⟩
    | cons b m =>
      obtain ⟨hb, hmax⟩ := head_stableSort f R hR l hl.2 b m hs
      rw [hs, insertBefore, hR] at e
      by_cases hab : f a < f b
      · rw [if_pos (by simpa using hab)] at e
        cases e
        refine ⟨List.mem_cons_of_mem _ hb, fun j hj => ?_⟩
        rcases List.mem_cons.mp hj with rfl | hj
        · exact ⟨hab.le, fun _ => hab⟩
        · exact hmax j hj
      · rw [if_neg (by simpa using hab)] at e
        cases e
        refine ⟨by simp, fun j hj => ?_⟩
        rcases List.mem_cons.mp hj with rfl | hj
        · exact ⟨le_rfl, fun h => absurd h (lt_irrefl _)⟩
        · exact ⟨(hmax j hj).1.trans (not_lt.mp hab), fun hlt => absurd (hl.1 j hj) (not_lt.mpr hlt.le)⟩

/-- The stable descending sort puts the first index of the maximum first. -/
theorem sortedFrom_zero [NeZero n] (f : Fin n → EReal) (R : Fin n → Fin n → Bool) (hR : ∀ a b, R a b = decide (f b < f a)) (z : Fin n)
    (hz : z.val = 0) : sortedFrom R z = firstMax f := by
  have hpos : 0 < n := Nat.pos_of_ne_zero (NeZero.ne n)
  cases hs : sortPositions n R with
  | nil =>
    have := length_sortPositions n R
    rw [hs] at this
    simp at this
    omega
  | cons h t =>
    have key := head_stableSort f R hR (List.finRange n) (List.pairwise_lt_finRange n) h t hs
    have : sortedFrom R z = h := by
      unfold sortedFrom
      simp only [List.get_eq_getElem, hs, Fin.val_cast, hz, List.getElem_cons_zero]
    rw [this]
    exact IsFirst.unique ⟨fun j => (key.2 j (List.mem_finRange j)).1, fun j => (key.2 j (List.mem_finRange j)).2⟩ (firstMax_spec f)

end Cert.Pick

end
-- ==== Proof.Spec.lean ====
/- What both programs compute, row by row: the sampled transformation count, the sampled operations, the sampled
   scales and the log-probability, as functions of the argument arrays over the extended reals. -/
module

public import proofs.«01_k».proof.Proof.Threefry
public import proofs.«01_k».proof.Proof.Pick

@[expose] public section

noncomputable section

namespace Cert.Spec

open Cert.Threefry Cert.Pick Idealize.ShloMosaic

/-- Standard Gumbel noise from one random word. -/
def gum (w : BitVec 32) : EReal :=
  0 - Ideal.log (0 - Ideal.log (max (Ideal.ofBits .f32 8388608#32)
    (Ideal.ofBits .f32 (IntOp.ori (IntOp.shrui .vector w 9#32) 1065353216#32) - 1 + Ideal.ofBits .f32 8388608#32)))

/-- The random word number `c` of the first draw (the transformation counts). -/
def wordA (c : Nat) : BitVec 32 := bits 1832780943#32 270669613#32 1724713080#32 0#32 (BitVec.ofNat 32 c)

/-- The random word number `c` of the second draw (the operations). -/
def wordB (c : Nat) : BitVec 32 := bits 2350016172#32 1168365246#32 3529550792#32 0#32 (BitVec.ofNat 32 c)

/-- The random word number `c` of the third draw (the scales). -/
def wordC (c : Nat) : BitVec 32 := bits 2465931498#32 255383827#32 2249384483#32 0#32 (BitVec.ofNat 32 c)

/-- The greatest of finitely many extended reals. -/
def maxOf {n : Nat} (f : Fin n → EReal) : EReal := Finset.univ.fold max ⊥ f

/-- The logarithm of the sum of exponentials, shifted by the maximum. -/
def lseOf {n : Nat} (f : Fin n → EReal) : EReal := maxOf f + Ideal.log (∑ k, Ideal.exp (f k - maxOf f))

variable (op : Fin 16 → Fin 128 → EReal) (nte : Fin 4 → Fin 128 → EReal) (se : Fin 31 → Fin 128 → EReal)
  (q : Fin 128 → EReal) (pn : Fin 4 → BitVec 32)

/-- The logit of the transformation count number `t`. -/
def ntl (t : Fin 4) : EReal := ∑ d, nte t d * q d

/-- Its log-probability. -/
def lpn (t : Fin 4) : EReal :=
  ntl nte q t - maxOf (ntl nte q) - Ideal.log (∑ t', Ideal.exp (ntl nte q t' - maxOf (ntl nte q)))

/-- The scores whose first maximum is row `b`'s transformation count. -/
def scoreA (b : Nat) (t : Fin 4) : EReal := gum (wordA (4 * b + t.val)) + ntl nte q t

/-- The sampled place in the list of transformation counts. -/
def pickA (b : Nat) : Fin 4 := firstMax (scoreA nte q b)

/-- The sampled transformation count. -/
def nt (b : Nat) : BitVec 32 := pn (pickA nte q b)

/-- One when row `b` makes no `l`-th transformation. -/
def off (b l : Nat) : BitVec 1 := IntOp.cmpi .sle (nt nte q pn b) (BitVec.ofNat 32 l)

/-- The `l`-th operation of row `b`. -/
def ind (b l : Nat) : BitVec 32 := Scalar.select (off nte q pn b l) 0#32 (IntOp.andi (wordB (3 * b + l)) 15#32)

theorem ind_lt (b l : Nat) : (ind nte q pn b l).toNat < 16 := by
  unfold ind Scalar.select
  split
  · decide
  · rw [IntOp.andi, BitVec.toNat_and]
    exact lt_of_le_of_lt Nat.and_le_right (by decide)

/-- The `l`-th operation of row `b` as an index. -/
def indF (b l : Nat) : Fin 16 := ⟨(ind nte q pn b l).toNat, ind_lt nte q pn b l⟩

/-- The logit of scale `s` after operation `o`. -/
def lg (o : Fin 16) (s : Fin 31) : EReal := ∑ d, se s d * op o d

/-- The scores whose first maximum is the `l`-th scale of row `b`. -/
def scoreC (b l : Nat) (s : Fin 31) : EReal :=
  lg op se (indF nte q pn b l) s + gum (wordC (93 * b + 31 * l + s.val))

/-- The `l`-th scale of row `b`. -/
def pickC (b l : Nat) : Fin 31 := firstMax (scoreC op nte se q pn b l)

/-- The log-probability of the `l`-th scale of row `b`, or zero when there is no `l`-th transformation. -/
def term (b l : Nat) : EReal :=
  Scalar.select (off nte q pn b l) 0
    (lg op se (indF nte q pn b l) (pickC op nte se q pn b l) - lseOf (lg op se (indF nte q pn b l)))

/-- The log-probability of row `b`'s sample. -/
def lp (b : Nat) : EReal :=
  lpn nte q (pickA nte q b) + term op nte se q pn b 0 + term op nte se q pn b 1 + term op nte se q pn b 2

end Cert.Spec

end
-- ==== Proof.KernelRows.lean ====
/- One block of the kernel's three outputs, entry by entry: the sampled operations, the sampled scales and the
   log-probabilities of the block's rows. -/
module

public import proofs.«01_k».proof.Proof.KernelBits
public import proofs.«01_k».proof.Proof.Spec
public import Idealize.ShloMosaic.Lib.Pointwise.Tactic
public import Idealize.ShloMosaic.Lib.IdealHost

@[expose] public section

noncomputable section

namespace Cert.KernelSide

open Cert.KernelIdeal Cert.KernelIdeal.Gen Cert.Threefry Cert.Pick Cert.Spec Idealize.ShloMosaic

variable (i : grid0.Coords) (x0 : Vec Ideal S16x128 .f32) (x1 : Vec Ideal S4x128 .f32) (x2 : Vec Ideal S31x128 .f32)
  (x3 : Vec Ideal S128x1 .f32) (x4 : Vec Ideal S4x1 .i32)

/-- The operations' embeddings. -/
abbrev opF (o : Fin 16) (d : Fin 128) : EReal := x0 (ix2 o d)
/-- The transformation counts' embeddings. -/
abbrev nteF (t : Fin 4) (d : Fin 128) : EReal := x1 (ix2 t d)
/-- The scales' embeddings. -/
abbrev seF (s : Fin 31) (d : Fin 128) : EReal := x2 (ix2 s d)
/-- The query. -/
abbrev qF (d : Fin 128) : EReal := x3 (ix2 d 0)
/-- The transformation counts. -/
abbrev pnF (t : Fin 4) : BitVec 32 := x4 (ix2 t 0)
/-- The row of the whole arrays at lane `y` of this block. -/
abbrev row (y : Fin 8192) : Nat := 8192 * (i 0).val + y.val

/-! ## Random words -/

theorem gumV_apply (s : Shape) (w : IVec s 32) (j : s.Idx) : gumV (F := Ideal) s w j = gum (w j) := by
  pointwise [gumV, gum]

theorem grid_lt : (i 0).val < 2 := (i 0).isLt

theorem cA_apply (t : Fin 4) (y : Fin 8192) : cA i (ix2 t y) = BitVec.ofNat 32 (4 * row i y + t.val) := by
  have h : cA i (ix2 t y) = IntOp.addi (IntOp.muli 4#32 (IntOp.addi (Scalar.muli (BitVec.ofNat 32 (i 0).val) 8192#32)
      (BitVec.ofNat 32 y.val))) (BitVec.ofNat 32 t.val) := by pointwise [cA, k0_pay3]
  have := grid_lt i
  rw [h]
  apply BitVec.eq_of_toNat_eq
  simp only [IntOp.addi, IntOp.muli, Scalar.muli, BitVec.toNat_add, BitVec.toNat_mul, BitVec.toNat_ofNat, row]
  omega

theorem cB_apply (t : Fin 3) (y : Fin 8192) : cB i (ix2 t y) = BitVec.ofNat 32 (3 * row i y + t.val) := by
  have h : cB i (ix2 t y) = IntOp.addi (IntOp.muli 3#32 (IntOp.addi (Scalar.muli (BitVec.ofNat 32 (i 0).val) 8192#32)
      (BitVec.ofNat 32 y.val))) (BitVec.ofNat 32 t.val) := by pointwise [cB, k0_pay3]
  have := grid_lt i
  rw [h]
  apply BitVec.eq_of_toNat_eq
  simp only [IntOp.addi, IntOp.muli, Scalar.muli, BitVec.toNat_add, BitVec.toNat_mul, BitVec.toNat_ofNat, row]
  omega

theorem cC_apply (o : Nat) (ho : o < 100) (s : Fin 31) (y : Fin 8192) :
    cC i (BitVec.ofNat 32 o) (ix2 s y) = BitVec.ofNat 32 (93 * row i y + o + s.val) := by
  have h : cC i (BitVec.ofNat 32 o) (ix2 s y) = IntOp.addi (IntOp.addi (IntOp.muli 93#32 (IntOp.addi (Scalar.muli (BitVec.ofNat 32 (i 0).val) 8192#32)
      (BitVec.ofNat 32 y.val))) (BitVec.ofNat 32 o)) (BitVec.ofNat 32 s.val) := by pointwise [cC, k0_pay3]
  have := grid_lt i
  rw [h]
  apply BitVec.eq_of_toNat_eq
  simp only [IntOp.addi, IntOp.muli, Scalar.muli, BitVec.toNat_add, BitVec.toNat_mul, BitVec.toNat_ofNat, row]
  omega

/-! ## The transformation counts -/

theorem ntl_apply (t : Fin 4) : k0_pay4 (View.ld x1 r0_0) (View.ld x3 r0_1) (ix2 t 0) = ntl (nteF x1) (qF x3) t := by
  pointwise [k0_pay4, ntl]

theorem lpn_apply (t : Fin 4) : k0_pay5 (View.ld x1 r0_0) (View.ld x3 r0_1) (ix2 t 0) = lpn (nteF x1) (qF x3) t := by
  unfold lpn maxOf
  simp only [← ntl_apply]
  generalize hv : k0_pay4 (View.ld x1 r0_0) (View.ld x3 r0_1) = v
  pointwise [k0_pay5, hv, ofBits_ninf]

theorem scoreA_apply (t : Fin 4) (y : Fin 8192) :
    k0_pay318 i x0 x1 x2 x3 x4 (ix2 t y) = scoreA (nteF x1) (qF x3) (row i y) t := by
  rw [a_221]
  have h : ∀ (v : FVec Ideal S4x1 .f32) (g : FVec Ideal S4x8192 .f32),
      addf g (broadcastTo S4x8192 v broadcasts_S4x1_S4x8192) (ix2 t y) = g (ix2 t y) + v (ix2 t 0) := fun v g => by pointwise []
  rw [h, gumV_apply, ntl_apply, bitsA, cA_apply]
  rfl

/-- The column's maximum. -/
def maxA (v : FVec Ideal S4x8192 .f32) : FVec Ideal S1x8192 .f32 :=
  shapeCast S1x8192 (multiReduction .maximumf [0] S8192 v 0xFF800000#32 reduces_S4x8192_S8192 (.inl rfl) rfl) shapeCasts_S8192_S1x8192

theorem maxA_eq : k0_pay319 i x0 x1 x2 x3 x4 = maxA (k0_pay318 i x0 x1 x2 x3 x4) := rfl

theorem maskA_apply (v : FVec Ideal S4x8192 .f32) (t : Fin 4) (y : Fin 8192) :
    k0_pay47 v (maxA v) (ix2 t y) = IntOp.cmpi .eq (BitVec.ofNat 32 t.val) (BitVec.ofNat 32 (firstMax fun t => v (ix2 t y)).val) := by
  rw [← fold_min_index' (by decide)]
  pointwise [k0_pay47, maxA]

theorem pickA_num (w : FVec Ideal S4x1 .f32) (v : FVec Ideal S4x8192 .f32) (y : Fin 8192) :
    k0_pay48 w v (maxA v) (ix2 0 y) = w (ix2 (firstMax fun t => v (ix2 t y)) 0) := by
  rw [← sum_one_hot (n := 4) (by decide) (firstMax fun t => v (ix2 t y)) (fun t => w (ix2 t 0))]
  simp only [← maskA_apply]
  pointwise [k0_pay48]

theorem pickA_nt (v : FVec Ideal S4x8192 .f32) (y : Fin 8192) :
    k0_pay49 v (maxA v) (View.ld x4 r0_2) (ix2 0 y) = x4 (ix2 (firstMax fun t => v (ix2 t y)) 0) := by
  rw [← fold_one_hot (n := 4) (by decide) (firstMax fun t => v (ix2 t y)) (fun t => x4 (ix2 t 0))]
  simp only [← maskA_apply]
  pointwise [k0_pay49]

theorem pickA_apply (y : Fin 8192) : (firstMax fun t => k0_pay318 i x0 x1 x2 x3 x4 (ix2 t y)) = pickA (nteF x1) (qF x3) (row i y) :=
  congrArg firstMax (funext fun t => scoreA_apply i x0 x1 x2 x3 x4 t y)

/-- The transformation count of the row at lane `y`. -/
theorem nt_apply (y : Fin 8192) : k0_pay320 i x0 x1 x2 x3 x4 (ix2 0 y) = nt (nteF x1) (qF x3) (pnF x4) (row i y) := by
  unfold k0_pay320
  rw [maxA_eq, pickA_nt, pickA_apply]
  rfl

/-- The log-probability of the transformation count of the row at lane `y`. -/
theorem lpA_apply (y : Fin 8192) : k0_pay48 (k0_pay5 (View.ld x1 r0_0) (View.ld x3 r0_1)) (k0_pay318 i x0 x1 x2 x3 x4)
    (k0_pay319 i x0 x1 x2 x3 x4) (ix2 0 y) = lpn (nteF x1) (qF x3) (pickA (nteF x1) (qF x3) (row i y)) := by
  rw [maxA_eq, pickA_num, pickA_apply, lpn_apply]

/-! ## The operations -/

theorem off0_apply (y : Fin 8192) : k0_pay93 (k0_pay320 i x0 x1 x2 x3 x4) (ix2 0 y) = off (nteF x1) (qF x3) (pnF x4) (row i y) 0 := by
  rw [off, ← nt_apply i x0 x1 x2 x3 x4]
  rfl

theorem off1_apply (y : Fin 8192) : k0_pay166 (k0_pay320 i x0 x1 x2 x3 x4) (k0_pay347 i x0 x1 x2 x3 x4) (ix2 0 y)
    = off (nteF x1) (qF x3) (pnF x4) (row i y) 1 := by
  rw [off, ← nt_apply i x0 x1 x2 x3 x4]
  rfl

theorem off2_apply (y : Fin 8192) : k0_pay363 i x0 x1 x2 x3 x4 (ix2 0 y) = off (nteF x1) (qF x3) (pnF x4) (row i y) 2 := by
  rw [off, ← nt_apply i x0 x1 x2 x3 x4]
  rfl

theorem r_apply (l : Fin 3) (y : Fin 8192) : k0_pay329 i x0 x1 x2 x3 x4 (ix2 l y) = IntOp.andi (wordB (3 * row i y + l.val)) 15#32 := by
  rw [b_431, bitsB, cB_apply]
  rfl

theorem slice0 (v : IVec S3x8192 32) (y : Fin 8192) :
    extractStridedSlice S1x8192 ![0, 0] v slices_S3x8192_o0_0_S1x8192 (ix2 0 y) = v (ix2 0 y) := by pointwise []
theorem slice1 (v : IVec S3x8192 32) (y : Fin 8192) :
    extractStridedSlice S1x8192 ![1, 0] v slices_S3x8192_o1_0_S1x8192 (ix2 0 y) = v (ix2 1 y) := by pointwise []
theorem slice2 (v : IVec S3x8192 32) (y : Fin 8192) :
    extractStridedSlice S1x8192 ![2, 0] v slices_S3x8192_o2_0_S1x8192 (ix2 0 y) = v (ix2 2 y) := by pointwise []

/-- The operation of transformation `l`: zero where it is off, else the low bits of its random word. -/
theorem ind_of (l : Fin 3) (y : Fin 8192) {c : BitVec 1} {r : BitVec 32} (hc : c = off (nteF x1) (qF x3) (pnF x4) (row i y) l.val)
    (hr : r = k0_pay329 i x0 x1 x2 x3 x4 (ix2 l y)) : Scalar.select c 0#32 r = ind (nteF x1) (qF x3) (pnF x4) (row i y) l.val := by
  rw [ind, hc, hr, r_apply i x0 x1 x2 x3 x4 l y]

theorem ind0_apply (y : Fin 8192) : k0_pay332 i x0 x1 x2 x3 x4 (ix2 0 y) = ind (nteF x1) (qF x3) (pnF x4) (row i y) 0 := by
  refine Eq.trans ?_ (ind_of i x0 x1 x2 x3 x4 0 y (off0_apply i x0 x1 x2 x3 x4 y) (slice0 (k0_pay329 i x0 x1 x2 x3 x4) y))
  rfl

theorem ind1_apply (y : Fin 8192) : k0_pay348 i x0 x1 x2 x3 x4 (ix2 0 y) = ind (nteF x1) (qF x3) (pnF x4) (row i y) 1 := by
  refine Eq.trans ?_ (ind_of i x0 x1 x2 x3 x4 1 y (off1_apply i x0 x1 x2 x3 x4 y) (slice1 (k0_pay329 i x0 x1 x2 x3 x4) y))
  rfl

theorem ind2_apply (y : Fin 8192) : k0_pay365 i x0 x1 x2 x3 x4 (ix2 0 y) = ind (nteF x1) (qF x3) (pnF x4) (row i y) 2 := by
  refine Eq.trans ?_ (ind_of i x0 x1 x2 x3 x4 2 y (off2_apply i x0 x1 x2 x3 x4 y) (slice2 (k0_pay329 i x0 x1 x2 x3 x4) y))
  rfl

end Cert.KernelSide

end
-- ==== Proof.KernelBlock.lean ====
/- The kernel's table look-up by a tree of selections, and one block of its three outputs. -/
module

public import proofs.«01_k».proof.Proof.KernelRows

@[expose] public section

noncomputable section

namespace Cert.KernelSide

open Cert.KernelIdeal Cert.KernelIdeal.Gen Cert.Threefry Cert.Pick Cert.Spec Idealize.ShloMosaic

variable (i : grid0.Coords) (x0 : Vec Ideal S16x128 .f32) (x1 : Vec Ideal S4x128 .f32) (x2 : Vec Ideal S31x128 .f32)
  (x3 : Vec Ideal S128x1 .f32) (x4 : Vec Ideal S4x1 .i32)

/-- Four levels of selection by the bits of a word. -/
def tree (w : BitVec 32) (A : Fin 16 → EReal) : EReal :=
  let c (b : BitVec 32) := IntOp.cmpi .ne (IntOp.andi w b) 0#32
  let p (k k' : Fin 16) := Scalar.select (c 1#32) (A k) (A k')
  Scalar.select (c 8#32)
    (Scalar.select (c 4#32) (Scalar.select (c 2#32) (p 15 14) (p 13 12)) (Scalar.select (c 2#32) (p 11 10) (p 9 8)))
    (Scalar.select (c 4#32) (Scalar.select (c 2#32) (p 7 6) (p 5 4)) (Scalar.select (c 2#32) (p 3 2) (p 1 0)))

/-- The tree reads the entry that the word numbers. -/
theorem tree_eq (w : BitVec 32) (A : Fin 16 → EReal) (h : w.toNat < 16) : tree w A = A ⟨w.toNat, h⟩ := by
  obtain ⟨k, rfl⟩ : ∃ k : Fin 16, w = BitVec.ofNat 32 k.val := ⟨⟨w.toNat, h⟩, by simp⟩
  fin_cases k <;> rfl

theorem tree0_apply (s : Fin 32) (y : Fin 8192) :
    k0_pay115 (k0_pay333 i x0 x1 x2 x3 x4) (k0_pay334 i x0 x1 x2 x3 x4) (k0_pay335 i x0 x1 x2 x3 x4) (k0_pay336 i x0 x1 x2 x3 x4) (ix2 s y)
      = tree (k0_pay94 (k0_pay320 i x0 x1 x2 x3 x4) (k0_pay329 i x0 x1 x2 x3 x4) (ix2 0 y)) (fun o => k0_pay330 i x0 x1 x2 x3 x4 (ix2 s o)) := by
  unfold tree
  pointwise [k0_pay115, k0_pay333, k0_pay334, k0_pay335, k0_pay336, k0_pay332, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114]

theorem tree1_apply (s : Fin 32) (y : Fin 8192) :
    k0_pay187 (k0_pay349 i x0 x1 x2 x3 x4) (k0_pay350 i x0 x1 x2 x3 x4) (k0_pay351 i x0 x1 x2 x3 x4) (ix2 s y)
      = tree (k0_pay167 (k0_pay320 i x0 x1 x2 x3 x4) (k0_pay329 i x0 x1 x2 x3 x4) (k0_pay347 i x0 x1 x2 x3 x4) (ix2 0 y)) (fun o => k0_pay330 i x0 x1 x2 x3 x4 (ix2 s o)) := by
  unfold tree
  pointwise [k0_pay187, k0_pay349, k0_pay350, k0_pay351, k0_pay348, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186]

theorem tree2_apply (s : Fin 32) (y : Fin 8192) :
    k0_pay366 i x0 x1 x2 x3 x4 (ix2 s y)
      = tree (k0_pay240 (k0_pay363 i x0 x1 x2 x3 x4) (k0_pay364 i x0 x1 x2 x3 x4) (ix2 0 y)) (fun o => k0_pay330 i x0 x1 x2 x3 x4 (ix2 s o)) := by
  unfold tree
  pointwise [k0_pay366, k0_pay365, k0_pay241, k0_pay242, k0_pay243, k0_pay244, k0_pay245, k0_pay246, k0_pay247, k0_pay248, k0_pay249, k0_pay250, k0_pay251, k0_pay252, k0_pay253]

/-! ## The table: the scales' logits after each operation, and their log-sum-exp in the last row -/

/-- Row `s` of the thirty-one as a row of the table's thirty-two. -/
abbrev up (s : Fin 31) : Fin 32 := ⟨s.val, by omega⟩

theorem lg_apply (s : Fin 31) (o : Fin 16) :
    k0_pay330 i x0 x1 x2 x3 x4 (ix2 (up s) o) = lg (opF x0) (seF x2) o s := by
  have hs := s.isLt
  pointwise [k0_pay330, k0_pay91, lg]

theorem lse_apply (o : Fin 16) : k0_pay330 i x0 x1 x2 x3 x4 (ix2 31 o) = lseOf (lg (opF x0) (seF x2) o) := by
  pointwise [k0_pay330, k0_pay91, lseOf, maxOf, lg, ofBits_ninf]

theorem tree_lg (b l : Nat) (s : Fin 31) : tree (ind (nteF x1) (qF x3) (pnF x4) b l) (fun o => k0_pay330 i x0 x1 x2 x3 x4 (ix2 (up s) o))
    = lg (opF x0) (seF x2) (indF (nteF x1) (qF x3) (pnF x4) b l) s := by
  rw [tree_eq _ _ (ind_lt _ _ _ _ _), lg_apply]
  rfl

theorem tree_lse (b l : Nat) : tree (ind (nteF x1) (qF x3) (pnF x4) b l) (fun o => k0_pay330 i x0 x1 x2 x3 x4 (ix2 31 o))
    = lseOf (lg (opF x0) (seF x2) (indF (nteF x1) (qF x3) (pnF x4) b l)) := by
  rw [tree_eq _ _ (ind_lt _ _ _ _ _), lse_apply]
  rfl

theorem rows31 (v : FVec Ideal S32x8192 .f32) (s : Fin 31) (y : Fin 8192) :
    extractStridedSlice S31x8192 ![0, 0] v slices_S32x8192_o0_0_S31x8192 (ix2 s y) = v (ix2 (up s) y) := by pointwise []

theorem row31 (v : FVec Ideal S32x8192 .f32) (y : Fin 8192) :
    extractStridedSlice S1x8192 ![31, 0] v slices_S32x8192_o31_0_S1x8192 (ix2 0 y) = v (ix2 31 y) := by pointwise []

theorem lg0_apply (s : Fin 31) (y : Fin 8192) : k0_pay337 i x0 x1 x2 x3 x4 (ix2 s y)
    = lg (opF x0) (seF x2) (indF (nteF x1) (qF x3) (pnF x4) (row i y) 0) s := by
  rw [← tree_lg i x0 x1 x2 x3 x4, ← ind0_apply i x0 x1 x2 x3 x4]
  exact (rows31 _ s y).trans (tree0_apply i x0 x1 x2 x3 x4 (up s) y)

theorem lg1_apply (s : Fin 31) (y : Fin 8192) : k0_pay352 i x0 x1 x2 x3 x4 (ix2 s y)
    = lg (opF x0) (seF x2) (indF (nteF x1) (qF x3) (pnF x4) (row i y) 1) s := by
  rw [← tree_lg i x0 x1 x2 x3 x4, ← ind1_apply i x0 x1 x2 x3 x4]
  exact (rows31 _ s y).trans (tree1_apply i x0 x1 x2 x3 x4 (up s) y)

theorem lg2_apply (s : Fin 31) (y : Fin 8192) : k0_pay367 i x0 x1 x2 x3 x4 (ix2 s y)
    = lg (opF x0) (seF x2) (indF (nteF x1) (qF x3) (pnF x4) (row i y) 2) s := by
  rw [← tree_lg i x0 x1 x2 x3 x4, ← ind2_apply i x0 x1 x2 x3 x4]
  exact (rows31 _ s y).trans (tree2_apply i x0 x1 x2 x3 x4 (up s) y)

theorem lse0_apply (y : Fin 8192) : k0_pay117 (k0_pay333 i x0 x1 x2 x3 x4) (k0_pay334 i x0 x1 x2 x3 x4) (k0_pay335 i x0 x1 x2 x3 x4)
    (k0_pay336 i x0 x1 x2 x3 x4) (ix2 0 y) = lseOf (lg (opF x0) (seF x2) (indF (nteF x1) (qF x3) (pnF x4) (row i y) 0)) := by
  rw [← tree_lse i x0 x1 x2 x3 x4, ← ind0_apply i x0 x1 x2 x3 x4]
  exact (row31 _ y).trans (tree0_apply i x0 x1 x2 x3 x4 31 y)

theorem lse1_apply (y : Fin 8192) : k0_pay189 (k0_pay349 i x0 x1 x2 x3 x4) (k0_pay350 i x0 x1 x2 x3 x4) (k0_pay351 i x0 x1 x2 x3 x4)
    (ix2 0 y) = lseOf (lg (opF x0) (seF x2) (indF (nteF x1) (qF x3) (pnF x4) (row i y) 1)) := by
  rw [← tree_lse i x0 x1 x2 x3 x4, ← ind1_apply i x0 x1 x2 x3 x4]
  exact (row31 _ y).trans (tree1_apply i x0 x1 x2 x3 x4 31 y)

theorem lse2_apply (y : Fin 8192) : k0_pay255 (k0_pay366 i x0 x1 x2 x3 x4) (ix2 0 y)
    = lseOf (lg (opF x0) (seF x2) (indF (nteF x1) (qF x3) (pnF x4) (row i y) 2)) := by
  rw [← tree_lse i x0 x1 x2 x3 x4, ← ind2_apply i x0 x1 x2 x3 x4]
  exact (row31 _ y).trans (tree2_apply i x0 x1 x2 x3 x4 31 y)

/-! ## The scales -/

theorem firstV_apply (v : FVec Ideal S31x8192 .f32) (y : Fin 8192) :
    firstV v (ix2 0 y) = BitVec.ofNat 32 (firstMax fun s => v (ix2 s y)).val := by
  rw [← fold_min_index' (by decide)]
  pointwise [firstV]

/-- The first maximum of logits with Gumbel noise is the sampled scale. -/
theorem pickC_apply (l : Nat) (hl : l < 3) (v : FVec Ideal S31x8192 .f32) (y : Fin 8192)
    (hv : ∀ s, v (ix2 s y) = lg (opF x0) (seF x2) (indF (nteF x1) (qF x3) (pnF x4) (row i y) l) s) :
    firstV (addf v (gumV S31x8192 (bitsC i (BitVec.ofNat 32 (31 * l))))) (ix2 0 y)
      = BitVec.ofNat 32 (pickC (opF x0) (nteF x1) (seF x2) (qF x3) (pnF x4) (row i y) l).val := by
  rw [firstV_apply]
  congr 3
  funext s
  have h : addf v (gumV S31x8192 (bitsC i (BitVec.ofNat 32 (31 * l)))) (ix2 s y)
    = v (ix2 s y) + gumV (F := Ideal) S31x8192 (bitsC i (BitVec.ofNat 32 (31 * l))) (ix2 s y) := rfl
  rw [h, hv, gumV_apply, bitsC, cC_apply i _ (by omega)]
  rfl

theorem s0_apply (y : Fin 8192) :
    k0_pay163 (k0_pay327 i x0 x1 x2 x3 x4) (k0_pay337 i x0 x1 x2 x3 x4) (k0_pay345 i x0 x1 x2 x3 x4) (k0_pay346 i x0 x1 x2 x3 x4) 2465931498#32 (ix2 0 y)
      = BitVec.ofNat 32 (pickC (opF x0) (nteF x1) (seF x2) (qF x3) (pnF x4) (row i y) 0).val := by
  rw [c0_774]
  exact pickC_apply i x0 x1 x2 x3 x4 0 (by decide) _ y fun s => lg0_apply i x0 x1 x2 x3 x4 s y

theorem s1_apply (y : Fin 8192) :
    k0_pay236 (k0_pay327 i x0 x1 x2 x3 x4) (k0_pay352 i x0 x1 x2 x3 x4) (k0_pay361 i x0 x1 x2 x3 x4) (k0_pay362 i x0 x1 x2 x3 x4) (ix2 0 y)
      = BitVec.ofNat 32 (pickC (opF x0) (nteF x1) (seF x2) (qF x3) (pnF x4) (row i y) 1).val := by
  rw [c1_1110]
  exact pickC_apply i x0 x1 x2 x3 x4 1 (by decide) _ y fun s => lg1_apply i x0 x1 x2 x3 x4 s y

theorem s2_apply (y : Fin 8192) :
    k0_pay303 (k0_pay327 i x0 x1 x2 x3 x4) (k0_pay367 i x0 x1 x2 x3 x4) (k0_pay376 i x0 x1 x2 x3 x4) (k0_pay377 i x0 x1 x2 x3 x4)
        (k0_pay378 i x0 x1 x2 x3 x4) (ix2 0 y)
      = BitVec.ofNat 32 (pickC (opF x0) (nteF x1) (seF x2) (qF x3) (pnF x4) (row i y) 2).val := by
  rw [c2_1446]
  exact pickC_apply i x0 x1 x2 x3 x4 2 (by decide) _ y fun s => lg2_apply i x0 x1 x2 x3 x4 s y

/-! ## The log-probabilities -/

/-- What one transformation adds to the log-probability, as the kernel forms it: the entry at row `P` of the logits `v`
less their log-sum-exp `z`, where `c` is zero. -/
def termV (P : IVec S1x8192 32) (c : IVec S1x8192 1) (v : FVec Ideal S31x8192 .f32) (z : FVec Ideal S1x8192 .f32) : FVec Ideal S1x8192 .f32 :=
  select c (broadcast S1x8192 (Scalar.ofBits .f32 0x00000000#32)) (subf (shapeCast S1x8192 (multiReduction .add [0] S8192
    (select (cmpi .eq (iota .tc S31x8192 32 [0] iota_S31x8192_d0_w32) (broadcastTo S31x8192 P broadcasts_S1x8192_S31x8192)) v
      (broadcast S31x8192 (Scalar.ofBits .f32 0x00000000#32))) 0x00000000#32 reduces_S31x8192_S8192 (.inl rfl) rfl) shapeCasts_S8192_S1x8192) z)

theorem termV_apply (P : IVec S1x8192 32) (c : IVec S1x8192 1) (v : FVec Ideal S31x8192 .f32) (z : FVec Ideal S1x8192 .f32) (y : Fin 8192)
    (k : Fin 31) (hP : P (ix2 0 y) = BitVec.ofNat 32 k.val) :
    termV P c v z (ix2 0 y) = Scalar.select (c (ix2 0 y)) 0 (v (ix2 k y) - z (ix2 0 y)) := by
  rw [← sum_one_hot (n := 31) (by decide) k (fun s => v (ix2 s y)), ← hP]
  pointwise [termV]

/-- The log-probability of the row at lane `y`. -/
def lpV : FVec Ideal S1x8192 .f32 :=
  addf (addf (addf (k0_pay48 (k0_pay5 (View.ld x1 r0_0) (View.ld x3 r0_1)) (k0_pay318 i x0 x1 x2 x3 x4) (k0_pay319 i x0 x1 x2 x3 x4))
    (termV (k0_pay163 (k0_pay327 i x0 x1 x2 x3 x4) (k0_pay337 i x0 x1 x2 x3 x4) (k0_pay345 i x0 x1 x2 x3 x4) (k0_pay346 i x0 x1 x2 x3 x4) 2465931498#32)
      (k0_pay93 (k0_pay320 i x0 x1 x2 x3 x4)) (k0_pay337 i x0 x1 x2 x3 x4)
      (k0_pay117 (k0_pay333 i x0 x1 x2 x3 x4) (k0_pay334 i x0 x1 x2 x3 x4) (k0_pay335 i x0 x1 x2 x3 x4) (k0_pay336 i x0 x1 x2 x3 x4))))
    (termV (k0_pay236 (k0_pay327 i x0 x1 x2 x3 x4) (k0_pay352 i x0 x1 x2 x3 x4) (k0_pay361 i x0 x1 x2 x3 x4) (k0_pay362 i x0 x1 x2 x3 x4))
      (k0_pay166 (k0_pay320 i x0 x1 x2 x3 x4) (k0_pay347 i x0 x1 x2 x3 x4)) (k0_pay352 i x0 x1 x2 x3 x4)
      (k0_pay189 (k0_pay349 i x0 x1 x2 x3 x4) (k0_pay350 i x0 x1 x2 x3 x4) (k0_pay351 i x0 x1 x2 x3 x4))))
    (termV (k0_pay303 (k0_pay327 i x0 x1 x2 x3 x4) (k0_pay367 i x0 x1 x2 x3 x4) (k0_pay376 i x0 x1 x2 x3 x4) (k0_pay377 i x0 x1 x2 x3 x4)
        (k0_pay378 i x0 x1 x2 x3 x4))
      (k0_pay363 i x0 x1 x2 x3 x4) (k0_pay367 i x0 x1 x2 x3 x4) (k0_pay255 (k0_pay366 i x0 x1 x2 x3 x4)))

theorem lpV_apply (y : Fin 8192) : lpV i x0 x1 x2 x3 x4 (ix2 0 y) = lp (opF x0) (nteF x1) (seF x2) (qF x3) (pnF x4) (row i y) := by
  have hadd : ∀ a b : FVec Ideal S1x8192 .f32, addf a b (ix2 0 y) = a (ix2 0 y) + b (ix2 0 y) := fun _ _ => rfl
  unfold lpV
  rw [hadd, hadd, hadd, lpA_apply, termV_apply _ _ _ _ y _ (s0_apply i x0 x1 x2 x3 x4 y), termV_apply _ _ _ _ y _ (s1_apply i x0 x1 x2 x3 x4 y),
    termV_apply _ _ _ _ y _ (s2_apply i x0 x1 x2 x3 x4 y), off0_apply, off1_apply, off2_apply, lg0_apply, lg1_apply, lg2_apply,
    lse0_apply, lse1_apply, lse2_apply]
  rfl

/-! ## The block's three outputs -/

/-- Three rows side by side, turned: column `l` of the result is row `l`. -/
def colsV (a b c : IVec S1x8192 32) : IVec S8192x3 32 :=
  transpose S8192x3 [1, 0] (concatenate S3x8192 0 [⟨S1x8192, a⟩, ⟨S1x8192, b⟩, ⟨S1x8192, c⟩]
    concatenates_S1x8192_S1x8192_S1x8192_S3x8192_d0) transposes_S3x8192_p1_0_S8192x3

theorem colsV_apply (f : Nat → BitVec 32) (a b c : IVec S1x8192 32) (y : Fin 8192) (ha : a (ix2 0 y) = f 0) (hb : b (ix2 0 y) = f 1)
    (hc : c (ix2 0 y) = f 2) (l : Fin 3) : colsV a b c (ix2 y l) = f l.val := by
  fin_cases l
  · rw [← ha]; pointwise [colsV]
  · rw [← hb]; pointwise [colsV]
  · rw [← hc]; pointwise [colsV]

/-- The offsets of a whole-block store are all zero. -/
theorem offsets_zero : (![0, 0] : Fin 2 → Nat) = fun _ => 0 := funext fun a => by fin_cases a <;> rfl

/-- One store through the whole three-column block leaves its payload. -/
theorem stored3 (w : IVec S8192x3 32) : (View.canon [⟨r0_5, w⟩] : Vec Ideal S8192x3 .i32) = w := by
  rw [View.canon_unit_zero offsets_zero]

/-- One store through the whole one-column block leaves its payload. -/
theorem stored1 (w : FVec Ideal S8192x1 .f32) : (View.canon [⟨r0_6, w⟩] : Vec Ideal S8192x1 .f32) = w := by
  rw [View.canon_unit_zero offsets_zero]

/-- The stored column holds the row it was transposed from. -/
theorem column_apply (a : FVec Ideal S1x8192 .f32) (y : Fin 8192) : k0_pay2 a (ix2 y 0) = a (ix2 0 y) := by
  pointwise [k0_pay2]

/-- The first output's block: the sampled operations. -/
theorem out5_apply (y : Fin 8192) (l : Fin 3) :
    out0_5 i x0 x1 x2 x3 x4 (ix2 y l) = ind (nteF x1) (qF x3) (pnF x4) (row i y) l.val := by
  unfold out0_5
  rw [stored3]
  exact colsV_apply (ind (nteF x1) (qF x3) (pnF x4) (row i y)) _ _ _ y (ind0_apply i x0 x1 x2 x3 x4 y) (ind1_apply i x0 x1 x2 x3 x4 y)
    (ind2_apply i x0 x1 x2 x3 x4 y) l

/-- The second output's block: the sampled scales. -/
theorem out6_apply (y : Fin 8192) (l : Fin 3) :
    out0_6 i x0 x1 x2 x3 x4 (ix2 y l) = BitVec.ofNat 32 (pickC (opF x0) (nteF x1) (seF x2) (qF x3) (pnF x4) (row i y) l.val).val := by
  unfold out0_6
  rw [stored3]
  exact colsV_apply (fun l => BitVec.ofNat 32 (pickC (opF x0) (nteF x1) (seF x2) (qF x3) (pnF x4) (row i y) l).val) _ _ _ y
    (s0_apply i x0 x1 x2 x3 x4 y) (s1_apply i x0 x1 x2 x3 x4 y) (s2_apply i x0 x1 x2 x3 x4 y) l

/-- The third output's block: the log-probabilities. -/
theorem out7_apply (y : Fin 8192) :
    out0_7 i x0 x1 x2 x3 x4 (ix2 y 0) = lp (opF x0) (nteF x1) (seF x2) (qF x3) (pnF x4) (row i y) := by
  unfold out0_7
  rw [stored1]
  exact (column_apply _ y).trans (lpV_apply i x0 x1 x2 x3 x4 y)

end Cert.KernelSide

end
-- ==== Proof.KernelWhole.lean ====
/- The kernel's three whole result arrays, entry by entry, from the blocks the two grid points write back. -/
module

public import proofs.«01_k».proof.Proof.KernelBlock
public import proofs.«01_k».proof.Proof.Gen.KernelIdeal.Value
public import Idealize.ShloMosaic.Lib.Claim
public import Idealize.ShloMosaic.Lib.Pipeline.ValueKit.Geometry

@[expose] public section

noncomputable section

namespace Cert.KernelSide

open Cert.KernelIdeal Cert.KernelIdeal.Gen Cert.Threefry Cert.Pick Cert.Spec Idealize.ShloMosaic Idealize.ShloMosaic.TcCoe
  Idealize.SL.Sem
open Idealize.ShloMosaic.Pipeline (Dat)

variable (m : (ℓ : Loc nD τ sig) → Buf (Elt Ideal) ℓ) (ρ : Dev nD → PrngReg) (c : Dev nD)

/-! ## The arguments as functions of their indices -/

/-- The operations' embeddings. -/
def opM (o : Fin 16) (d : Fin 128) : EReal := (m ((c : Thread nD τ).loc main_arg1) : Vec Ideal S16x128 .f32) (ix2 o d)
/-- The transformation counts' embeddings. -/
def nteM (t : Fin 4) (d : Fin 128) : EReal := (m ((c : Thread nD τ).loc main_arg2) : Vec Ideal S4x128 .f32) (ix2 t d)
/-- The scales' embeddings. -/
def seM (s : Fin 31) (d : Fin 128) : EReal := (m ((c : Thread nD τ).loc main_arg3) : Vec Ideal S31x128 .f32) (ix2 s d)
/-- The query. -/
def qM (d : Fin 128) : EReal := (m ((c : Thread nD τ).loc main_arg4) : Vec Ideal S128 .f32) (ix1 d)
/-- The transformation counts. -/
def pnM (t : Fin 4) : BitVec 32 := (m ((c : Thread nD τ).loc main_arg5) : Vec Ideal S4 .i32) (ix1 t)

/-! ## The blocks the points read

Each input window's block is the whole array at both points: its index map is zero. -/

/-- The five input windows stay at block zero. -/
theorem index_zero : ∀ (w : Fin 8) (t : Fin grid0.N), w.val < 5 → ∀ a, (win0 w).index t a = 0 := by decide +kernel

/-- So their blocks start at the array's start. -/
theorem start_zero (w : Fin 8) (hw : w.val < 5) (t : Fin cfg0.N) (n : Fin (win0 w).shape.rank → Nat) :
    (fun a => (win0 w).index t a * n a) = fun _ => 0 :=
  funext fun a => by rw [index_zero w t hw a, Nat.zero_mul]

theorem iblk0_eq (t : Fin cfg0.N) : (iblk m c 0 t : Vec Ideal S16x128 .f32) = V m c main_arg1 :=
  Memref.read_access_unit_zero (Elt Ideal) main_arg1 (start_zero 0 (by decide) t _) _ _

theorem iblk1_eq (t : Fin cfg0.N) : (iblk m c 1 t : Vec Ideal S4x128 .f32) = V m c main_arg2 :=
  Memref.read_access_unit_zero (Elt Ideal) main_arg2 (start_zero 1 (by decide) t _) _ _

theorem iblk2_eq (t : Fin cfg0.N) : (iblk m c 2 t : Vec Ideal S31x128 .f32) = V m c main_arg3 :=
  Memref.read_access_unit_zero (Elt Ideal) main_arg3 (start_zero 2 (by decide) t _) _ _

theorem iblk3_eq (t : Fin cfg0.N) : (iblk m c 3 t : Vec Ideal S128x1 .f32) = V m c main_v0 :=
  Memref.read_access_unit_zero (Elt Ideal) main_v0 (start_zero 3 (by decide) t _) _ _

theorem iblk4_eq (t : Fin cfg0.N) : (iblk m c 4 t : Vec Ideal S4x1 .i32) = V m c main_v1 :=
  Memref.read_access_unit_zero (Elt Ideal) main_v1 (start_zero 4 (by decide) t _) _ _

theorem op_eq (t : Fin cfg0.N) : opF (iblk m c 0 t) = opM m c := by
  funext o d; unfold opF opM; rw [iblk0_eq, V_main_arg1]

theorem nte_eq (t : Fin cfg0.N) : nteF (iblk m c 1 t) = nteM m c := by
  funext o d; unfold nteF nteM; rw [iblk1_eq, V_main_arg2]

theorem se_eq (t : Fin cfg0.N) : seF (iblk m c 2 t) = seM m c := by
  funext o d; unfold seF seM; rw [iblk2_eq, V_main_arg3]

/-- The query as a column, before the region. -/
theorem entry_query : (V m c main_v0 : Vec Ideal S128x1 .f32) =
    shapeCast _ (m ((c : Thread nD τ).loc main_arg4) : Vec Ideal S128 .f32) shapeCasts_S128_S128x1 := by
  entry_read
  rfl

/-- The transformation counts as a column, before the region. -/
theorem entry_counts : (V m c main_v1 : Vec Ideal S4x1 .i32) =
    shapeCast _ (m ((c : Thread nD τ).loc main_arg5) : Vec Ideal S4 .i32) shapeCasts_S4_S4x1 := by
  entry_read
  rfl

/-- A vector made a column, entry by entry. -/
theorem column128_apply (v : Vec Ideal S128 .f32) (d : Fin 128) : shapeCast S128x1 v shapeCasts_S128_S128x1 (ix2 d 0) = v (ix1 d) := by
  pointwise []

theorem column4_apply (v : Vec Ideal S4 .i32) (d : Fin 4) : shapeCast S4x1 v shapeCasts_S4_S4x1 (ix2 d 0) = v (ix1 d) := by
  pointwise []

theorem q_eq (t : Fin cfg0.N) : qF (iblk m c 3 t) = qM m c := by
  funext d; unfold qF qM; rw [iblk3_eq, entry_query, column128_apply]

theorem pn_eq (t : Fin cfg0.N) : pnF (iblk m c 4 t) = pnM m c := by
  funext d; unfold pnF pnM; rw [iblk4_eq, entry_counts, column4_apply]

/-! ## The results -/

/-- The sampled operations of every row. -/
def indM : IVec S16384x3 32 := fun j => ind (nteM m c) (qM m c) (pnM m c) (j 0).val (j 1).val
/-- The sampled scales of every row. -/
def scaleM : IVec S16384x3 32 := fun j =>
  BitVec.ofNat 32 (pickC (opM m c) (nteM m c) (seM m c) (qM m c) (pnM m c) (j 0).val (j 1).val).val
/-- The log-probability of every row. -/
def lpM : FVec Ideal S16384x1 .f32 := fun j => lp (opM m c) (nteM m c) (seM m c) (qM m c) (pnM m c) (j 0).val

/-- An index of a two-axis array is a pair. -/
theorem as_pair {a b : Nat} (j : Shape.Idx ⟨2, ![a, b]⟩) : ∃ (y : Fin a) (l : Fin b), j = ix2 y l :=
  ⟨j 0, j 1, by funext d; fin_cases d <;> rfl⟩

/-! Each output window's block at a point is the point's block of rows, all columns. -/

theorem index5 : ∀ t : Fin cfg0.N, win0_5.index t = ![(grid0.coords t 0).val, 0] := (by decide +kernel : ∀ t : Fin grid0.N, _)
theorem index6 : ∀ t : Fin cfg0.N, win0_6.index t = ![(grid0.coords t 0).val, 0] := (by decide +kernel : ∀ t : Fin grid0.N, _)
theorem index7 : ∀ t : Fin cfg0.N, win0_7.index t = ![(grid0.coords t 0).val, 0] := (by decide +kernel : ∀ t : Fin grid0.N, _)

/-- Output 1 after the run: the sampled operations. -/
theorem final5 : (dats m 0 c).arrAt 5 cfg0.N = indM m c := by
  refine (dats m 0 c).arrAt_eq_of_covers 5 _ (by decide +kernel) fun t _ j => ?_
  obtain ⟨y, l, rfl⟩ := as_pair j
  blk_simp
  rw [after0_5, out5_apply, nte_eq, q_eq, pn_eq]
  unfold indM
  blk_simp [index5]
  rw [row, Nat.mul_comm]

/-- Output 2 after the run: the sampled scales. -/
theorem final6 : (dats m 0 c).arrAt 6 cfg0.N = scaleM m c := by
  refine (dats m 0 c).arrAt_eq_of_covers 6 _ (by decide +kernel) fun t _ j => ?_
  obtain ⟨y, l, rfl⟩ := as_pair j
  blk_simp
  rw [after0_6, out6_apply, op_eq, nte_eq, se_eq, q_eq, pn_eq]
  unfold scaleM
  blk_simp [index6]
  rw [row, Nat.mul_comm]

/-- Output 3 after the run: the log-probabilities. -/
theorem final7 : (dats m 0 c).arrAt 7 cfg0.N = lpM m c := by
  refine (dats m 0 c).arrAt_eq_of_covers 7 _ (by decide +kernel) fun t _ j => ?_
  obtain ⟨y, l, rfl⟩ := as_pair j
  obtain rfl : l = 0 := Subsingleton.elim _ _
  blk_simp
  rw [after0_7, out7_apply, op_eq, nte_eq, se_eq, q_eq, pn_eq]
  unfold lpM
  blk_simp [index7]
  rw [row, Nat.mul_comm]

/-- The kernel's run: the three results, the arguments unchanged. -/
theorem run : θ_run defs (onTc (τ := τ) (main (F := Ideal))) ⟨m, fun _ => 0, ρ⟩ fun r => ∀ c : Dev nD,
      r.2.mem ((c : Thread nD τ).loc main_v2_0) = indM m c
      ∧ r.2.mem ((c : Thread nD τ).loc main_v2_1) = scaleM m c
      ∧ r.2.mem ((c : Thread nD τ).loc main_v2_2) = lpM m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => by
      obtain ⟨h5, h6, h7, h⟩ := h c
      exact ⟨h5.trans (final5 m c), h6.trans (final6 m c), h7.trans (final7 m c), h⟩)
    (Value.run_blocks m ρ)

end Cert.KernelSide

end
-- ==== Proof.RefBits.lean ====
/- The random words of the reference, read entry by entry as threefry of the entry's counter: the three keys split
   off the seed, then each draw's words. -/
module

public import proofs.«01_k».proof.Proof.Threefry
public import proofs.«01_k».proof.Proof.Spec
public import proofs.«01_k».proof.Proof.Gen.ReferenceIdeal.Run
public import Idealize.ShloMosaic.Lib.Pointwise.Tactic
public import Idealize.ShloMosaic.Lib.IdealHost

@[expose] public section

noncomputable section

namespace Cert.ReferenceSide

open Cert.ReferenceIdeal Cert.ReferenceIdeal.Gen Cert.ReferenceIdeal.Value Cert.Threefry Cert.Spec Idealize.ShloMosaic

variable (V0 : Valuation τ sig (Elt Ideal))

/-- A counter below two to the thirty-second, as a 64-bit word, has itself as its low word. -/
theorem low_word (n : Nat) : (BitVec.ofNat 64 n).setWidth 32 = BitVec.ofNat 32 n := by
  apply BitVec.eq_of_toNat_eq
  simp only [BitVec.toNat_setWidth, BitVec.toNat_ofNat]
  omega

/-- Its high word is zero. -/
theorem high_word (n : Nat) (h : n < 4294967296) : ((BitVec.ofNat 64 n) >>> 32).setWidth 32 = 0#32 := by
  apply BitVec.eq_of_toNat_eq
  simp only [BitVec.toNat_setWidth, BitVec.toNat_ofNat, BitVec.toNat_ushiftRight, Nat.shiftRight_eq_div_pow]
  omega

/-- The counter's high word, as the host's shift computes it. -/
theorem high_word32 (n : Nat) (h : n < 4294967296) :
    (IntOp.shrui .host (BitVec.ofNat 64 n) 32#64).setWidth 32 = 0#32 := by
  rw [← high_word n h]; rfl

/-- A scalar spread over an array is read back at every entry. -/
theorem spread_apply {α : Type} (S : Shape) (h : S_.BroadcastsInDim S ![]) (x : S_.Idx → α) (j : S.Idx) :
    broadcastInDim S ![] h x j = x ix0 :=
  ValueIdx.broadcastInDim_scalar_apply h x j

/-! ## The cipher over whole arrays

Every draw runs the cipher on a whole array of counters. Stated once, for every shape, key and array. -/

section Cipher

variable (S : Shape) (h : S_.BroadcastsInDim S ![])

/-- The key's words in turn, as scalar arrays. -/
def keyV (K0 K1 K2 : IVec S_ 32) (n : Nat) : IVec S_ 32 :=
  if n % 3 = 0 then K0 else if n % 3 = 1 then K1 else K2

/-- The second words rotated, and the first words added to them bit by bit. -/
def mixV (a b : IVec S 32) (r s : BitVec 32) : IVec S 32 :=
  xori a (ori (Host.shli b (broadcastInDim S ![] h (constantI S_ 32 r))) (Host.shrui b (broadcastInDim S ![] h (constantI S_ 32 s))))

/-- From the state in round `r`, after the addition, to that of the next round: the second words are mixed, after every
fourth round the key is added to both, and then the second words are added to the first. -/
def nextV (K0 K1 K2 : IVec S_ 32) (r : Nat) (p : IVec S 32 × IVec S 32) : IVec S 32 × IVec S 32 :=
  let t := mixV S h p.1 p.2 (rot (r + r / 4)).1 (rot (r + r / 4)).2
  if r % 4 = 3 then
    let b := addi (addi t (broadcastInDim S ![] h (keyV K0 K1 K2 (r / 4 + 2)))) (broadcastInDim S ![] h (constantI S_ 32 (BitVec.ofNat 32 (r / 4 + 1))))
    (addi (addi p.1 (broadcastInDim S ![] h (keyV K0 K1 K2 (r / 4 + 1)))) b, b)
  else (addi p.1 t, t)

/-- `p` lists the states of the twenty rounds from the 64-bit counters `n` on, each after the round's addition. -/
structure Cipher (K0 K1 K2 : IVec S_ 32) (n : IVec S 64) (p : List (IVec S 32 × IVec S 32)) : Prop where
  /-- The second words start as the counters' low words with the key added. -/
  start1 : (p.getD 0 default).2 = addi (trunci 32 n natLt_32_64) (broadcastInDim S ![] h K1)
  /-- The first words start as the counters' high words with the key added. -/
  start0 : (p.getD 0 default).1 = addi (addi (trunci 32 (Host.shrui n (broadcastInDim S ![] h (constantI S_ 64 32#64))) natLt_32_64)
    (broadcastInDim S ![] h K0)) (p.getD 0 default).2
  /-- Each state is the one before it, one round on. -/
  next : ∀ r < 19, p.getD (r + 1) default = nextV S h K0 K1 K2 r (p.getD r default)

variable {S h} {K0 K1 K2 : IVec S_ 32} {k0 k1 k2 : BitVec 32}

theorem keyV_apply (h0 : K0 = constantI S_ 32 k0) (h1 : K1 = constantI S_ 32 k1) (h2 : K2 = constantI S_ 32 k2) (n : Nat) :
    keyV K0 K1 K2 n ix0 = key k0 k1 k2 n := by
  subst h0 h1 h2
  unfold keyV key
  split_ifs <;> rfl

/-- One entry of the mixed words. -/
theorem mixV_apply {c0 c1 : BitVec 32} {a b : IVec S 32} {j : S.Idx} {n : Nat} (hn : n % 5 < 4) (ha : a j = X0 k0 k1 k2 c0 c1 (n + 1))
    (hb : b j = X1 k0 k1 k2 c0 c1 n) : mixV S h a b (rot n).1 (rot n).2 j = X1 k0 k1 k2 c0 c1 (n + 1) := by
  rw [← fold_mix' .host n (rot n).1 (rot n).2 hn rfl, ← ha, ← hb]
  simp only [mixV, ↓xori_apply, ↓ori_apply, ↓Host.shli_apply, ↓Host.shrui_apply, ↓spread_apply, ↓constantI_apply]

/-- One entry of the states: those of the cipher on the entry's counter. -/
theorem Cipher.apply {n : IVec S 64} {p : List (IVec S 32 × IVec S 32)} (hc : Cipher S h K0 K1 K2 n p) (h0 : K0 = constantI S_ 32 k0)
    (h1 : K1 = constantI S_ 32 k1) (h2 : K2 = constantI S_ 32 k2) {j : S.Idx} {c : Nat} (hn : n j = BitVec.ofNat 64 c)
    (hlt : c < 4294967296) (r : Nat) (hr : r < 20) :
    (p.getD r default).1 j = X0 k0 k1 k2 0#32 (BitVec.ofNat 32 c) (r + r / 4 + 1)
      ∧ (p.getD r default).2 j = X1 k0 k1 k2 0#32 (BitVec.ofNat 32 c) (r + r / 4) := by
  induction r with
  | zero =>
    have hb : (p.getD 0 default).2 j = X1 k0 k1 k2 0#32 (BitVec.ofNat 32 c) 0 := by
      rw [hc.start1, h1]
      simp only [↓addi_apply, ↓trunci_apply, ↓spread_apply, ↓constantI_apply, hn, low_word]
      exact Threefry.start1
    refine ⟨?_, hb⟩
    rw [← fold_add _ (by decide), ← hb, hc.start0, h0]
    simp only [↓addi_apply, ↓trunci_apply, ↓Host.shrui_apply, ↓spread_apply, ↓constantI_apply, hn, high_word32 c hlt]
    exact congrArg (fun z => IntOp.addi z _) Threefry.start0
  | succ r ih =>
    obtain ⟨ha, hb⟩ := ih (by omega)
    have hm := mixV_apply (h := h) (by omega) ha hb
    rw [hc.next r (by omega)]
    unfold nextV
    split_ifs with h3
    · have e : r + 1 + (r + 1) / 4 = r + r / 4 + 1 + 1 := by omega
      have hq : (r + r / 4 + 1) / 5 = r / 4 := by omega
      have hb' : addi (addi (mixV S h (p.getD r default).1 (p.getD r default).2 (rot (r + r / 4)).1 (rot (r + r / 4)).2)
          (broadcastInDim S ![] h (keyV K0 K1 K2 (r / 4 + 2)))) (broadcastInDim S ![] h (constantI S_ 32 (BitVec.ofNat 32 (r / 4 + 1)))) j
          = X1 k0 k1 k2 0#32 (BitVec.ofNat 32 c) (r + r / 4 + 1 + 1) := by
        rw [← fold_key1 _ _ _ (by omega) rfl rfl, ← hm, hq, ← keyV_apply h0 h1 h2]
        simp only [↓addi_apply, ↓spread_apply, ↓constantI_apply]
      rw [e]
      refine ⟨?_, hb'⟩
      rw [← fold_add _ (by omega), ← hb', ← fold_key0 (r + r / 4 + 1) _ (by omega) rfl, ← ha, hq, ← keyV_apply h0 h1 h2]
      simp only [↓addi_apply, ↓spread_apply]
    · have e : r + 1 + (r + 1) / 4 = r + r / 4 + 1 := by omega
      rw [e]
      refine ⟨?_, hm⟩
      rw [← fold_add _ (by omega), ← hm, ← ha]
      rfl

/-- The first output words. -/
def out0V (a : IVec S 32) (h : S_.BroadcastsInDim S ![]) (k2 : IVec S_ 32) : IVec S 32 := addi a (broadcastInDim S ![] h k2)

/-- The second output words. -/
def out1V (a b : IVec S 32) (h : S_.BroadcastsInDim S ![]) (k0 : IVec S_ 32) : IVec S 32 :=
  addi (addi (xori a (ori (Host.shli b (broadcastInDim S ![] h (constantI S_ 32 6#32)))
    (Host.shrui b (broadcastInDim S ![] h (constantI S_ 32 26#32))))) (broadcastInDim S ![] h k0))
    (broadcastInDim S ![] h (constantI S_ 32 5#32))

/-- The last step of the cipher and the two words added bit by bit, over whole arrays. -/
def wordsV (S : Shape) (h : S_.BroadcastsInDim S ![]) (x0 x1 : IVec S 32) (k2 k0 : IVec S_ 32) : IVec S 32 :=
  xori (addi x0 (broadcastInDim S ![] h k2))
    (addi (addi (xori x0 (ori (Host.shli x1 (broadcastInDim S ![] h (constantI S_ 32 6#32)))
      (Host.shrui x1 (broadcastInDim S ![] h (constantI S_ 32 26#32))))) (broadcastInDim S ![] h k0))
      (broadcastInDim S ![] h (constantI S_ 32 5#32)))

/-- One entry of the first output words. -/
theorem Cipher.out0_apply {n : IVec S 64} {p : List (IVec S 32 × IVec S 32)} (hc : Cipher S h K0 K1 K2 n p) (h0 : K0 = constantI S_ 32 k0)
    (h1 : K1 = constantI S_ 32 k1) (h2 : K2 = constantI S_ 32 k2) {j : S.Idx} {c : Nat} (hn : n j = BitVec.ofNat 64 c)
    (hlt : c < 4294967296) : out0V (p.getD 19 default).1 h K2 j = out0 k0 k1 k2 0#32 (BitVec.ofNat 32 c) := by
  obtain ⟨ha, -⟩ := hc.apply h0 h1 h2 hn hlt 19 (by decide)
  rw [out0, ← fold_key0 24 k2 (by decide) rfl, ← ha, h2]
  simp only [out0V, ↓addi_apply, ↓spread_apply, ↓constantI_apply]

/-- One entry of the second output words. -/
theorem Cipher.out1_apply {n : IVec S 64} {p : List (IVec S 32 × IVec S 32)} (hc : Cipher S h K0 K1 K2 n p) (h0 : K0 = constantI S_ 32 k0)
    (h1 : K1 = constantI S_ 32 k1) (h2 : K2 = constantI S_ 32 k2) {j : S.Idx} {c : Nat} (hn : n j = BitVec.ofNat 64 c)
    (hlt : c < 4294967296) : out1V (p.getD 19 default).1 (p.getD 19 default).2 h K0 j = out1 k0 k1 k2 0#32 (BitVec.ofNat 32 c) := by
  obtain ⟨ha, hb⟩ := hc.apply h0 h1 h2 hn hlt 19 (by decide)
  have hm := mixV_apply (h := h) (by decide) ha hb
  rw [out1, ← fold_key1 24 k0 5#32 (by decide) rfl rfl, ← hm, h0]
  simp only [out1V, ↓addi_apply, ↓spread_apply, ↓constantI_apply]
  rfl

/-- One entry of a draw's words. -/
theorem Cipher.words_apply {n : IVec S 64} {p : List (IVec S 32 × IVec S 32)} (hc : Cipher S h K0 K1 K2 n p) (h0 : K0 = constantI S_ 32 k0)
    (h1 : K1 = constantI S_ 32 k1) (h2 : K2 = constantI S_ 32 k2) {j : S.Idx} {c : Nat} (hn : n j = BitVec.ofNat 64 c)
    (hlt : c < 4294967296) :
    wordsV S h (p.getD 19 default).1 (p.getD 19 default).2 K2 K0 j = bits k0 k1 k2 0#32 (BitVec.ofNat 32 c) := by
  rw [bits, ← hc.out0_apply h0 h1 h2 hn hlt, ← hc.out1_apply h0 h1 h2 hn hlt]
  rfl

/-- The third key word is the other two and a constant, added bit by bit. -/
theorem third_key (h0 : K0 = constantI S_ 32 k0) (h1 : K1 = constantI S_ 32 k1)
    (h2 : IntOp.xori (IntOp.xori k0 k1) 466688986#32 = k2) : xori (xori K0 K1) (constantI S_ 32 466688986#32) = constantI S_ 32 k2 := by
  subst h0 h1 h2
  rfl

end Cipher

/-! ## The three keys split off the seed -/

theorem v8_eq : res_main_v8 V0 = constantI S_ 32 0#32 := by
  funext j
  pointwise [res_main_v8, res_main_v6, res_main_c]
  rfl

theorem v10_eq : res_main_v10 V0 = constantI S_ 32 42#32 := by
  funext j
  pointwise [res_main_v10, res_main_v6, res_main_c]
  rfl

theorem v19_eq : res_main_v19 V0 = constantI S_ 32 466689008#32 := third_key (v8_eq V0) (v10_eq V0) (by decide)

theorem v13_apply (j : Fin 3) : res_main_v13 V0 (ix1 j) = BitVec.ofNat 64 (j.val) := by
  pointwise [res_main_v13]
  apply BitVec.eq_of_toNat_eq
  simp [IntOp.addi, IntOp.muli]

/-- The seed's cipher. -/
theorem cipherS : Cipher S3 bcast_S_S3 (res_main_v8 V0) (res_main_v10 V0) (res_main_v19 V0) (res_main_v13 V0) [
    (res_main_v24 V0, res_main_v23 V0), (res_main_v31 V0, res_main_v30 V0), (res_main_v38 V0, res_main_v37 V0), (res_main_v45 V0, res_main_v44 V0),
    (res_main_v58 V0, res_main_v57 V0), (res_main_v65 V0, res_main_v64 V0), (res_main_v72 V0, res_main_v71 V0), (res_main_v79 V0, res_main_v78 V0),
    (res_main_v92 V0, res_main_v91 V0), (res_main_v99 V0, res_main_v98 V0), (res_main_v106 V0, res_main_v105 V0), (res_main_v113 V0, res_main_v112 V0),
    (res_main_v126 V0, res_main_v125 V0), (res_main_v133 V0, res_main_v132 V0), (res_main_v140 V0, res_main_v139 V0), (res_main_v147 V0, res_main_v146 V0),
    (res_main_v160 V0, res_main_v159 V0), (res_main_v167 V0, res_main_v166 V0), (res_main_v174 V0, res_main_v173 V0), (res_main_v181 V0, res_main_v180 V0)] :=
  ⟨rfl, rfl, fun r hr => by interval_cases r <;> rfl⟩

/-- The words that the seed is split into: the first words. -/
theorem seed0 (j : Fin 3) : out0V (res_main_v181 V0) bcast_S_S3 (res_main_v19 V0) (ix1 j)
    = out0 0#32 42#32 466689008#32 0#32 (BitVec.ofNat 32 j.val) :=
  (cipherS V0).out0_apply (v8_eq V0) (v10_eq V0) (v19_eq V0) (v13_apply V0 j) (by omega)

/-- The words that the seed is split into: the second words. -/
theorem seed1 (j : Fin 3) : out1V (res_main_v181 V0) (res_main_v180 V0) bcast_S_S3 (res_main_v8 V0) (ix1 j)
    = out1 0#32 42#32 466689008#32 0#32 (BitVec.ofNat 32 j.val) :=
  (cipherS V0).out1_apply (v8_eq V0) (v10_eq V0) (v19_eq V0) (v13_apply V0 j) (by omega)

/-! ## The first draw -/

theorem v231_eq : res_main_v231 V0 = constantI S_ 32 1832780943#32 := by
  funext j
  refine Eq.trans ?_ ((seed0 V0 0).trans (show _ = 1832780943#32 by decide +kernel))
  pointwise [res_main_v231, res_main_v198, res_main_v196, out0V]

theorem v233_eq : res_main_v233 V0 = constantI S_ 32 270669613#32 := by
  funext j
  refine Eq.trans ?_ ((seed1 V0 0).trans (show _ = 270669613#32 by decide +kernel))
  pointwise [res_main_v233, res_main_v198, res_main_v196, out1V]

theorem v246_eq : res_main_v246 V0 = constantI S_ 32 1724713080#32 := third_key (v231_eq V0) (v233_eq V0) (by decide)

theorem v240_apply (b : Fin 16384) (t : Fin 4) : res_main_v240 V0 (ix2 b t) = BitVec.ofNat 64 (4 * b.val + t.val) := by
  pointwise [res_main_v240]
  apply BitVec.eq_of_toNat_eq
  simp [IntOp.addi, IntOp.muli]

/-- The first draw's cipher. -/
theorem cipherA : Cipher S16384x4 bcast_S_S16384x4 (res_main_v231 V0) (res_main_v233 V0) (res_main_v246 V0) (res_main_v240 V0) [
    (res_main_v251 V0, res_main_v250 V0), (res_main_v258 V0, res_main_v257 V0), (res_main_v265 V0, res_main_v264 V0), (res_main_v272 V0, res_main_v271 V0),
    (res_main_v285 V0, res_main_v284 V0), (res_main_v292 V0, res_main_v291 V0), (res_main_v299 V0, res_main_v298 V0), (res_main_v306 V0, res_main_v305 V0),
    (res_main_v319 V0, res_main_v318 V0), (res_main_v326 V0, res_main_v325 V0), (res_main_v333 V0, res_main_v332 V0), (res_main_v340 V0, res_main_v339 V0),
    (res_main_v353 V0, res_main_v352 V0), (res_main_v360 V0, res_main_v359 V0), (res_main_v367 V0, res_main_v366 V0), (res_main_v374 V0, res_main_v373 V0),
    (res_main_v387 V0, res_main_v386 V0), (res_main_v394 V0, res_main_v393 V0), (res_main_v401 V0, res_main_v400 V0), (res_main_v408 V0, res_main_v407 V0)] :=
  ⟨rfl, rfl, fun r hr => by interval_cases r <;> rfl⟩

/-- The first draw's words. -/
theorem wordsA_apply (b : Fin 16384) (t : Fin 4) :
    wordsV S16384x4 bcast_S_S16384x4 (res_main_v408 V0) (res_main_v407 V0) (res_main_v246 V0) (res_main_v231 V0) (ix2 b t)
      = wordA (4 * b.val + t.val) :=
  (cipherA V0).words_apply (v231_eq V0) (v233_eq V0) (v246_eq V0) (v240_apply V0 b t) (by omega)

/-! ## The second draw: its key is split once more, and the second half is used -/

theorem v460_eq : res_main_v460 V0 = constantI S_ 32 64467757#32 := by
  funext j
  refine Eq.trans ?_ ((seed0 V0 1).trans (show _ = 64467757#32 by decide +kernel))
  pointwise [res_main_v460, res_main_v200, res_main_v196, out0V]

theorem v462_eq : res_main_v462 V0 = constantI S_ 32 2916123636#32 := by
  funext j
  refine Eq.trans ?_ ((seed1 V0 1).trans (show _ = 2916123636#32 by decide +kernel))
  pointwise [res_main_v462, res_main_v200, res_main_v196, out1V]

theorem v471_eq : res_main_v471 V0 = constantI S_ 32 3050711811#32 := third_key (v460_eq V0) (v462_eq V0) (by decide)

theorem v465_apply (j : Fin 2) : res_main_v465 V0 (ix1 j) = BitVec.ofNat 64 (j.val) := by
  pointwise [res_main_v465]
  apply BitVec.eq_of_toNat_eq
  simp [IntOp.addi, IntOp.muli]

/-- The second key's cipher. -/
theorem cipherT : Cipher S2 bcast_S_S2 (res_main_v460 V0) (res_main_v462 V0) (res_main_v471 V0) (res_main_v465 V0) [
    (res_main_v476 V0, res_main_v475 V0), (res_main_v483 V0, res_main_v482 V0), (res_main_v490 V0, res_main_v489 V0), (res_main_v497 V0, res_main_v496 V0),
    (res_main_v510 V0, res_main_v509 V0), (res_main_v517 V0, res_main_v516 V0), (res_main_v524 V0, res_main_v523 V0), (res_main_v531 V0, res_main_v530 V0),
    (res_main_v544 V0, res_main_v543 V0), (res_main_v551 V0, res_main_v550 V0), (res_main_v558 V0, res_main_v557 V0), (res_main_v565 V0, res_main_v564 V0),
    (res_main_v578 V0, res_main_v577 V0), (res_main_v585 V0, res_main_v584 V0), (res_main_v592 V0, res_main_v591 V0), (res_main_v599 V0, res_main_v598 V0),
    (res_main_v612 V0, res_main_v611 V0), (res_main_v619 V0, res_main_v618 V0), (res_main_v626 V0, res_main_v625 V0), (res_main_v633 V0, res_main_v632 V0)] :=
  ⟨rfl, rfl, fun r hr => by interval_cases r <;> rfl⟩

/-- The words that the second key is split into: the first words. -/
theorem half0 (j : Fin 2) : out0V (res_main_v633 V0) bcast_S_S2 (res_main_v471 V0) (ix1 j)
    = out0 64467757#32 2916123636#32 3050711811#32 0#32 (BitVec.ofNat 32 j.val) :=
  (cipherT V0).out0_apply (v460_eq V0) (v462_eq V0) (v471_eq V0) (v465_apply V0 j) (by omega)

/-- The words that the second key is split into: the second words. -/
theorem half1 (j : Fin 2) : out1V (res_main_v633 V0) (res_main_v632 V0) bcast_S_S2 (res_main_v460 V0) (ix1 j)
    = out1 64467757#32 2916123636#32 3050711811#32 0#32 (BitVec.ofNat 32 j.val) :=
  (cipherT V0).out1_apply (v460_eq V0) (v462_eq V0) (v471_eq V0) (v465_apply V0 j) (by omega)

theorem v846_eq : res_main_v846 V0 = constantI S_ 32 2350016172#32 := by
  funext j
  refine Eq.trans ?_ ((half0 V0 1).trans (show _ = 2350016172#32 by decide +kernel))
  pointwise [res_main_v846, res_main_v652, res_main_v648, out0V]

theorem v848_eq : res_main_v848 V0 = constantI S_ 32 1168365246#32 := by
  funext j
  refine Eq.trans ?_ ((half1 V0 1).trans (show _ = 1168365246#32 by decide +kernel))
  pointwise [res_main_v848, res_main_v652, res_main_v648, out1V]

theorem v861_eq : res_main_v861 V0 = constantI S_ 32 3529550792#32 := third_key (v846_eq V0) (v848_eq V0) (by decide)

theorem v855_apply (b : Fin 16384) (l : Fin 3) : res_main_v855 V0 (ix2 b l) = BitVec.ofNat 64 (3 * b.val + l.val) := by
  pointwise [res_main_v855]
  apply BitVec.eq_of_toNat_eq
  simp [IntOp.addi, IntOp.muli]

/-- The second draw's cipher. -/
theorem cipherB : Cipher S16384x3 bcast_S_S16384x3 (res_main_v846 V0) (res_main_v848 V0) (res_main_v861 V0) (res_main_v855 V0) [
    (res_main_v866 V0, res_main_v865 V0), (res_main_v873 V0, res_main_v872 V0), (res_main_v880 V0, res_main_v879 V0), (res_main_v887 V0, res_main_v886 V0),
    (res_main_v900 V0, res_main_v899 V0), (res_main_v907 V0, res_main_v906 V0), (res_main_v914 V0, res_main_v913 V0), (res_main_v921 V0, res_main_v920 V0),
    (res_main_v934 V0, res_main_v933 V0), (res_main_v941 V0, res_main_v940 V0), (res_main_v948 V0, res_main_v947 V0), (res_main_v955 V0, res_main_v954 V0),
    (res_main_v968 V0, res_main_v967 V0), (res_main_v975 V0, res_main_v974 V0), (res_main_v982 V0, res_main_v981 V0), (res_main_v989 V0, res_main_v988 V0),
    (res_main_v1002 V0, res_main_v1001 V0), (res_main_v1009 V0, res_main_v1008 V0), (res_main_v1016 V0, res_main_v1015 V0), (res_main_v1023 V0, res_main_v1022 V0)] :=
  ⟨rfl, rfl, fun r hr => by interval_cases r <;> rfl⟩

/-- The second draw's words. -/
theorem wordsB_apply (b : Fin 16384) (l : Fin 3) :
    wordsV S16384x3 bcast_S_S16384x3 (res_main_v1023 V0) (res_main_v1022 V0) (res_main_v861 V0) (res_main_v846 V0) (ix2 b l)
      = wordB (3 * b.val + l.val) :=
  (cipherB V0).words_apply (v846_eq V0) (v848_eq V0) (v861_eq V0) (v855_apply V0 b l) (by omega)

/-! ## The third draw -/

theorem v1105_eq : res_main_v1105 V0 = constantI S_ 32 2465931498#32 := by
  funext j
  refine Eq.trans ?_ ((seed0 V0 2).trans (show _ = 2465931498#32 by decide +kernel))
  pointwise [res_main_v1105, res_main_v202, res_main_v196, out0V]

theorem v1107_eq : res_main_v1107 V0 = constantI S_ 32 255383827#32 := by
  funext j
  refine Eq.trans ?_ ((seed1 V0 2).trans (show _ = 255383827#32 by decide +kernel))
  pointwise [res_main_v1107, res_main_v202, res_main_v196, out1V]

theorem v1120_eq : res_main_v1120 V0 = constantI S_ 32 2249384483#32 := third_key (v1105_eq V0) (v1107_eq V0) (by decide)

theorem v1114_apply (r : Fin 49152) (s : Fin 31) : res_main_v1114 V0 (ix2 r s) = BitVec.ofNat 64 (31 * r.val + s.val) := by
  pointwise [res_main_v1114]
  apply BitVec.eq_of_toNat_eq
  simp [IntOp.addi, IntOp.muli]

/-- The third draw's cipher. -/
theorem cipherC : Cipher S49152x31 bcast_S_S49152x31 (res_main_v1105 V0) (res_main_v1107 V0) (res_main_v1120 V0) (res_main_v1114 V0) [
    (res_main_v1125 V0, res_main_v1124 V0), (res_main_v1132 V0, res_main_v1131 V0), (res_main_v1139 V0, res_main_v1138 V0), (res_main_v1146 V0, res_main_v1145 V0),
    (res_main_v1159 V0, res_main_v1158 V0), (res_main_v1166 V0, res_main_v1165 V0), (res_main_v1173 V0, res_main_v1172 V0), (res_main_v1180 V0, res_main_v1179 V0),
    (res_main_v1193 V0, res_main_v1192 V0), (res_main_v1200 V0, res_main_v1199 V0), (res_main_v1207 V0, res_main_v1206 V0), (res_main_v1214 V0, res_main_v1213 V0),
    (res_main_v1227 V0, res_main_v1226 V0), (res_main_v1234 V0, res_main_v1233 V0), (res_main_v1241 V0, res_main_v1240 V0), (res_main_v1248 V0, res_main_v1247 V0),
    (res_main_v1261 V0, res_main_v1260 V0), (res_main_v1268 V0, res_main_v1267 V0), (res_main_v1275 V0, res_main_v1274 V0), (res_main_v1282 V0, res_main_v1281 V0)] :=
  ⟨rfl, rfl, fun r hr => by interval_cases r <;> rfl⟩

/-- The third draw's words. -/
theorem wordsC_apply (r : Fin 49152) (s : Fin 31) :
    wordsV S49152x31 bcast_S_S49152x31 (res_main_v1282 V0) (res_main_v1281 V0) (res_main_v1120 V0) (res_main_v1105 V0) (ix2 r s)
      = wordC (31 * r.val + s.val) :=
  (cipherC V0).words_apply (v1105_eq V0) (v1107_eq V0) (v1120_eq V0) (v1114_apply V0 r s) (by omega)

end Cert.ReferenceSide

end
-- ==== Proof.RefArrays.lean ====
/- Readings of the reference's array operations that hold for any array: the Gumbel noise of an array of random words,
   the place of a row's greatest entry, and look-ups by an array of in-range places. -/
module

public import proofs.«01_k».proof.Proof.RefBits

@[expose] public section

noncomputable section

namespace Cert.ReferenceSide

open Cert.ReferenceIdeal Cert.ReferenceIdeal.Gen Cert.ReferenceIdeal.Value Cert.Threefry Cert.Spec Cert.Pick Idealize.ShloMosaic

/-! ## Gumbel noise -/

/-- Gumbel noise from an array of random words. -/
def gumH (S : Shape) (h : S_.BroadcastsInDim S ![]) (w : IVec S 32) : FVec Ideal S .f32 :=
  Host.negf (Host.log (Host.negf (Host.log (maximumf (broadcastInDim S ![] h (constant S_ .f32 0x00800000#32))
    (addf (mulf (subf (bitcastToFloat (F := Ideal) .f32 (ori (Host.shrui w (broadcastInDim S ![] h (constantI S_ 32 9#32)))
      (broadcastInDim S ![] h (constantI S_ 32 1065353216#32)))) (broadcastInDim S ![] h (constant S_ .f32 0x3F800000#32)))
      (broadcastInDim S ![] h (constant S_ .f32 0x3F800000#32))) (broadcastInDim S ![] h (constant S_ .f32 0x00800000#32)))))))

theorem gumH_apply (S : Shape) (h : S_.BroadcastsInDim S ![]) (w : IVec S 32) (j : S.Idx) : gumH S h w j = gum (w j) := by
  have e : gumH S h w j = -Ideal.log (-Ideal.log (max (Ideal.ofBits .f32 8388608#32)
      ((Ideal.ofBits .f32 (IntOp.ori (IntOp.shrui .host (w j) 9#32) 1065353216#32) - Ideal.ofBits .f32 0x3F800000#32)
        * Ideal.ofBits .f32 0x3F800000#32 + Ideal.ofBits .f32 8388608#32))) := by
    rfl
  rw [e, Ideal.ofBits_one_f32, mul_one]
  unfold gum
  rw [zero_sub, zero_sub]
  rfl

/-! ## The place of a row's greatest entry -/

/-- The place of the greatest entry of a row, the first of them when several tie. -/
theorem top_apply {m n : Nat} [NeZero n] (x : FVec Ideal ⟨2, ![m, n]⟩ .f32)
    (h : (⟨2, ![m, n]⟩ : Shape).Slices (fun _ => 0) ⟨2, ![m, 1]⟩) (r : Fin m) :
    (Host.topK ⟨2, ![m, 1]⟩ 1 (FloatOps.cmpfTotal .gt) x h).2 (ix2 r 0)
      = BitVec.ofNat 32 (firstMax (fun s => x (ix2 r s))).val := by
  have hpos : 0 < n := Nat.pos_of_ne_zero (NeZero.ne n)
  have along : ∀ k : Fin n, Shape.Idx.along (s := ⟨2, ![m, n]⟩) (ix2 r ⟨0, hpos⟩) 1 k = ix2 r k := by
    intro k
    funext a
    match a with
    | ⟨0, _⟩ => rfl
    | ⟨1, _⟩ => rfl
  have at0 : (fun a => ⟨0 + ((ix2 r (0 : Fin 1) : (⟨2, ![m, 1]⟩ : Shape).Idx) (a.cast h.1.symm)).val,
      Nat.lt_of_lt_of_le (Nat.add_lt_add_left (Fin.isLt _) _) (h.2 a)⟩ : (⟨2, ![m, n]⟩ : Shape).Idx) = ix2 r ⟨0, hpos⟩ := by
    funext a
    match a with
    | ⟨0, _⟩ => exact Fin.ext (Nat.zero_add _)
    | ⟨1, _⟩ => exact Fin.ext (Nat.zero_add _)
  unfold Host.topK extractStridedSlice
  dsimp only
  rw [at0]
  unfold Host.sort2
  rw [dif_pos (show 1 < (⟨2, ![m, n]⟩ : Shape).rank from Nat.lt_succ_self 1)]
  dsimp only
  have key : sortedFrom (fun k k' : Fin n =>
      Ideal.cmp .ogt (x (Shape.Idx.along (s := ⟨2, ![m, n]⟩) (ix2 r ⟨0, hpos⟩) 1 k))
        (x (Shape.Idx.along (s := ⟨2, ![m, n]⟩) (ix2 r ⟨0, hpos⟩) 1 k')) == 1#1) ⟨0, hpos⟩ = firstMax (fun s => x (ix2 r s)) := by
    refine sortedFrom_zero _ _ (fun a b => ?_) _ rfl
    rw [along, along]
    show (BitVec.ofBool (decide (x (ix2 r b) < x (ix2 r a))) == 1#1) = _
    cases decide (x (ix2 r b) < x (ix2 r a)) <;> rfl
  exact congrArg (fun k : Fin n => BitVec.ofNat 32 k.val) key

/-! ## Look-ups -/

/-- The place a look-up reads on an axis its start index gives: the start index's word, when that is in range. -/
theorem operandIdx_start {s si t : Shape} (d : GatherDims s si t) (j : t.Idx) (idx : IVec si 32) (a : Fin s.rank)
    (hb : d.operandBatchingDims = []) (hc : a ∈ d.collapsedSliceDims) (hm : a ∈ d.startIndexMap) (i : si.Idx)
    (hi : d.siIdx j ⟨d.startIndexMap.idxOf a, List.idxOf_lt_length_iff.2 hm⟩ = i) (k : Nat) (hk : k < s.size a)
    (h31 : k < 2 ^ 31) (hw : idx i = BitVec.ofNat 32 k) : (d.operandIdx j idx a).val = k := by
  have hn : a ∉ d.operandBatchingDims := by rw [hb]; exact List.not_mem_nil
  have hs : a ∉ d.sKept := fun h => ((d.mem_sKept a).1 h).1 hc
  have hsl := d.slice_collapsed a hc
  have hint : (BitVec.ofNat 32 k).toInt = k := by
    rw [BitVec.toInt_eq_toNat_cond, BitVec.toNat_ofNat, Nat.mod_eq_of_lt (by omega), if_pos (by omega)]
  simp only [GatherDims.operandIdx, d.batchCoord_eq_zero j a hn, d.offCoord_eq_zero j a hs, Nat.add_zero,
    GatherDims.start, dif_pos hm, hi, hw, hint, hsl, Int.toNat_natCast]
  omega

/-- A list looked up by a column of in-range places. -/
theorem gather4_apply {α : Type} (x : S4.Idx → α) (idx : IVec S16384x1 32) (b : Fin 16384) (k : Fin 4)
    (hw : idx (ix2 b 0) = BitVec.ofNat 32 k.val) :
    Host.gather gather_S4_S16384x1_S16384_n_0_n_n_0_1_1 x idx (ix1 b) = x (ix1 k) := by
  unfold Host.gather
  congr 1
  funext a
  match a with
  | ⟨0, _⟩ =>
    refine Fin.ext (operandIdx_start _ _ idx 0 rfl (by decide) (by decide) (ix2 b 0) ?_ k.val k.isLt (by omega) hw)
    funext e
    match e with
    | ⟨0, _⟩ => rfl
    | ⟨1, _⟩ => rfl

/-- A table's rows looked up by an array of in-range row numbers. -/
theorem gatherRow_apply {α : Type} (x : S16x128.Idx → α) (idx : IVec S16384x3x1 32) (b : Fin 16384) (l : Fin 3) (d : Fin 128)
    (k : Fin 16) (hw : idx (ix3 b l 0) = BitVec.ofNat 32 k.val) :
    Host.gather gather_S16x128_S16384x3x1_S16384x3x128_2_0_n_n_0_2_1128 x idx (ix3 b l d) = x (ix2 k d) := by
  unfold Host.gather
  congr 1
  funext a
  match a with
  | ⟨0, _⟩ =>
    refine Fin.ext (operandIdx_start _ _ idx 0 rfl (by decide) (by decide) (ix3 b l 0) ?_ k.val k.isLt (by omega) hw)
    funext e
    match e with
    | ⟨0, _⟩ => rfl
    | ⟨1, _⟩ => rfl
    | ⟨2, _⟩ => rfl
  | ⟨1, h⟩ => exact Fin.ext (Nat.zero_add d.val)

/-- The look-up of one entry in each row of a table, row and column both given. -/
abbrev pairDims (N C : Nat) (wf : GatherDims.WF ⟨2, ![N, C]⟩ ⟨2, ![N, 2]⟩ ⟨1, ![N]⟩ [] [0, 1] [] [0, 1] [] 1 ![1, 1]) :
    GatherDims ⟨2, ![N, C]⟩ ⟨2, ![N, 2]⟩ ⟨1, ![N]⟩ where
  offsetDims := []
  collapsedSliceDims := [0, 1]
  operandBatchingDims := []
  startIndicesBatchingDims := []
  startIndexMap := [0, 1]
  indexVectorDim := 1
  sliceSizes := ![1, 1]
  wf := wf

/-- One entry of each row of a table, looked up by an array of in-range row and column numbers. -/
theorem gatherPair_apply {α : Type} {N C : Nat}
    (wf : GatherDims.WF ⟨2, ![N, C]⟩ ⟨2, ![N, 2]⟩ ⟨1, ![N]⟩ [] [0, 1] [] [0, 1] [] 1 ![1, 1]) (hN : N < 2 ^ 31) (hC : C < 2 ^ 31)
    (x : (⟨2, ![N, C]⟩ : Shape).Idx → α) (idx : IVec ⟨2, ![N, 2]⟩ 32) (r : Fin N) (k : Fin C)
    (h0 : idx (ix2 r 0) = BitVec.ofNat 32 r.val) (h1 : idx (ix2 r 1) = BitVec.ofNat 32 k.val) :
    Host.gather (pairDims N C wf) x idx (ix1 r) = x (ix2 r k) := by
  unfold Host.gather
  congr 1
  funext a
  match a with
  | ⟨0, _⟩ =>
    refine Fin.ext (operandIdx_start _ _ idx 0 rfl (by simp) (by simp) (ix2 r 0) ?_ r.val r.isLt (by omega) h0)
    funext e
    match e with
    | ⟨0, _⟩ => rfl
    | ⟨1, _⟩ => rfl
  | ⟨1, _⟩ =>
    refine Fin.ext (operandIdx_start _ _ idx 1 rfl (by simp) (by simp) (ix2 r 1) ?_ k.val k.isLt (by omega) h1)
    funext e
    match e with
    | ⟨0, _⟩ => rfl
    | ⟨1, _⟩ => rfl

end Cert.ReferenceSide

end
-- ==== Proof.RefRows.lean ====
/- The reference's first two draws, row by row: the sampled transformation counts and the sampled operations. -/
module

public import proofs.«01_k».proof.Proof.RefArrays

@[expose] public section

noncomputable section

namespace Cert.ReferenceSide

open Cert.ReferenceIdeal Cert.ReferenceIdeal.Gen Cert.ReferenceIdeal.Value Cert.Threefry Cert.Spec Cert.Pick Idealize.ShloMosaic

variable (V0 : Valuation τ sig (Elt Ideal))

/-! ## The arguments -/

/-- The operation embeddings. -/
def opR (o : Fin 16) (d : Fin 128) : EReal := (V0 (Proc.devRef .tc main_arg1) : FVec Ideal S16x128 .f32) (ix2 o d)
/-- The embeddings of the transformation counts. -/
def nteR (t : Fin 4) (d : Fin 128) : EReal := (V0 (Proc.devRef .tc main_arg2) : FVec Ideal S4x128 .f32) (ix2 t d)
/-- The scale embeddings. -/
def seR (s : Fin 31) (d : Fin 128) : EReal := (V0 (Proc.devRef .tc main_arg3) : FVec Ideal S31x128 .f32) (ix2 s d)
/-- The query. -/
def qR (d : Fin 128) : EReal := (V0 (Proc.devRef .tc main_arg4) : FVec Ideal S128 .f32) (ix1 d)
/-- The list of transformation counts. -/
def pnR (t : Fin 4) : BitVec 32 := (V0 (Proc.devRef .tc main_arg5) : IVec S4 32) (ix1 t)

/-! ## The transformation counts -/

theorem v206_apply (b : Fin 16384) (t : Fin 4) : res_main_v206 V0 (ix2 b t) = ntl (nteR V0) (qR V0) t := by
  pointwise [res_main_v206]
  unfold ntl nteR qR
  exact Finset.sum_congr (M := EReal) rfl fun d _ => mul_comm (G := EReal) _ _

/-- The rows of a table, each shifted by its maximum. -/
theorem shift4_apply (x : FVec Ideal S16384x4 .f32) (b : Fin 16384) (t : Fin 4) :
    subf x (broadcastInDim S16384x4 ![0, 1] bcast_S16384x1_S16384x4_0_1 (broadcastInDim S16384x1 ![0] bcast_S16384_S16384x1_0
      (maximumf (broadcastInDim S16384 ![] bcast_S_S16384 (constant S_ .f32 0xFF800000#32))
        (Host.reduce FloatOps.maximumf x (constant S_ .f32 0xFF800000#32) reducesTo_S16384x4_S16384_d1 h_S_)))) (ix2 b t)
      = x (ix2 b t) - maxOf (fun t => x (ix2 b t)) := by
  pointwise [maxOf, ofBits_ninf]
  rw [max_eq_right bot_le]

theorem v223_apply (b : Fin 16384) (t : Fin 4) :
    res_main_v223 V0 (ix2 b t) = ntl (nteR V0) (qR V0) t - maxOf (ntl (nteR V0) (qR V0)) := by
  unfold res_main_v223
  rw [shift4_apply]
  simp only [v206_apply]

theorem v439_apply (b : Fin 16384) (t : Fin 4) :
    res_main_v439 V0 (ix2 b t) = scoreA (nteR V0) (qR V0) b.val t := by
  have e : res_main_v439 V0 = addf (gumH S16384x4 bcast_S_S16384x4 (wordsV S16384x4 bcast_S_S16384x4 (res_main_v408 V0)
    (res_main_v407 V0) (res_main_v246 V0) (res_main_v231 V0))) (res_main_v206 V0) := rfl
  rw [e, ValueIdx.addf_apply, gumH_apply, wordsA_apply, v206_apply]
  rfl

theorem v440_apply (b : Fin 16384) : res_main_v440 V0 (ix1 b) = BitVec.ofNat 32 (pickA (nteR V0) (qR V0) b.val).val := by
  have e : res_main_v440 V0 (ix1 b)
      = (Host.topK S16384x1 1 (FloatOps.cmpfTotal .gt) (res_main_v439 V0) sliceFits_S16384x4_S16384x1).2 (ix2 b 0) := by
    unfold res_main_v440
    generalize (Host.topK S16384x1 1 (FloatOps.cmpfTotal .gt) (res_main_v439 V0) sliceFits_S16384x4_S16384x1).2 = y
    pointwise []
  rw [e]
  refine (top_apply _ _ b).trans ?_
  simp only [v439_apply]
  rfl

/-- A place in range is not negative, so it is looked up as it is. -/
theorem keep_apply (k n : Nat) (hk : k < 2 ^ 31) :
    Scalar.select (IntOp.cmpi .slt (BitVec.ofNat 32 k) 0#32) (IntOp.addi (BitVec.ofNat 32 k) (BitVec.ofNat 32 n)) (BitVec.ofNat 32 k)
      = BitVec.ofNat 32 k := by
  have : IntOp.cmpi .slt (BitVec.ofNat 32 k) 0#32 = 0#1 := by
    simp only [IntOp.cmpi, BitVec.slt_eq_decide, BitVec.toInt_eq_toNat_cond, BitVec.toNat_ofNat,
      Nat.mod_eq_of_lt (show k < 2 ^ 32 by omega), if_pos (show 2 * k < 2 ^ 32 by omega)]
    rw [decide_eq_false (by simp)]
    rfl
  rw [this]
  rfl

theorem v1069_apply (b : Fin 16384) (l : Fin 3) :
    res_main_v1069 V0 (ix2 b l) = off (nteR V0) (qR V0) (pnR V0) b.val l.val := by
  have hidx : ∀ y : IVec S16384 32, (∀ b, y (ix1 b) = BitVec.ofNat 32 (pickA (nteR V0) (qR V0) b.val).val) →
      broadcastInDim S16384x1 ![0] bcast_S16384_S16384x1_0 (select (cmpi .slt y (broadcastInDim S16384 ![] bcast_S_S16384 (constantI S_ 32 0#32)))
        (addi y (broadcastInDim S16384 ![] bcast_S_S16384 (constantI S_ 32 4#32))) y) (ix2 b 0)
        = BitVec.ofNat 32 (pickA (nteR V0) (qR V0) b.val).val := by
    intro y hy
    pointwise [hy]
    exact keep_apply _ 4 (by omega)
  have hg := gather4_apply (V0 (Proc.devRef .tc main_arg5) : IVec S4 32) _ b _ (hidx _ (v440_apply V0))
  unfold res_main_v1069 off nt
  generalize Host.gather gather_S4_S16384x1_S16384_n_0_n_n_0_1_1 _ _ = z at hg ⊢
  pointwise [hg]
  rfl

/-! ## The operations -/

/-- A constant spread over an array is the constant array. -/
theorem spread_const {S T : Shape} (m : Fin S.rank → Fin T.rank) (h : S.BroadcastsInDim T m) (c : BitVec 32) :
    broadcastInDim T m h (constantI S 32 c) = constantI T 32 c := rfl

/-- The remainder of an array by sixteen. -/
theorem rem16 {S : Shape} (x : IVec S 32) : Host.remui x (constantI S 32 16#32) = fun j => x j % 16#32 := by
  funext j
  show IntOp.remui .host (x j) 16#32 = _
  unfold IntOp.remui
  rw [if_neg (by decide)]

theorem v457_eq : res_main_v457 V0 = constantI S1x1 32 0#32 := by
  funext j
  unfold res_main_v457
  rw [spread_apply]
  rfl

theorem v1047_eq : res_main_v1047 V0 = constantI S1x1 32 16#32 := by
  funext j
  have e : res_main_v458 V0 = constantI S1x1 32 16#32 := by
    funext j
    unfold res_main_v458
    rw [spread_apply]
    rfl
  unfold res_main_v1047 res_main_v1041
  rw [e, v457_eq]
  simp only [spread_const]
  show Scalar.select (IntOp.andi (IntOp.cmpi .sgt 16#32 (IntOp.minsi 2147483647#32 (IntOp.maxsi 2147483648#32 2147483647#32))) (IntOp.cmpi .sgt 16#32 0#32))
    (IntOp.addi (Scalar.select (IntOp.cmpi .sle 16#32 0#32) 1#32 (IntOp.subi 16#32 0#32)) 1#32)
    (Scalar.select (IntOp.cmpi .sle 16#32 0#32) 1#32 (IntOp.subi 16#32 0#32)) = 16#32
  decide

theorem v1049_eq : Host.remui (muli (res_main_v1049 V0) (res_main_v1049 V0)) (res_main_v1047 V0) = constantI S1x1 32 0#32 := by
  unfold res_main_v1049
  rw [v1047_eq, spread_const]
  show Host.remui (muli (Host.remui (constantI S1x1 32 65536#32) (constantI S1x1 32 16#32))
    (Host.remui (constantI S1x1 32 65536#32) (constantI S1x1 32 16#32))) (constantI S1x1 32 16#32) = constantI S1x1 32 0#32
  rw [rem16, rem16]
  funext j
  show 65536#32 % 16#32 * (65536#32 % 16#32) % 16#32 = 0#32
  decide

/-- Sixteen divides two to the thirty-second, so the high word drops out and the low four bits of the low word remain. -/
theorem mod16_apply (hi lo : IVec S16384x3 32) (b : Fin 16384) (l : Fin 3) :
    addi (broadcastInDim S16384x3 ![0, 1] bcast_S1x1_S16384x3_0_1 (constantI S1x1 32 0#32))
      (id (Host.remui (addi (muli (Host.remui hi (broadcastInDim S16384x3 ![0, 1] bcast_S1x1_S16384x3_0_1 (constantI S1x1 32 16#32)))
        (broadcastInDim S16384x3 ![0, 1] bcast_S1x1_S16384x3_0_1 (constantI S1x1 32 0#32)))
        (Host.remui lo (broadcastInDim S16384x3 ![0, 1] bcast_S1x1_S16384x3_0_1 (constantI S1x1 32 16#32))))
        (broadcastInDim S16384x3 ![0, 1] bcast_S1x1_S16384x3_0_1 (constantI S1x1 32 16#32)))) (ix2 b l)
      = IntOp.andi (lo (ix2 b l)) 15#32 := by
  rw [spread_const, spread_const, rem16, rem16, rem16]
  show 0#32 + (hi (ix2 b l) % 16#32 * 0#32 + lo (ix2 b l) % 16#32) % 16#32 = lo (ix2 b l) &&& 15#32
  rw [BitVec.mul_zero, BitVec.zero_add, BitVec.zero_add]
  apply BitVec.eq_of_toNat_eq
  rw [BitVec.toNat_umod, BitVec.toNat_umod, BitVec.toNat_and]
  show _ % 16 % 16 = _ &&& (2 ^ 4 - 1)
  rw [Nat.and_two_pow_sub_one_eq_mod, Nat.mod_mod]

theorem v1071_apply (b : Fin 16384) (l : Fin 3) :
    res_main_v1071 V0 (ix2 b l) = ind (nteR V0) (qR V0) (pnR V0) b.val l.val := by
  have e : res_main_v1071 V0 = select (res_main_v1069 V0) (broadcastInDim S16384x3 ![] bcast_S_S16384x3 (constantI S_ 32 0#32))
      (addi (broadcastInDim S16384x3 ![0, 1] bcast_S1x1_S16384x3_0_1 (res_main_v457 V0))
      (id (Host.remui (addi (muli (Host.remui (wordsV S16384x3 bcast_S_S16384x3 (res_main_v831 V0)
        (res_main_v830 V0) (res_main_v669 V0) (res_main_v654 V0)) (broadcastInDim S16384x3 ![0, 1] bcast_S1x1_S16384x3_0_1 (res_main_v1047 V0)))
        (broadcastInDim S16384x3 ![0, 1] bcast_S1x1_S16384x3_0_1
          (Host.remui (muli (res_main_v1049 V0) (res_main_v1049 V0)) (res_main_v1047 V0))))
        (Host.remui (wordsV S16384x3 bcast_S_S16384x3 (res_main_v1023 V0)
        (res_main_v1022 V0) (res_main_v861 V0) (res_main_v846 V0)) (broadcastInDim S16384x3 ![0, 1] bcast_S1x1_S16384x3_0_1 (res_main_v1047 V0))))
        (broadcastInDim S16384x3 ![0, 1] bcast_S1x1_S16384x3_0_1 (res_main_v1047 V0))))) := rfl
  have s : ∀ (c : IVec S16384x3 1) (x y : IVec S16384x3 32) (j : S16384x3.Idx), select c x y j = Scalar.select (c j) (x j) (y j) :=
    fun _ _ _ _ => rfl
  rw [e, v457_eq, v1049_eq, v1047_eq, s, mod16_apply, wordsB_apply, v1069_apply, spread_apply]
  rfl

end Cert.ReferenceSide

end
-- ==== Proof.RefShapes.lean ====
/- Readings of the reference's arrays of three axes: flattening, the product with the scale embeddings, the shift by a
   row's maximum, and the range check of a look-up. -/
module

public import proofs.«01_k».proof.Proof.RefRows

@[expose] public section

noncomputable section

namespace Cert.ReferenceSide

open Cert.ReferenceIdeal Cert.ReferenceIdeal.Gen Cert.ReferenceIdeal.Value Cert.Threefry Cert.Spec Cert.Pick Idealize.ShloMosaic

/-- The transformations of one row, all rows in one list. -/
def flat (b : Fin 16384) (l : Fin 3) : Fin 49152 := ⟨3 * b.val + l.val, by omega⟩

theorem flat_div (b : Fin 16384) (l : Fin 3) (h : (flat b l).val / 3 < 16384) : (⟨(flat b l).val / 3, h⟩ : Fin 16384) = b :=
  Fin.ext (by show (3 * b.val + l.val) / 3 = b.val; omega)

theorem flat_mod (b : Fin 16384) (l : Fin 3) (h : (flat b l).val % 3 < 3) : (⟨(flat b l).val % 3, h⟩ : Fin 3) = l :=
  Fin.ext (by show (3 * b.val + l.val) % 3 = l.val; omega)

theorem flatten_apply {α : Type} (x : S16384x3x31.Idx → α) (b : Fin 16384) (l : Fin 3) (s : Fin 31) :
    shapeCast S49152x31 x shapeCasts_S16384x3x31_S49152x31 (ix2 (flat b l) s) = x (ix3 b l s) := by
  pointwise []
  rw [flat_div, flat_mod]

theorem fold_apply {α : Type} (x : S49152.Idx → α) (b : Fin 16384) (l : Fin 3) :
    shapeCast S16384x3 x shapeCasts_S49152_S16384x3 (ix2 b l) = x (ix1 (flat b l)) := by
  pointwise []
  congr 2
  exact Fin.ext (by show b.val * 3 + l.val = 3 * b.val + l.val; omega)

theorem unfold_apply {α : Type} (x : S16384x3.Idx → α) (b : Fin 16384) (l : Fin 3) :
    shapeCast S49152 x shapeCasts_S16384x3_S49152 (ix1 (flat b l)) = x (ix2 b l) := by
  pointwise []
  rw [flat_div, flat_mod]

theorem dot3_apply (x : FVec Ideal S16384x3x128 .f32) (w : FVec Ideal S31x128 .f32) (b : Fin 16384) (l : Fin 3) (s : Fin 31) :
    Host.dotGeneral dot_S16384x3x128_S128x31_S16384x3x31_2_0_01_1_n_n none x (transpose S128x31 [1, 0] w transposes_S31x128_S128x31_1_0)
      (ix3 b l s) = ∑ d : Fin 128, x (ix3 b l d) * w (ix2 s d) := by
  pointwise []

/-- The rows of the last axis, each shifted by its maximum. -/
theorem shift31_apply (x : FVec Ideal S16384x3x31 .f32) (b : Fin 16384) (l : Fin 3) (s : Fin 31) :
    subf x (broadcastInDim S16384x3x31 ![0, 1, 2] bcast_S16384x3x1_S16384x3x31_0_1_2 (broadcastInDim S16384x3x1 ![0, 1] bcast_S16384x3_S16384x3x1_0_1
      (maximumf (broadcastInDim S16384x3 ![] bcast_S_S16384x3 (constant S_ .f32 0xFF800000#32))
        (Host.reduce FloatOps.maximumf x (constant S_ .f32 0xFF800000#32) reducesTo_S16384x3x31_S16384x3_d2 h_S_)))) (ix3 b l s)
      = x (ix3 b l s) - maxOf (fun s => x (ix3 b l s)) := by
  pointwise [maxOf, ofBits_ninf]
  rw [max_eq_right bot_le]

/-- A row number in range passes the range check of the look-up. -/
theorem mask_apply (y : IVec S16384x3x1 32) (b : Fin 16384) (l : Fin 3) (k : Fin 16) (hy : y (ix3 b l 0) = BitVec.ofNat 32 k.val) :
    Host.reduce IntOp.andi (andi (cmpi .sge y (broadcastInDim S16384x3x1 ![] bcast_S_S16384x3x1 (constantI S_ 32 0#32)))
      (cmpi .sle y (broadcastInDim S16384x3x1 ![0, 1, 2] bcast_S1x1x1_S16384x3x1_0_1_2 (broadcastInDim S1x1x1 ![2] bcast_S1_S1x1x1_2
        (constantI S1 32 15#32))))) (constantI S_ 1 1#1) reducesTo_S16384x3x1_S16384x3_d2 h_S_ (ix2 b l) = 1#1 := by
  pointwise []
  rw [Finset.univ_unique, Finset.fold_singleton]
  show IntOp.andi (IntOp.andi (IntOp.cmpi .sge (y (ix3 b l 0)) 0#32) (IntOp.cmpi .sle (y (ix3 b l 0)) 15#32)) 1#1 = 1#1
  rw [hy]
  exact (by decide : ∀ k : Fin 16, IntOp.andi (IntOp.andi (IntOp.cmpi .sge (BitVec.ofNat 32 k.val) 0#32)
    (IntOp.cmpi .sle (BitVec.ofNat 32 k.val) 15#32)) 1#1 = 1#1) k

end Cert.ReferenceSide

end
-- ==== Proof.RefScales.lean ====
/- The reference's third draw, row by row: the scale logits of the sampled operations and the sampled scales. -/
module

public import proofs.«01_k».proof.Proof.RefRows
public import proofs.«01_k».proof.Proof.RefShapes

@[expose] public section

noncomputable section

namespace Cert.ReferenceSide

open Cert.ReferenceIdeal Cert.ReferenceIdeal.Gen Cert.ReferenceIdeal.Value Cert.Threefry Cert.Spec Cert.Pick Idealize.ShloMosaic

variable (V0 : Valuation τ sig (Elt Ideal))

/-! ## The logits of the scales -/

/-- The operation's number as a word is the sampled word. -/
theorem indF_word (b l : Nat) :
    BitVec.ofNat 32 (indF (nteR V0) (qR V0) (pnR V0) b l).val = ind (nteR V0) (qR V0) (pnR V0) b l := by
  unfold indF
  exact BitVec.ofNat_toNat .. |>.trans (BitVec.setWidth_eq _)

theorem v1077_apply (b : Fin 16384) (l : Fin 3) :
    res_main_v1077 V0 (ix3 b l 0) = BitVec.ofNat 32 (indF (nteR V0) (qR V0) (pnR V0) b.val l.val).val := by
  have h := v1071_apply V0 b l
  rw [← indF_word] at h
  unfold res_main_v1077
  generalize res_main_v1071 V0 = y at h ⊢
  pointwise [h]
  exact keep_apply _ 16 (by omega)

/-- The rows of a table at the sampled operations. -/
theorem taken_apply (x : FVec Ideal S16x128 .f32) (y : IVec S16384x3x1 32) (b : Fin 16384) (l : Fin 3) (d : Fin 128) (k : Fin 16)
    (hy : y (ix3 b l 0) = BitVec.ofNat 32 k.val) :
    select (broadcastInDim S16384x3x128 ![0, 1] bcast_S16384x3_S16384x3x128_0_1 (Host.reduce IntOp.andi
      (andi (cmpi .sge y (broadcastInDim S16384x3x1 ![] bcast_S_S16384x3x1 (constantI S_ 32 0#32)))
      (cmpi .sle y (broadcastInDim S16384x3x1 ![0, 1, 2] bcast_S1x1x1_S16384x3x1_0_1_2 (broadcastInDim S1x1x1 ![2] bcast_S1_S1x1x1_2
        (constantI S1 32 15#32))))) (constantI S_ 1 1#1) reducesTo_S16384x3x1_S16384x3_d2 h_S_))
      (Host.gather gather_S16x128_S16384x3x1_S16384x3x128_2_0_n_n_0_2_1128 x y)
      (broadcastInDim S16384x3x128 ![] bcast_S_S16384x3x128 (constant S_ .f32 0x7FC00000#32)) (ix3 b l d) = x (ix2 k d) := by
  have spread : ∀ z : IVec S16384x3 1, broadcastInDim S16384x3x128 ![0, 1] bcast_S16384x3_S16384x3x128_0_1 z (ix3 b l d) = z (ix2 b l) := by
    intro z
    pointwise []
  have choose : ∀ (c : IVec S16384x3x128 1) (u v : FVec Ideal S16384x3x128 .f32) (j : S16384x3x128.Idx), c j = 1#1 →
      select c u v j = u j := by
    intro c u v j h
    show Scalar.select (c j) (u j) (v j) = u j
    rw [h]
    rfl
  rw [choose _ _ _ _ ((spread _).trans (mask_apply y b l k hy)), gatherRow_apply x y b l d k hy]

theorem v1090_apply (b : Fin 16384) (l : Fin 3) (s : Fin 31) :
    res_main_v1090 V0 (ix3 b l s) = lg (opR V0) (seR V0) (indF (nteR V0) (qR V0) (pnR V0) b.val l.val) s := by
  unfold res_main_v1090
  refine (dot3_apply _ _ b l s).trans ?_
  unfold lg
  refine Finset.sum_congr rfl fun d _ => ?_
  rw [taken_apply _ _ b l d _ (v1077_apply V0 b l), mul_comm]
  rfl

theorem v1096_apply (b : Fin 16384) (l : Fin 3) (s : Fin 31) :
    res_main_v1096 V0 (ix3 b l s) = lg (opR V0) (seR V0) (indF (nteR V0) (qR V0) (pnR V0) b.val l.val) s
      - maxOf (lg (opR V0) (seR V0) (indF (nteR V0) (qR V0) (pnR V0) b.val l.val)) := by
  unfold res_main_v1096
  rw [shift31_apply]
  simp only [v1090_apply]

/-! ## The sampled scales -/

theorem v1313_apply (b : Fin 16384) (l : Fin 3) (s : Fin 31) :
    res_main_v1313 V0 (ix2 (flat b l) s) = scoreC (opR V0) (nteR V0) (seR V0) (qR V0) (pnR V0) b.val l.val s := by
  have e : res_main_v1313 V0 = addf (gumH S49152x31 bcast_S_S49152x31 (wordsV S49152x31 bcast_S_S49152x31 (res_main_v1282 V0)
    (res_main_v1281 V0) (res_main_v1120 V0) (res_main_v1105 V0)))
      (shapeCast S49152x31 (res_main_v1090 V0) shapeCasts_S16384x3x31_S49152x31) := rfl
  rw [e, ValueIdx.addf_apply, gumH_apply, wordsC_apply, flatten_apply, v1090_apply]
  unfold scoreC
  rw [show 31 * (flat b l).val + s.val = 93 * b.val + 31 * l.val + s.val by
    show 31 * (3 * b.val + l.val) + s.val = _
    omega]
  exact add_comm (G := EReal) _ _

/-- The flat list of sampled scales. -/
theorem scales_apply (b : Fin 16384) (l : Fin 3) :
    shapeCast S49152 ((Host.topK S49152x1 1 (FloatOps.cmpfTotal .gt) (res_main_v1313 V0) sliceFits_S49152x31_S49152x1).2)
      shapeCasts_S49152x1_S49152 (ix1 (flat b l))
      = BitVec.ofNat 32 (pickC (opR V0) (nteR V0) (seR V0) (qR V0) (pnR V0) b.val l.val).val := by
  have e : ∀ y : IVec S49152x1 32, shapeCast S49152 y shapeCasts_S49152x1_S49152 (ix1 (flat b l)) = y (ix2 (flat b l) 0) := by
    intro y
    pointwise []
  rw [e]
  refine (top_apply _ _ (flat b l)).trans ?_
  simp only [v1313_apply]
  rfl

theorem scale_apply (b : Fin 16384) (l : Fin 3) :
    shapeCast S16384x3 (shapeCast S49152 ((Host.topK S49152x1 1 (FloatOps.cmpfTotal .gt) (res_main_v1313 V0) sliceFits_S49152x31_S49152x1).2)
      shapeCasts_S49152x1_S49152) shapeCasts_S49152_S16384x3 (ix2 b l)
      = BitVec.ofNat 32 (pickC (opR V0) (nteR V0) (seR V0) (qR V0) (pnR V0) b.val l.val).val := by
  rw [fold_apply, scales_apply]

theorem v1318_apply (b : Fin 16384) (l : Fin 3) :
    res_main_v1318 V0 (ix1 (flat b l)) = BitVec.ofNat 32 (pickC (opR V0) (nteR V0) (seR V0) (qR V0) (pnR V0) b.val l.val).val := by
  unfold res_main_v1318
  exact (unfold_apply _ b l).trans (scale_apply V0 b l)

end Cert.ReferenceSide

end
-- ==== Proof.RefTerms.lean ====
/- Readings of the arrays in the reference's log-probability: a shifted log-softmax and the pairs of places it is looked
   up at; and the law of extended reals that joins the two ways of subtracting a maximum and a logarithm. -/
module

public import proofs.«01_k».proof.Proof.RefShapes

@[expose] public section

noncomputable section

namespace Cert.ReferenceSide

open Cert.ReferenceIdeal Cert.ReferenceIdeal.Gen Cert.ReferenceIdeal.Value Cert.Threefry Cert.Spec Cert.Pick Idealize.ShloMosaic

theorem softmax4_apply (x : FVec Ideal S16384x4 .f32) (b : Fin 16384) (t : Fin 4) :
    subf x (broadcastInDim S16384x4 ![0, 1] bcast_S16384x1_S16384x4_0_1 (Host.log (broadcastInDim S16384x1 ![0] bcast_S16384_S16384x1_0
      (Host.reduceAdd (Host.exp x) (constant S_ .f32 0x00000000#32) reducesTo_S16384x4_S16384_d1 h_S_)))) (ix2 b t)
      = x (ix2 b t) - Ideal.log (∑ t' : Fin 4, Ideal.exp (x (ix2 b t'))) := by
  pointwise []

theorem softmax31_apply (x : FVec Ideal S16384x3x31 .f32) (b : Fin 16384) (l : Fin 3) (s : Fin 31) :
    subf x (broadcastInDim S16384x3x31 ![0, 1, 2] bcast_S16384x3x1_S16384x3x31_0_1_2 (Host.log
      (broadcastInDim S16384x3x1 ![0, 1] bcast_S16384x3_S16384x3x1_0_1
      (Host.reduceAdd (Host.exp x) (constant S_ .f32 0x00000000#32) reducesTo_S16384x3x31_S16384x3_d2 h_S_)))) (ix3 b l s)
      = x (ix3 b l s) - Ideal.log (∑ s' : Fin 31, Ideal.exp (x (ix3 b l s'))) := by
  pointwise []

theorem pair4_first (y z : IVec S16384x1 32) (b : Fin 16384) :
    concatenate S16384x2 1 [⟨S16384x1, y⟩, ⟨S16384x1, z⟩] concatenates_S16384x1_S16384x1_S16384x2_d1 (ix2 b 0) = y (ix2 b 0) := by
  pointwise []

theorem pair4_second (y z : IVec S16384x1 32) (b : Fin 16384) :
    concatenate S16384x2 1 [⟨S16384x1, y⟩, ⟨S16384x1, z⟩] concatenates_S16384x1_S16384x1_S16384x2_d1 (ix2 b 1) = z (ix2 b 0) := by
  pointwise []

theorem pair31_first (y z : IVec S49152x1 32) (r : Fin 49152) :
    concatenate S49152x2 1 [⟨S49152x1, y⟩, ⟨S49152x1, z⟩] concatenates_S49152x1_S49152x1_S49152x2_d1 (ix2 r 0) = y (ix2 r 0) := by
  pointwise []

theorem pair31_second (y z : IVec S49152x1 32) (r : Fin 49152) :
    concatenate S49152x2 1 [⟨S49152x1, y⟩, ⟨S49152x1, z⟩] concatenates_S49152x1_S49152x1_S49152x2_d1 (ix2 r 1) = z (ix2 r 0) := by
  pointwise []

/-- The sum of one row's three terms. -/
theorem sum3_apply (x : FVec Ideal S16384x3 .f32) (b : Fin 16384) :
    Host.reduceAdd x (constant S_ .f32 0x00000000#32) reducesTo_S16384x3_S16384_d1 h_S_ (ix1 b) = x (ix2 b 0) + x (ix2 b 1) + x (ix2 b 2) := by
  pointwise []
  rw [Fin.sum_univ_three]

/-- A column read at a row. -/
theorem column4_apply {α : Type} (x : S16384.Idx → α) (b : Fin 16384) :
    broadcastInDim S16384x1 ![0] bcast_S16384_S16384x1_0 x (ix2 b 0) = x (ix1 b) := by
  pointwise []

theorem column31_apply {α : Type} (x : S49152.Idx → α) (r : Fin 49152) :
    broadcastInDim S49152x1 ![0] bcast_S49152_S49152x1_0 x (ix2 r 0) = x (ix1 r) := by
  pointwise []

/-! ## Extended reals -/

/-- Subtracting a real and then any value is subtracting their sum. -/
theorem sub_sub_real (a L : EReal) (M : ℝ) : a - (M : EReal) - L = a - ((M : EReal) + L) := by
  rw [sub_eq_add_neg a, sub_eq_add_neg, sub_eq_add_neg a,
    EReal.neg_add (Or.inl (EReal.coe_ne_bot M)) (Or.inl (EReal.coe_ne_top M)), sub_eq_add_neg, add_assoc]

/-- A finite sum of reals, taken over the extended reals. -/
theorem coe_sum {n : Nat} (f : Fin n → ℝ) : ((∑ i, f i : ℝ) : EReal) = ∑ i, (f i : EReal) := by
  have : ∀ s : Finset (Fin n), ((∑ i ∈ s, f i : ℝ) : EReal) = ∑ i ∈ s, (f i : EReal) := by
    intro s
    induction s using Finset.induction_on with
    | empty => rfl
    | insert a s ha ih => rw [Finset.sum_insert ha, Finset.sum_insert ha, EReal.coe_add, ih]
  exact this _

/-- A logit of real embeddings is real. -/
theorem lg_real (op : Fin 16 → Fin 128 → EReal) (se : Fin 31 → Fin 128 → EReal) (hop : ∀ o d, ∃ r : ℝ, op o d = r)
    (hse : ∀ s d, ∃ r : ℝ, se s d = r) (o : Fin 16) (s : Fin 31) : ∃ r : ℝ, lg op se o s = r := by
  choose f hf using hop
  choose g hg using hse
  refine ⟨∑ d, g s d * f o d, ?_⟩
  unfold lg
  rw [coe_sum]
  exact Finset.sum_congr rfl fun d _ => by rw [hf, hg, EReal.coe_mul]

/-- The greatest of finitely many reals is real. -/
theorem maxOf_real {n : Nat} [NeZero n] (f : Fin n → EReal) (hf : ∀ k, ∃ r : ℝ, f k = r) : ∃ r : ℝ, maxOf f = r := by
  unfold maxOf
  rw [fold_max_eq]
  exact hf _

end Cert.ReferenceSide

end
-- ==== Proof.RefValue.lean ====
/- The reference's log-probability, row by row. -/
module

public import proofs.«01_k».proof.Proof.RefScales
public import proofs.«01_k».proof.Proof.RefTerms

@[expose] public section

noncomputable section

namespace Cert.ReferenceSide

open Cert.ReferenceIdeal Cert.ReferenceIdeal.Gen Cert.ReferenceIdeal.Value Cert.Threefry Cert.Spec Cert.Pick Idealize.ShloMosaic

variable (V0 : Valuation τ sig (Elt Ideal))

/-- The wrapped column of a list of in-range places is the list. -/
theorem wrap4_apply (y : IVec S16384 32) (n : Nat) (b : Fin 16384) (k : Nat) (hk : k < 2 ^ 31) (hy : y (ix1 b) = BitVec.ofNat 32 k) :
    broadcastInDim S16384x1 ![0] bcast_S16384_S16384x1_0 (select (cmpi .slt y (broadcastInDim S16384 ![] bcast_S_S16384 (constantI S_ 32 0#32)))
      (addi y (broadcastInDim S16384 ![] bcast_S_S16384 (constantI S_ 32 (BitVec.ofNat 32 n)))) y) (ix2 b 0) = BitVec.ofNat 32 k := by
  rw [column4_apply]
  show Scalar.select (IntOp.cmpi .slt (y (ix1 b)) 0#32) (IntOp.addi (y (ix1 b)) (BitVec.ofNat 32 n)) (y (ix1 b)) = _
  rw [hy]
  exact keep_apply k n hk

theorem wrap31_apply (y : IVec S49152 32) (n : Nat) (r : Fin 49152) (k : Nat) (hk : k < 2 ^ 31) (hy : y (ix1 r) = BitVec.ofNat 32 k) :
    broadcastInDim S49152x1 ![0] bcast_S49152_S49152x1_0 (select (cmpi .slt y (broadcastInDim S49152 ![] bcast_S_S49152 (constantI S_ 32 0#32)))
      (addi y (broadcastInDim S49152 ![] bcast_S_S49152 (constantI S_ 32 (BitVec.ofNat 32 n)))) y) (ix2 r 0) = BitVec.ofNat 32 k := by
  rw [column31_apply]
  show Scalar.select (IntOp.cmpi .slt (y (ix1 r)) 0#32) (IntOp.addi (y (ix1 r)) (BitVec.ofNat 32 n)) (y (ix1 r)) = _
  rw [hy]
  exact keep_apply k n hk

/-- The log-probabilities of the sampled transformation counts. -/
def lpCount : FVec Ideal S16384 .f32 :=
  Host.gather gather_S16384x4_S16384x2_S16384_n_01_n_n_01_1_11 (subf (res_main_v223 V0) (broadcastInDim S16384x4 ![0, 1] bcast_S16384x1_S16384x4_0_1 (Host.log (broadcastInDim S16384x1 ![0] bcast_S16384_S16384x1_0 (Host.reduceAdd (Host.exp (res_main_v223 V0)) (constant S_ .f32 0x00000000#32) reducesTo_S16384x4_S16384_d1 h_S_))))) (concatenate S16384x2 1 [⟨S16384x1, (broadcastInDim S16384x1 ![0] bcast_S16384_S16384x1_0 (select (cmpi .slt (res_main_v1336 V0) (broadcastInDim S16384 ![] bcast_S_S16384 (constantI S_ 32 0#32))) (addi (res_main_v1336 V0) (broadcastInDim S16384 ![] bcast_S_S16384 (constantI S_ 32 16384#32))) (res_main_v1336 V0)))⟩, ⟨S16384x1, (broadcastInDim S16384x1 ![0] bcast_S16384_S16384x1_0 (select (cmpi .slt (res_main_v440 V0) (broadcastInDim S16384 ![] bcast_S_S16384 (constantI S_ 32 0#32))) (addi (res_main_v440 V0) (broadcastInDim S16384 ![] bcast_S_S16384 (constantI S_ 32 4#32))) (res_main_v440 V0)))⟩] concatenates_S16384x1_S16384x1_S16384x2_d1)

theorem lpCount_apply (b : Fin 16384) :
    lpCount V0 (ix1 b) = lpn (nteR V0) (qR V0) (pickA (nteR V0) (qR V0) b.val) := by
  unfold lpCount
  refine (gatherPair_apply gather_S16384x4_S16384x2_S16384_n_01_n_n_01_1_11.wf (by norm_num) (by norm_num) _ _ b
    (pickA (nteR V0) (qR V0) b.val) ?_ ?_).trans ?_
  · exact (pair4_first _ _ b).trans (wrap4_apply _ 16384 b b.val (by omega) rfl)
  · exact (pair4_second _ _ b).trans (wrap4_apply _ 4 b _ (by omega) (v440_apply V0 b))
  · refine (softmax4_apply _ b _).trans ?_
    simp only [v223_apply]
    rfl

/-- The log-probabilities of all the sampled scales. -/
def lpScale : FVec Ideal S49152 .f32 :=
  Host.gather gather_S49152x31_S49152x2_S49152_n_01_n_n_01_1_11 (shapeCast S49152x31 (subf (res_main_v1096 V0) (broadcastInDim S16384x3x31 ![0, 1, 2] bcast_S16384x3x1_S16384x3x31_0_1_2 (Host.log (broadcastInDim S16384x3x1 ![0, 1] bcast_S16384x3_S16384x3x1_0_1 (Host.reduceAdd (Host.exp (res_main_v1096 V0)) (constant S_ .f32 0x00000000#32) reducesTo_S16384x3x31_S16384x3_d2 h_S_))))) shapeCasts_S16384x3x31_S49152x31) (concatenate S49152x2 1 [⟨S49152x1, (broadcastInDim S49152x1 ![0] bcast_S49152_S49152x1_0 (select (cmpi .slt (res_main_v1317 V0) (broadcastInDim S49152 ![] bcast_S_S49152 (constantI S_ 32 0#32))) (addi (res_main_v1317 V0) (broadcastInDim S49152 ![] bcast_S_S49152 (constantI S_ 32 49152#32))) (res_main_v1317 V0)))⟩, ⟨S49152x1, (broadcastInDim S49152x1 ![0] bcast_S49152_S49152x1_0 (select (cmpi .slt (res_main_v1318 V0) (broadcastInDim S49152 ![] bcast_S_S49152 (constantI S_ 32 0#32))) (addi (res_main_v1318 V0) (broadcastInDim S49152 ![] bcast_S_S49152 (constantI S_ 32 31#32))) (res_main_v1318 V0)))⟩] concatenates_S49152x1_S49152x1_S49152x2_d1)

theorem lpScale_apply (hop : ∀ o d, ∃ r : ℝ, opR V0 o d = r) (hse : ∀ s d, ∃ r : ℝ, seR V0 s d = r) (b : Fin 16384) (l : Fin 3) :
    lpScale V0 (ix1 (flat b l)) = lg (opR V0) (seR V0) (indF (nteR V0) (qR V0) (pnR V0) b.val l.val)
        (pickC (opR V0) (nteR V0) (seR V0) (qR V0) (pnR V0) b.val l.val)
      - lseOf (lg (opR V0) (seR V0) (indF (nteR V0) (qR V0) (pnR V0) b.val l.val)) := by
  unfold lpScale
  refine (gatherPair_apply gather_S49152x31_S49152x2_S49152_n_01_n_n_01_1_11.wf (by norm_num) (by norm_num) _ _ (flat b l)
    (pickC (opR V0) (nteR V0) (seR V0) (qR V0) (pnR V0) b.val l.val) ?_ ?_).trans ?_
  · exact (pair31_first _ _ _).trans (wrap31_apply _ 49152 _ (flat b l).val (by omega) rfl)
  · exact (pair31_second _ _ _).trans (wrap31_apply _ 31 _ _ (by omega) (v1318_apply V0 b l))
  · refine (flatten_apply _ b l _).trans ((softmax31_apply _ b l _).trans ?_)
    simp only [v1096_apply]
    unfold lseOf
    obtain ⟨M, hM⟩ := maxOf_real _ (lg_real _ _ hop hse (indF (nteR V0) (qR V0) (pnR V0) b.val l.val))
    rw [hM, sub_sub_real]

/-- The log-probabilities of the samples. -/
def lpAll : FVec Ideal S16384x1 .f32 :=
  broadcastInDim S16384x1 ![0] bcast_S16384_S16384x1_0 (addf (lpCount V0) (Host.reduceAdd (select (res_main_v1069 V0)
    (broadcastInDim S16384x3 ![] bcast_S_S16384x3 (constant S_ .f32 0x00000000#32)) (shapeCast S16384x3 (lpScale V0) shapeCasts_S49152_S16384x3))
    (constant S_ .f32 0x00000000#32) reducesTo_S16384x3_S16384_d1 h_S_))

/-- A scale's term: zero where there is no transformation. -/
theorem term_apply (hop : ∀ o d, ∃ r : ℝ, opR V0 o d = r) (hse : ∀ s d, ∃ r : ℝ, seR V0 s d = r) (b : Fin 16384) (l : Fin 3) :
    select (res_main_v1069 V0) (broadcastInDim S16384x3 ![] bcast_S_S16384x3 (constant S_ .f32 0x00000000#32))
      (shapeCast S16384x3 (lpScale V0) shapeCasts_S49152_S16384x3) (ix2 b l)
      = term (opR V0) (nteR V0) (seR V0) (qR V0) (pnR V0) b.val l.val := by
  have s : ∀ (c : IVec S16384x3 1) (x y : FVec Ideal S16384x3 .f32) (j : S16384x3.Idx), select c x y j = Scalar.select (c j) (x j) (y j) :=
    fun _ _ _ _ => rfl
  rw [s, fold_apply, lpScale_apply V0 hop hse, v1069_apply, spread_apply]
  unfold term
  congr 1
  exact Ideal.ofBits_zero_f32

theorem lpAll_apply (hop : ∀ o d, ∃ r : ℝ, opR V0 o d = r) (hse : ∀ s d, ∃ r : ℝ, seR V0 s d = r) (b : Fin 16384) :
    lpAll V0 (ix2 b 0) = lp (opR V0) (nteR V0) (seR V0) (qR V0) (pnR V0) b.val := by
  unfold lpAll
  rw [column4_apply, ValueIdx.addf_apply, lpCount_apply, sum3_apply, term_apply V0 hop hse, term_apply V0 hop hse, term_apply V0 hop hse]
  unfold lp
  rw [← add_assoc, ← add_assoc]
  rfl

end Cert.ReferenceSide

end
-- ==== Proof.RefWhole.lean ====
/- The reference's three whole result arrays, entry by entry. -/
module

public import proofs.«01_k».proof.Proof.RefValue
public import Idealize.ShloMosaic.Lib.Claim

@[expose] public section

noncomputable section

namespace Cert.ReferenceSide

open Cert.ReferenceIdeal Cert.ReferenceIdeal.Gen Cert.ReferenceIdeal.Value Cert.Spec Idealize.ShloMosaic Idealize.SL.Sem
open Idealize.ShloMosaic.StableHlo (launchContents)

variable (V0 : Valuation τ sig (Elt Ideal))

/-- The sampled operations. -/
def indR : IVec S16384x3 32 := fun j => ind (nteR V0) (qR V0) (pnR V0) (j 0).val (j 1).val

/-- The sampled scales. -/
def scaleR : IVec S16384x3 32 := fun j =>
  BitVec.ofNat 32 (pickC (opR V0) (nteR V0) (seR V0) (qR V0) (pnR V0) (j 0).val (j 1).val).val

/-- The log-probabilities. -/
def lpR : FVec Ideal S16384x1 .f32 := fun j => lp (opR V0) (nteR V0) (seR V0) (qR V0) (pnR V0) (j 0).val

theorem indR_eq : res_main_v1071 V0 = indR V0 := by
  funext j
  exact (congrArg (res_main_v1071 V0) (ix2_eta j).symm).trans (v1071_apply V0 (j 0) (j 1))

theorem scaleR_eq : shapeCast S16384x3 (shapeCast S49152 ((Host.topK S49152x1 1 (FloatOps.cmpfTotal .gt) (res_main_v1313 V0)
    sliceFits_S49152x31_S49152x1).2) shapeCasts_S49152x1_S49152) shapeCasts_S49152_S16384x3 = scaleR V0 := by
  funext j
  exact (congrArg _ (ix2_eta j).symm).trans (scale_apply V0 (j 0) (j 1))

theorem lpR_eq (hop : ∀ o d, ∃ r : ℝ, opR V0 o d = r) (hse : ∀ s d, ∃ r : ℝ, seR V0 s d = r) : lpAll V0 = lpR V0 := by
  funext j
  have hj : j = ix2 (j 0) 0 := by
    funext a
    match a with
    | ⟨0, _⟩ => rfl
    | ⟨1, _⟩ => exact Subsingleton.elim (α := Fin 1) _ _
  exact (congrArg (lpAll V0) hj).trans (lpAll_apply V0 hop hse (j 0))

/-- The reference's run: the three results, the arguments unchanged. -/
theorem run (m : (ℓ : Loc nD τ sig) → Buf (Elt Ideal) ℓ) (ρ : Dev nD → PrngReg)
    (hop : ∀ c o d, ∃ r : ℝ, opR (launchContents m c) o d = r) (hse : ∀ c s d, ∃ r : ℝ, seR (launchContents m c) s d = r) :
    θ_run defs (onTc (τ := τ) (main (F := Ideal))) ⟨m, fun _ => 0, ρ⟩ fun r => ∀ c : Dev nD,
      r.2.mem ((c.tc : Thread nD τ).loc main_v1071) = indR (launchContents m c)
      ∧ r.2.mem ((c.tc : Thread nD τ).loc main_v1315) = scaleR (launchContents m c)
      ∧ r.2.mem ((c.tc : Thread nD τ).loc main_v1353) = lpR (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => by
      obtain ⟨h0, h1, h2, h⟩ := h c
      exact ⟨h0.trans (indR_eq _), h1.trans (scaleR_eq _), h2.trans (lpR_eq _ (hop c) (hse c)), h⟩)
    (Value.run m ρ)

end Cert.ReferenceSide

end
-- ==== Proof.lean ====
/- The claim: the kernel and the reference both run and leave their arguments alone, and from equal arguments with
   finite embeddings their three results are equal over the extended reals. -/
module

public import proofs.«01_k».proof.Defs
public import proofs.«01_k».proof.Proof.Gen.Kernel.Frame
public import proofs.«01_k».proof.Proof.Gen.KernelIdeal.Frame
public import proofs.«01_k».proof.Proof.Precondition
public import proofs.«01_k».proof.Proof.KernelWhole
public import proofs.«01_k».proof.Proof.RefWhole
public import Idealize.ShloMosaic.Adequacy
public import Idealize.ShloMosaic.Init

@[expose] public section

noncomputable section

namespace Cert.Proof

open Idealize.ShloMosaic Idealize.SL.Sem
open Idealize.ShloMosaic.StableHlo (launchContents)

/-- The reference runs, leaves its arguments alone and ends with every counter at zero. -/
theorem frame_reference : Cert.quiescent_ReferenceIdeal (hReferenceIdeal := Cert.ReferenceIdeal.Gen.facts) := fun m g _ =>
  (θ_run (Cert.ReferenceIdeal.defs (F := Ideal)) _ _).mono
    (fun r h => ⟨fun c => (h c).2.2.2, sem_eq_zero_of_no_sems (by decide) r.2⟩)
    (Cert.ReferenceIdeal.Value.run (F := Ideal) m g)

section Agree

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two programs' argument arrays are equal. -/
structure Agree : Prop where
  op : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  nte : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  se : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  q : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  pn : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)

variable {m m' c} (h : Agree m m' c)
include h

theorem Agree.op_eq : ReferenceSide.opR (launchContents m' c) = KernelSide.opM m c :=
  funext fun o => funext fun d => congrFun h.op (ix2 o d)

theorem Agree.nte_eq : ReferenceSide.nteR (launchContents m' c) = KernelSide.nteM m c :=
  funext fun t => funext fun d => congrFun h.nte (ix2 t d)

theorem Agree.se_eq : ReferenceSide.seR (launchContents m' c) = KernelSide.seM m c :=
  funext fun s => funext fun d => congrFun h.se (ix2 s d)

theorem Agree.q_eq : ReferenceSide.qR (launchContents m' c) = KernelSide.qM m c :=
  funext fun d => congrFun h.q (ix1 d)

theorem Agree.pn_eq : ReferenceSide.pnR (launchContents m' c) = KernelSide.pnM m c :=
  funext fun t => congrFun h.pn (ix1 t)

theorem Agree.ind_eq : ReferenceSide.indR (launchContents m' c) = KernelSide.indM m c := by
  unfold ReferenceSide.indR KernelSide.indM
  rw [h.nte_eq, h.q_eq, h.pn_eq]

theorem Agree.scale_eq : ReferenceSide.scaleR (launchContents m' c) = KernelSide.scaleM m c := by
  unfold ReferenceSide.scaleR KernelSide.scaleM
  rw [h.op_eq, h.nte_eq, h.se_eq, h.q_eq, h.pn_eq]

theorem Agree.lp_eq : ReferenceSide.lpR (launchContents m' c) = KernelSide.lpM m c := by
  unfold ReferenceSide.lpR KernelSide.lpM
  rw [h.op_eq, h.nte_eq, h.se_eq, h.q_eq, h.pn_eq]

end Agree

/-- The kernel and the reference compute the same three results. -/
theorem algebraic : Cert.algebraic_KernelIdeal_ReferenceIdeal_pre_finite (hKernelIdeal := Cert.KernelIdeal.Gen.facts)
    (hReferenceIdeal := Cert.ReferenceIdeal.Gen.facts) (hPre_finite := Cert.Precondition.facts) := by
  intro m g m' g' hpre hargs
  have agree : ∀ c, Agree m m' c := fun c =>
    let ⟨_, h1, h2, h3, h4, h5⟩ := hargs c
    ⟨h1, h2, h3, h4, h5⟩
  refine ⟨fun c => KernelSide.indM m c, fun c => KernelSide.scaleM m c, fun c => KernelSide.lpM m c, KernelSide.run m g, ?_⟩
  refine (θ_run (Cert.ReferenceIdeal.defs (F := Ideal)) _ _).mono (fun r h c => ?_) (ReferenceSide.run m' g' ?_ ?_)
  · obtain ⟨h0, h1, h2, h⟩ := h c
    exact ⟨h0.trans (agree c).ind_eq, h1.trans (agree c).scale_eq, h2.trans (agree c).lp_eq, h⟩
  · intro c o d
    rw [(agree c).op_eq]
    exact @Cert.Precondition.op_real Cert.Precondition.facts _ _ _ _ _ _ (hpre c).1 (ix2 o d)
  · intro c s d
    rw [(agree c).se_eq]
    exact @Cert.Precondition.se_real Cert.Precondition.facts _ _ _ _ _ _ (hpre c).2 (ix2 s d)

theorem claim : Cert.Claim :=
  ⟨Cert.Kernel.Gen.facts, Cert.KernelIdeal.Gen.facts, Cert.ReferenceIdeal.Gen.facts, Cert.Precondition.facts,
    fun m g _ => Cert.Kernel.Gen.frame m g,
    fun m g _ => Cert.KernelIdeal.Gen.frame m g,
    fun m g _ => Cert.KernelIdeal.Gen.frame m g,
    frame_reference,
    fun m g _ => frame_reference m g trivial,
    trivial,
    algebraic⟩

end Cert.Proof

end
